-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_ReferenceLastIdeal (m : (ℓ : Loc Cert.ReferenceLastIdeal.nD Cert.ReferenceLastIdeal.τ Cert.ReferenceLastIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelLower (m : (ℓ : Loc Cert.KernelLower.nD Cert.KernelLower.τ Cert.KernelLower.sig) → Buf (Elt Bits) ℓ) : Prop :=
  True

def Pre_KernelLowerIdeal (m : (ℓ : Loc Cert.KernelLowerIdeal.nD Cert.KernelLowerIdeal.τ Cert.KernelLowerIdeal.sig) → Buf (Elt Ideal) ℓ) : Prop :=
  True

def Pre_ReferenceLowerIdeal (m : (ℓ : Loc Cert.ReferenceLowerIdeal.nD Cert.ReferenceLowerIdeal.τ Cert.ReferenceLowerIdeal.sig) → Buf (Elt Ideal) ℓ) : Prop :=
  True

def Pre_KernelCum (m : (ℓ : Loc Cert.KernelCum.nD Cert.KernelCum.τ Cert.KernelCum.sig) → Buf (Elt Bits) ℓ) : Prop :=
  True

def Pre_KernelCumIdeal (m : (ℓ : Loc Cert.KernelCumIdeal.nD Cert.KernelCumIdeal.τ Cert.KernelCumIdeal.sig) → Buf (Elt Ideal) ℓ) : Prop :=
  True

def Pre_ReferenceCumIdeal (m : (ℓ : Loc Cert.ReferenceCumIdeal.nD Cert.ReferenceCumIdeal.τ Cert.ReferenceCumIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_KernelLower [hKernelLower : Cert.KernelLower.Facts] : Prop :=
  ∀ (m : (ℓ : Loc Cert.KernelLower.nD Cert.KernelLower.τ Cert.KernelLower.sig) → Buf (Elt Bits) ℓ) (g : Dev Cert.KernelLower.nD → PrngReg), Pre_KernelLower m →
    θ_run (Cert.KernelLower.defs (F := Bits)) (onTc (τ := Cert.KernelLower.τ) (Cert.KernelLower.main (F := Bits))) ⟨m, fun _ => 0, g⟩ (fun r => (∀ c : Dev Cert.KernelLower.nD,
      r.2.mem ((c.tc : Thread Cert.KernelLower.nD Cert.KernelLower.τ).loc Cert.KernelLower.main_arg0) = m ((c.tc : Thread Cert.KernelLower.nD Cert.KernelLower.τ).loc Cert.KernelLower.main_arg0))
      ∧ r.2.sem = fun _ => 0)

def quiescent_KernelLowerIdeal [hKernelLowerIdeal : Cert.KernelLowerIdeal.Facts] : Prop :=
  ∀ (m : (ℓ : Loc Cert.KernelLowerIdeal.nD Cert.KernelLowerIdeal.τ Cert.KernelLowerIdeal.sig) → Buf (Elt Ideal) ℓ) (g : Dev Cert.KernelLowerIdeal.nD → PrngReg), Pre_KernelLowerIdeal m →
    θ_run (Cert.KernelLowerIdeal.defs (F := Ideal)) (onTc (τ := Cert.KernelLowerIdeal.τ) (Cert.KernelLowerIdeal.main (F := Ideal))) ⟨m, fun _ => 0, g⟩ (fun r => (∀ c : Dev Cert.KernelLowerIdeal.nD,
      r.2.mem ((c.tc : Thread Cert.KernelLowerIdeal.nD Cert.KernelLowerIdeal.τ).loc Cert.KernelLowerIdeal.main_arg0) = m ((c.tc : Thread Cert.KernelLowerIdeal.nD Cert.KernelLowerIdeal.τ).loc Cert.KernelLowerIdeal.main_arg0))
      ∧ r.2.sem = fun _ => 0)

def quiescent_ReferenceLowerIdeal [hReferenceLowerIdeal : Cert.ReferenceLowerIdeal.Facts] : Prop :=
  ∀ (m : (ℓ : Loc Cert.ReferenceLowerIdeal.nD Cert.ReferenceLowerIdeal.τ Cert.ReferenceLowerIdeal.sig) → Buf (Elt Ideal) ℓ) (g : Dev Cert.ReferenceLowerIdeal.nD → PrngReg), Pre_ReferenceLowerIdeal m →
    θ_run (Cert.ReferenceLowerIdeal.defs (F := Ideal)) (onTc (τ := Cert.ReferenceLowerIdeal.τ) (Cert.ReferenceLowerIdeal.main (F := Ideal))) ⟨m, fun _ => 0, g⟩ (fun r => (∀ c : Dev Cert.ReferenceLowerIdeal.nD,
      r.2.mem ((c.tc : Thread Cert.ReferenceLowerIdeal.nD Cert.ReferenceLowerIdeal.τ).loc Cert.ReferenceLowerIdeal.main_arg0) = m ((c.tc : Thread Cert.ReferenceLowerIdeal.nD Cert.ReferenceLowerIdeal.τ).loc Cert.ReferenceLowerIdeal.main_arg0))
      ∧ r.2.sem = fun _ => 0)

def quiescent_KernelCum [hKernelCum : Cert.KernelCum.Facts] : Prop :=
  ∀ (m : (ℓ : Loc Cert.KernelCum.nD Cert.KernelCum.τ Cert.KernelCum.sig) → Buf (Elt Bits) ℓ) (g : Dev Cert.KernelCum.nD → PrngReg), Pre_KernelCum m →
    θ_run (Cert.KernelCum.defs (F := Bits)) (onTc (τ := Cert.KernelCum.τ) (Cert.KernelCum.main (F := Bits))) ⟨m, fun _ => 0, g⟩ (fun r => (∀ c : Dev Cert.KernelCum.nD,
      r.2.mem ((c.tc : Thread Cert.KernelCum.nD Cert.KernelCum.τ).loc Cert.KernelCum.main_arg0) = m ((c.tc : Thread Cert.KernelCum.nD Cert.KernelCum.τ).loc Cert.KernelCum.main_arg0)
      ∧ r.2.mem ((c.tc : Thread Cert.KernelCum.nD Cert.KernelCum.τ).loc Cert.KernelCum.main_arg1) = m ((c.tc : Thread Cert.KernelCum.nD Cert.KernelCum.τ).loc Cert.KernelCum.main_arg1))
      ∧ r.2.sem = fun _ => 0)

def quiescent_KernelCumIdeal [hKernelCumIdeal : Cert.KernelCumIdeal.Facts] : Prop :=
  ∀ (m : (ℓ : Loc Cert.KernelCumIdeal.nD Cert.KernelCumIdeal.τ Cert.KernelCumIdeal.sig) → Buf (Elt Ideal) ℓ) (g : Dev Cert.KernelCumIdeal.nD → PrngReg), Pre_KernelCumIdeal m →
    θ_run (Cert.KernelCumIdeal.defs (F := Ideal)) (onTc (τ := Cert.KernelCumIdeal.τ) (Cert.KernelCumIdeal.main (F := Ideal))) ⟨m, fun _ => 0, g⟩ (fun r => (∀ c : Dev Cert.KernelCumIdeal.nD,
      r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
      ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1))
      ∧ r.2.sem = fun _ => 0)

def quiescent_ReferenceCumIdeal [hReferenceCumIdeal : Cert.ReferenceCumIdeal.Facts] : Prop :=
  ∀ (m : (ℓ : Loc Cert.ReferenceCumIdeal.nD Cert.ReferenceCumIdeal.τ Cert.ReferenceCumIdeal.sig) → Buf (Elt Ideal) ℓ) (g : Dev Cert.ReferenceCumIdeal.nD → PrngReg), Pre_ReferenceCumIdeal m →
    θ_run (Cert.ReferenceCumIdeal.defs (F := Ideal)) (onTc (τ := Cert.ReferenceCumIdeal.τ) (Cert.ReferenceCumIdeal.main (F := Ideal))) ⟨m, fun _ => 0, g⟩ (fun r => (∀ c : Dev Cert.ReferenceCumIdeal.nD,
      r.2.mem ((c.tc : Thread Cert.ReferenceCumIdeal.nD Cert.ReferenceCumIdeal.τ).loc Cert.ReferenceCumIdeal.main_arg0) = m ((c.tc : Thread Cert.ReferenceCumIdeal.nD Cert.ReferenceCumIdeal.τ).loc Cert.ReferenceCumIdeal.main_arg0)
      ∧ r.2.mem ((c.tc : Thread Cert.ReferenceCumIdeal.nD Cert.ReferenceCumIdeal.τ).loc Cert.ReferenceCumIdeal.main_arg1) = m ((c.tc : Thread Cert.ReferenceCumIdeal.nD Cert.ReferenceCumIdeal.τ).loc Cert.ReferenceCumIdeal.main_arg1))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1)
      ∧ r.2.mem ((c.tc : Thread Cert.KernelRope.nD Cert.KernelRope.τ).loc Cert.KernelRope.main_arg2) = m ((c.tc : Thread Cert.KernelRope.nD Cert.KernelRope.τ).loc Cert.KernelRope.main_arg2)
      ∧ r.2.mem ((c.tc : Thread Cert.KernelRope.nD Cert.KernelRope.τ).loc Cert.KernelRope.main_arg3) = m ((c.tc : Thread Cert.KernelRope.nD Cert.KernelRope.τ).loc Cert.KernelRope.main_arg3)
      ∧ r.2.mem ((c.tc : Thread Cert.KernelRope.nD Cert.KernelRope.τ).loc Cert.KernelRope.main_arg4) = m ((c.tc : Thread Cert.KernelRope.nD Cert.KernelRope.τ).loc Cert.KernelRope.main_arg4))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
      ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
      ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3)
      ∧ r.2.mem ((c.tc : Thread Cert.KernelRopeIdeal.nD Cert.KernelRopeIdeal.τ).loc Cert.KernelRopeIdeal.main_arg4) = m ((c.tc : Thread Cert.KernelRopeIdeal.nD Cert.KernelRopeIdeal.τ).loc Cert.KernelRopeIdeal.main_arg4))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1)
      ∧ r.2.mem ((c.tc : Thread Cert.ReferenceRopeIdeal.nD Cert.ReferenceRopeIdeal.τ).loc Cert.ReferenceRopeIdeal.main_arg2) = m ((c.tc : Thread Cert.ReferenceRopeIdeal.nD Cert.ReferenceRopeIdeal.τ).loc Cert.ReferenceRopeIdeal.main_arg2)
      ∧ r.2.mem ((c.tc : Thread Cert.ReferenceRopeIdeal.nD Cert.ReferenceRopeIdeal.τ).loc Cert.ReferenceRopeIdeal.main_arg3) = m ((c.tc : Thread Cert.ReferenceRopeIdeal.nD Cert.ReferenceRopeIdeal.τ).loc Cert.ReferenceRopeIdeal.main_arg3)
      ∧ r.2.mem ((c.tc : Thread Cert.ReferenceRopeIdeal.nD Cert.ReferenceRopeIdeal.τ).loc Cert.ReferenceRopeIdeal.main_arg4) = m ((c.tc : Thread Cert.ReferenceRopeIdeal.nD Cert.ReferenceRopeIdeal.τ).loc Cert.ReferenceRopeIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v97) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelLast_KernelLastIdeal : Prop :=
  True

def algebraic_KernelLastIdeal_ReferenceLastIdeal [hKernelLastIdeal : Cert.KernelLastIdeal.Facts] [hReferenceLastIdeal : Cert.ReferenceLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)) →
    ∃ (v0 : (c : Dev Cert.KernelLastIdeal.nD) → Buf (Elt Ideal) ((c.tc : Thread Cert.KernelLastIdeal.nD Cert.KernelLastIdeal.τ).loc Cert.KernelLastIdeal.main_v1)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v1) = v0 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v12) = v0 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v40) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1))

def preserves_KernelLower_KernelLowerIdeal : Prop :=
  True

def algebraic_KernelLowerIdeal_ReferenceLowerIdeal [hKernelLowerIdeal : Cert.KernelLowerIdeal.Facts] [hReferenceLowerIdeal : Cert.ReferenceLowerIdeal.Facts] : Prop :=
  ∀ (m : (ℓ : Loc Cert.KernelLowerIdeal.nD Cert.KernelLowerIdeal.τ Cert.KernelLowerIdeal.sig) → Buf (Elt Ideal) ℓ) (g : Dev Cert.KernelLowerIdeal.nD → PrngReg)
    (m' : (ℓ : Loc Cert.ReferenceLowerIdeal.nD Cert.ReferenceLowerIdeal.τ Cert.ReferenceLowerIdeal.sig) → Buf (Elt Ideal) ℓ) (g' : Dev Cert.ReferenceLowerIdeal.nD → PrngReg), Pre_KernelLowerIdeal m →
    (∀ c : Dev Cert.KernelLowerIdeal.nD,
      m' ((c.tc : Thread Cert.ReferenceLowerIdeal.nD Cert.ReferenceLowerIdeal.τ).loc Cert.ReferenceLowerIdeal.main_arg0) = m ((c.tc : Thread Cert.KernelLowerIdeal.nD Cert.KernelLowerIdeal.τ).loc Cert.KernelLowerIdeal.main_arg0)) →
    ∃ (v0 : (c : Dev Cert.KernelLowerIdeal.nD) → Buf (Elt Ideal) ((c.tc : Thread Cert.KernelLowerIdeal.nD Cert.KernelLowerIdeal.τ).loc Cert.KernelLowerIdeal.main_v0)),
      θ_run (Cert.KernelLowerIdeal.defs (F := Ideal)) (onTc (τ := Cert.KernelLowerIdeal.τ) (Cert.KernelLowerIdeal.main (F := Ideal))) ⟨m, fun _ => 0, g⟩ (fun r => ∀ c : Dev Cert.KernelLowerIdeal.nD,
          r.2.mem ((c.tc : Thread Cert.KernelLowerIdeal.nD Cert.KernelLowerIdeal.τ).loc Cert.KernelLowerIdeal.main_v0) = v0 c
          ∧ r.2.mem ((c.tc : Thread Cert.KernelLowerIdeal.nD Cert.KernelLowerIdeal.τ).loc Cert.KernelLowerIdeal.main_arg0) = m ((c.tc : Thread Cert.KernelLowerIdeal.nD Cert.KernelLowerIdeal.τ).loc Cert.KernelLowerIdeal.main_arg0))
      ∧ θ_run (Cert.ReferenceLowerIdeal.defs (F := Ideal)) (onTc (τ := Cert.ReferenceLowerIdeal.τ) (Cert.ReferenceLowerIdeal.main (F := Ideal))) ⟨m', fun _ => 0, g'⟩ (fun r => ∀ c : Dev Cert.ReferenceLowerIdeal.nD,
          r.2.mem ((c.tc : Thread Cert.ReferenceLowerIdeal.nD Cert.ReferenceLowerIdeal.τ).loc Cert.ReferenceLowerIdeal.main_v14) = v0 c
          ∧ r.2.mem ((c.tc : Thread Cert.ReferenceLowerIdeal.nD Cert.ReferenceLowerIdeal.τ).loc Cert.ReferenceLowerIdeal.main_arg0) = m' ((c.tc : Thread Cert.ReferenceLowerIdeal.nD Cert.ReferenceLowerIdeal.τ).loc Cert.ReferenceLowerIdeal.main_arg0))

def preserves_KernelCum_KernelCumIdeal : Prop :=
  True

def algebraic_KernelCumIdeal_ReferenceCumIdeal [hKernelCumIdeal : Cert.KernelCumIdeal.Facts] [hReferenceCumIdeal : Cert.ReferenceCumIdeal.Facts] : Prop :=
  ∀ (m : (ℓ : Loc Cert.KernelCumIdeal.nD Cert.KernelCumIdeal.τ Cert.KernelCumIdeal.sig) → Buf (Elt Ideal) ℓ) (g : Dev Cert.KernelCumIdeal.nD → PrngReg)
    (m' : (ℓ : Loc Cert.ReferenceCumIdeal.nD Cert.ReferenceCumIdeal.τ Cert.ReferenceCumIdeal.sig) → Buf (Elt Ideal) ℓ) (g' : Dev Cert.ReferenceCumIdeal.nD → PrngReg), Pre_KernelCumIdeal m →
    (∀ c : Dev Cert.KernelCumIdeal.nD,
      m' ((c.tc : Thread Cert.ReferenceCumIdeal.nD Cert.ReferenceCumIdeal.τ).loc Cert.ReferenceCumIdeal.main_arg0) = m ((c.tc : Thread Cert.KernelCumIdeal.nD Cert.KernelCumIdeal.τ).loc Cert.KernelCumIdeal.main_arg0)
      ∧ m' ((c.tc : Thread Cert.ReferenceCumIdeal.nD Cert.ReferenceCumIdeal.τ).loc Cert.ReferenceCumIdeal.main_arg1) = m ((c.tc : Thread Cert.KernelCumIdeal.nD Cert.KernelCumIdeal.τ).loc Cert.KernelCumIdeal.main_arg1)) →
    ∃ (v0 : (c : Dev Cert.KernelCumIdeal.nD) → Buf (Elt Ideal) ((c.tc : Thread Cert.KernelCumIdeal.nD Cert.KernelCumIdeal.τ).loc Cert.KernelCumIdeal.main_v5_0)) (v1 : (c : Dev Cert.KernelCumIdeal.nD) → Buf (Elt Ideal) ((c.tc : Thread Cert.KernelCumIdeal.nD Cert.KernelCumIdeal.τ).loc Cert.KernelCumIdeal.main_v5_1)),
      θ_run (Cert.KernelCumIdeal.defs (F := Ideal)) (onTc (τ := Cert.KernelCumIdeal.τ) (Cert.KernelCumIdeal.main (F := Ideal))) ⟨m, fun _ => 0, g⟩ (fun r => ∀ c : Dev Cert.KernelCumIdeal.nD,
          r.2.mem ((c.tc : Thread Cert.KernelCumIdeal.nD Cert.KernelCumIdeal.τ).loc Cert.KernelCumIdeal.main_v5_0) = v0 c
          ∧ r.2.mem ((c.tc : Thread Cert.KernelCumIdeal.nD Cert.KernelCumIdeal.τ).loc Cert.KernelCumIdeal.main_v5_1) = v1 c
          ∧ r.2.mem ((c.tc : Thread Cert.KernelCumIdeal.nD Cert.KernelCumIdeal.τ).loc Cert.KernelCumIdeal.main_arg0) = m ((c.tc : Thread Cert.KernelCumIdeal.nD Cert.KernelCumIdeal.τ).loc Cert.KernelCumIdeal.main_arg0)
          ∧ r.2.mem ((c.tc : Thread Cert.KernelCumIdeal.nD Cert.KernelCumIdeal.τ).loc Cert.KernelCumIdeal.main_arg1) = m ((c.tc : Thread Cert.KernelCumIdeal.nD Cert.KernelCumIdeal.τ).loc Cert.KernelCumIdeal.main_arg1))
      ∧ θ_run (Cert.ReferenceCumIdeal.defs (F := Ideal)) (onTc (τ := Cert.ReferenceCumIdeal.τ) (Cert.ReferenceCumIdeal.main (F := Ideal))) ⟨m', fun _ => 0, g'⟩ (fun r => ∀ c : Dev Cert.ReferenceCumIdeal.nD,
          r.2.mem ((c.tc : Thread Cert.ReferenceCumIdeal.nD Cert.ReferenceCumIdeal.τ).loc Cert.ReferenceCumIdeal.main_v8) = v0 c
          ∧ r.2.mem ((c.tc : Thread Cert.ReferenceCumIdeal.nD Cert.ReferenceCumIdeal.τ).loc Cert.ReferenceCumIdeal.main_v11) = v1 c
          ∧ r.2.mem ((c.tc : Thread Cert.ReferenceCumIdeal.nD Cert.ReferenceCumIdeal.τ).loc Cert.ReferenceCumIdeal.main_arg0) = m' ((c.tc : Thread Cert.ReferenceCumIdeal.nD Cert.ReferenceCumIdeal.τ).loc Cert.ReferenceCumIdeal.main_arg0)
          ∧ r.2.mem ((c.tc : Thread Cert.ReferenceCumIdeal.nD Cert.ReferenceCumIdeal.τ).loc Cert.ReferenceCumIdeal.main_arg1) = m' ((c.tc : Thread Cert.ReferenceCumIdeal.nD Cert.ReferenceCumIdeal.τ).loc Cert.ReferenceCumIdeal.main_arg1))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)) →
    ∃ (v0 : (c : Dev Cert.KernelPrepIdeal.nD) → Buf (Elt Ideal) ((c.tc : Thread Cert.KernelPrepIdeal.nD Cert.KernelPrepIdeal.τ).loc Cert.KernelPrepIdeal.main_v0_0)) (v1 : (c : Dev Cert.KernelPrepIdeal.nD) → Buf (Elt Ideal) ((c.tc : Thread Cert.KernelPrepIdeal.nD Cert.KernelPrepIdeal.τ).loc Cert.KernelPrepIdeal.main_v0_1)) (v2 : (c : Dev Cert.KernelPrepIdeal.nD) → Buf (Elt Ideal) ((c.tc : Thread Cert.KernelPrepIdeal.nD Cert.KernelPrepIdeal.τ).loc Cert.KernelPrepIdeal.main_v0_2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v0_0) = v0 c
          ∧ r.2.mem ((c.tc : Thread Cert.KernelPrepIdeal.nD Cert.KernelPrepIdeal.τ).loc Cert.KernelPrepIdeal.main_v0_1) = v1 c
          ∧ r.2.mem ((c.tc : Thread Cert.KernelPrepIdeal.nD Cert.KernelPrepIdeal.τ).loc Cert.KernelPrepIdeal.main_v0_2) = v2 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v6) = v0 c
          ∧ r.2.mem ((c.tc : Thread Cert.ReferencePrepIdeal.nD Cert.ReferencePrepIdeal.τ).loc Cert.ReferencePrepIdeal.main_v8) = v1 c
          ∧ r.2.mem ((c.tc : Thread Cert.ReferencePrepIdeal.nD Cert.ReferencePrepIdeal.τ).loc Cert.ReferencePrepIdeal.main_v9) = v2 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)
      ∧ m' ((c.tc : Thread Cert.ReferenceRopeIdeal.nD Cert.ReferenceRopeIdeal.τ).loc Cert.ReferenceRopeIdeal.main_arg2) = m ((c.tc : Thread Cert.KernelRopeIdeal.nD Cert.KernelRopeIdeal.τ).loc Cert.KernelRopeIdeal.main_arg2)
      ∧ m' ((c.tc : Thread Cert.ReferenceRopeIdeal.nD Cert.ReferenceRopeIdeal.τ).loc Cert.ReferenceRopeIdeal.main_arg3) = m ((c.tc : Thread Cert.KernelRopeIdeal.nD Cert.KernelRopeIdeal.τ).loc Cert.KernelRopeIdeal.main_arg3)
      ∧ m' ((c.tc : Thread Cert.ReferenceRopeIdeal.nD Cert.ReferenceRopeIdeal.τ).loc Cert.ReferenceRopeIdeal.main_arg4) = m ((c.tc : Thread Cert.KernelRopeIdeal.nD Cert.KernelRopeIdeal.τ).loc Cert.KernelRopeIdeal.main_arg4)) →
    ∃ (v0 : (c : Dev Cert.KernelRopeIdeal.nD) → Buf (Elt Ideal) ((c.tc : Thread Cert.KernelRopeIdeal.nD Cert.KernelRopeIdeal.τ).loc Cert.KernelRopeIdeal.main_v0_0)) (v1 : (c : Dev Cert.KernelRopeIdeal.nD) → Buf (Elt Ideal) ((c.tc : Thread Cert.KernelRopeIdeal.nD Cert.KernelRopeIdeal.τ).loc Cert.KernelRopeIdeal.main_v0_1)) (v2 : (c : Dev Cert.KernelRopeIdeal.nD) → Buf (Elt Ideal) ((c.tc : Thread Cert.KernelRopeIdeal.nD Cert.KernelRopeIdeal.τ).loc Cert.KernelRopeIdeal.main_v0_2)) (v3 : (c : Dev Cert.KernelRopeIdeal.nD) → Buf (Elt Ideal) ((c.tc : Thread Cert.KernelRopeIdeal.nD Cert.KernelRopeIdeal.τ).loc Cert.KernelRopeIdeal.main_v0_3)) (v4 : (c : Dev Cert.KernelRopeIdeal.nD) → Buf (Elt Ideal) ((c.tc : Thread Cert.KernelRopeIdeal.nD Cert.KernelRopeIdeal.τ).loc Cert.KernelRopeIdeal.main_v0_4)) (v5 : (c : Dev Cert.KernelRopeIdeal.nD) → Buf (Elt Ideal) ((c.tc : Thread Cert.KernelRopeIdeal.nD Cert.KernelRopeIdeal.τ).loc Cert.KernelRopeIdeal.main_v0_5)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v0_0) = v0 c
          ∧ r.2.mem ((c.tc : Thread Cert.KernelRopeIdeal.nD Cert.KernelRopeIdeal.τ).loc Cert.KernelRopeIdeal.main_v0_1) = v1 c
          ∧ r.2.mem ((c.tc : Thread Cert.KernelRopeIdeal.nD Cert.KernelRopeIdeal.τ).loc Cert.KernelRopeIdeal.main_v0_2) = v2 c
          ∧ r.2.mem ((c.tc : Thread Cert.KernelRopeIdeal.nD Cert.KernelRopeIdeal.τ).loc Cert.KernelRopeIdeal.main_v0_3) = v3 c
          ∧ r.2.mem ((c.tc : Thread Cert.KernelRopeIdeal.nD Cert.KernelRopeIdeal.τ).loc Cert.KernelRopeIdeal.main_v0_4) = v4 c
          ∧ r.2.mem ((c.tc : Thread Cert.KernelRopeIdeal.nD Cert.KernelRopeIdeal.τ).loc Cert.KernelRopeIdeal.main_v0_5) = v5 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
          ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
          ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3)
          ∧ r.2.mem ((c.tc : Thread Cert.KernelRopeIdeal.nD Cert.KernelRopeIdeal.τ).loc Cert.KernelRopeIdeal.main_arg4) = m ((c.tc : Thread Cert.KernelRopeIdeal.nD Cert.KernelRopeIdeal.τ).loc Cert.KernelRopeIdeal.main_arg4))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v62) = v0 c
          ∧ r.2.mem ((c.tc : Thread Cert.ReferenceRopeIdeal.nD Cert.ReferenceRopeIdeal.τ).loc Cert.ReferenceRopeIdeal.main_v64) = v1 c
          ∧ r.2.mem ((c.tc : Thread Cert.ReferenceRopeIdeal.nD Cert.ReferenceRopeIdeal.τ).loc Cert.ReferenceRopeIdeal.main_v66) = v2 c
          ∧ r.2.mem ((c.tc : Thread Cert.ReferenceRopeIdeal.nD Cert.ReferenceRopeIdeal.τ).loc Cert.ReferenceRopeIdeal.main_v69) = v3 c
          ∧ r.2.mem ((c.tc : Thread Cert.ReferenceRopeIdeal.nD Cert.ReferenceRopeIdeal.τ).loc Cert.ReferenceRopeIdeal.main_v71) = v4 c
          ∧ r.2.mem ((c.tc : Thread Cert.ReferenceRopeIdeal.nD Cert.ReferenceRopeIdeal.τ).loc Cert.ReferenceRopeIdeal.main_v74) = v5 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1)
          ∧ r.2.mem ((c.tc : Thread Cert.ReferenceRopeIdeal.nD Cert.ReferenceRopeIdeal.τ).loc Cert.ReferenceRopeIdeal.main_arg2) = m' ((c.tc : Thread Cert.ReferenceRopeIdeal.nD Cert.ReferenceRopeIdeal.τ).loc Cert.ReferenceRopeIdeal.main_arg2)
          ∧ r.2.mem ((c.tc : Thread Cert.ReferenceRopeIdeal.nD Cert.ReferenceRopeIdeal.τ).loc Cert.ReferenceRopeIdeal.main_arg3) = m' ((c.tc : Thread Cert.ReferenceRopeIdeal.nD Cert.ReferenceRopeIdeal.τ).loc Cert.ReferenceRopeIdeal.main_arg3)
          ∧ r.2.mem ((c.tc : Thread Cert.ReferenceRopeIdeal.nD Cert.ReferenceRopeIdeal.τ).loc Cert.ReferenceRopeIdeal.main_arg4) = m' ((c.tc : Thread Cert.ReferenceRopeIdeal.nD Cert.ReferenceRopeIdeal.τ).loc Cert.ReferenceRopeIdeal.main_arg4))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMerge : Cert.KernelMerge.Facts) (hKernelMergeIdeal : Cert.KernelMergeIdeal.Facts) (hReferenceMergeIdeal : Cert.ReferenceMergeIdeal.Facts) (hKernelNorm : Cert.KernelNorm.Facts) (hKernelNormIdeal : Cert.KernelNormIdeal.Facts) (hReferenceNormIdeal : Cert.ReferenceNormIdeal.Facts) (hKernelLast : Cert.KernelLast.Facts) (hKernelLastIdeal : Cert.KernelLastIdeal.Facts) (hReferenceLastIdeal : Cert.ReferenceLastIdeal.Facts) (hKernelConv : Cert.KernelConv.Facts) (hKernelConvIdeal : Cert.KernelConvIdeal.Facts) (hReferenceConvIdeal : Cert.ReferenceConvIdeal.Facts) (hKernelLower : Cert.KernelLower.Facts) (hKernelLowerIdeal : Cert.KernelLowerIdeal.Facts) (hReferenceLowerIdeal : Cert.ReferenceLowerIdeal.Facts) (hKernelCum : Cert.KernelCum.Facts) (hKernelCumIdeal : Cert.KernelCumIdeal.Facts) (hReferenceCumIdeal : Cert.ReferenceCumIdeal.Facts) (hKernelPrep : Cert.KernelPrep.Facts) (hKernelPrepIdeal : Cert.KernelPrepIdeal.Facts) (hReferencePrepIdeal : Cert.ReferencePrepIdeal.Facts) (hKernelRope : Cert.KernelRope.Facts) (hKernelRopeIdeal : Cert.KernelRopeIdeal.Facts) (hReferenceRopeIdeal : Cert.ReferenceRopeIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelLast (hKernelLast := hKernelLast)
    ∧ quiescent_KernelLastIdeal (hKernelLastIdeal := hKernelLastIdeal)
    ∧ quiescent_ReferenceLastIdeal (hReferenceLastIdeal := hReferenceLastIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelLower (hKernelLower := hKernelLower)
    ∧ quiescent_KernelLowerIdeal (hKernelLowerIdeal := hKernelLowerIdeal)
    ∧ quiescent_ReferenceLowerIdeal (hReferenceLowerIdeal := hReferenceLowerIdeal)
    ∧ quiescent_KernelCum (hKernelCum := hKernelCum)
    ∧ quiescent_KernelCumIdeal (hKernelCumIdeal := hKernelCumIdeal)
    ∧ quiescent_ReferenceCumIdeal (hReferenceCumIdeal := hReferenceCumIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelNorm_KernelNormIdeal
    ∧ algebraic_KernelNormIdeal_ReferenceNormIdeal (hKernelNormIdeal := hKernelNormIdeal) (hReferenceNormIdeal := hReferenceNormIdeal)
    ∧ preserves_KernelLast_KernelLastIdeal
    ∧ algebraic_KernelLastIdeal_ReferenceLastIdeal (hKernelLastIdeal := hKernelLastIdeal) (hReferenceLastIdeal := hReferenceLastIdeal)
    ∧ preserves_KernelConv_KernelConvIdeal
    ∧ algebraic_KernelConvIdeal_ReferenceConvIdeal (hKernelConvIdeal := hKernelConvIdeal) (hReferenceConvIdeal := hReferenceConvIdeal)
    ∧ preserves_KernelLower_KernelLowerIdeal
    ∧ algebraic_KernelLowerIdeal_ReferenceLowerIdeal (hKernelLowerIdeal := hKernelLowerIdeal) (hReferenceLowerIdeal := hReferenceLowerIdeal)
    ∧ preserves_KernelCum_KernelCumIdeal
    ∧ algebraic_KernelCumIdeal_ReferenceCumIdeal (hKernelCumIdeal := hKernelCumIdeal) (hReferenceCumIdeal := hReferenceCumIdeal)
    ∧ preserves_KernelPrep_KernelPrepIdeal
    ∧ algebraic_KernelPrepIdeal_ReferencePrepIdeal (hKernelPrepIdeal := hKernelPrepIdeal) (hReferencePrepIdeal := hReferencePrepIdeal)
    ∧ preserves_KernelRope_KernelRopeIdeal
    ∧ algebraic_KernelRopeIdeal_ReferenceRopeIdeal (hKernelRopeIdeal := hKernelRopeIdeal) (hReferenceRopeIdeal := hReferenceRopeIdeal)
-- ==== Pre_finite_logits.lean ====
abbrev S16384x1024 : Shape := ⟨2, ![16384, 1024]⟩
abbrev S32x8x144x512 : Shape := ⟨4, ![32, 8, 144, 512]⟩
abbrev S16384x15872 : Shape := ⟨2, ![16384, 15872]⟩
abbrev S16384x128 : Shape := ⟨2, ![16384, 128]⟩
abbrev S16x8x1024 : Shape := ⟨3, ![16, 8, 1024]⟩
abbrev S_ : Shape := ⟨0, ![]⟩
abbrev S16384x8 : Shape := ⟨2, ![16384, 8]⟩
abbrev S32x8x1x512 : Shape := ⟨4, ![32, 8, 1, 512]⟩
abbrev S32x8x512 : Shape := ⟨3, ![32, 8, 512]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  slices_S16384x128_S16384x8_0_0 : S16384x128.Slices ![0, 0] S16384x8
  bcast_S_S16384x8 : S_.BroadcastsInDim S16384x8 (![] : Fin 0 → Fin S16384x8.rank)
  reducesTo_S16384x8_S_d0_1 : S16384x8.ReducesTo [0, 1] S_
  bcast_S_S16x8x1024 : S_.BroadcastsInDim S16x8x1024 (![] : Fin 0 → Fin S16x8x1024.rank)
  reducesTo_S16x8x1024_S_d0_1_2 : S16x8x1024.ReducesTo [0, 1, 2] S_
  slices_S32x8x144x512_S32x8x1x512_0_0_128_0 : S32x8x144x512.Slices ![0, 0, 128, 0] S32x8x1x512
  shapeCasts_S32x8x1x512_S32x8x512 : S32x8x1x512.ShapeCasts S32x8x512
  bcast_S_S32x8x512 : S_.BroadcastsInDim S32x8x512 (![] : Fin 0 → Fin S32x8x512.rank)
  reducesTo_S32x8x512_S_d0_1_2 : S32x8x512.ReducesTo [0, 1, 2] S_

variable [Facts]

def fn_part1 {F : FTy → Type} [FloatOps F] (main_arg2 : FVec F S32x8x144x512 .bf16) (main_v16 : IVec S_ 1) (main_v17 : FVec F S16x8x1024 .f32) : IVec S_ 1 :=
  let main_cst_4 : FVec F S_ .f32 := constant S_ .f32 0x7F800000#32
  let main_v18 : FVec F S16x8x1024 .f32 := broadcastInDim S16x8x1024 ![] bcast_S_S16x8x1024 main_cst_4
  let main_v19 : IVec S16x8x1024 1 := cmpf .olt main_v17 main_v18
  let main_c_5 : IVec S_ 1 := constantI S_ 1 1#1
  let main_v20 : IVec S_ 1 := (fun x v => Host.reduce IntOp.andi x v reducesTo_S16x8x1024_S_d0_1_2 h_S_) main_v19 main_c_5
  let main_v21 : IVec S_ 1 := andi main_v16 main_v20
  let main_v22 : FVec F S32x8x144x512 .f32 := (extf .f32 · bitsLt_bf16_f32) main_arg2
  let main_v23 : FVec F S32x8x1x512 .f32 := (extractStridedSlice S32x8x1x512 ![0, 0, 128, 0] · slices_S32x8x144x512_S32x8x1x512_0_0_128_0) main_v22
  let main_v24 : FVec F S32x8x512 .f32 := shapeCast S32x8x512 main_v23 shapeCasts_S32x8x1x512_S32x8x512
  let main_cst_6 : FVec F S_ .f32 := constant S_ .f32 0x3F800000#32
  let main_v25 : FVec F S32x8x512 .f32 := broadcastInDim S32x8x512 ![] bcast_S_S32x8x512 main_cst_6
  let main_v26 : IVec S32x8x512 1 := cmpf .oeq main_v24 main_v25
  let main_c_7 : IVec S_ 1 := constantI S_ 1 1#1
  let main_v27 : IVec S_ 1 := (fun x v => Host.reduce IntOp.andi x v reducesTo_S32x8x512_S_d0_1_2 h_S_) main_v26 main_c_7
  let main_v28 : IVec S_ 1 := andi main_v21 main_v27
  main_v28

def fn {F : FTy → Type} [FloatOps F] (main_arg0 : FVec F S16384x1024 .bf16) (main_arg1 : FVec F S16384x1024 .bf16) (main_arg2 : FVec F S32x8x144x512 .bf16) (main_arg3 : FVec F S16384x15872 .f32) (main_arg4 : FVec F S16384x128 .f32) (main_arg5 : FVec F S16x8x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x8 .f32 := (extractStridedSlice S16384x8 ![0, 0] · slices_S16384x128_S16384x8_0_0) main_arg4
  let main_v12 : FVec F S16384x8 .f32 := Host.absf main_v11
  let main_cst_2 : FVec F S_ .f32 := constant S_ .f32 0x7F800000#32
  let main_v13 : FVec F S16384x8 .f32 := broadcastInDim S16384x8 ![] bcast_S_S16384x8 main_cst_2
  let main_v14 : IVec S16384x8 1 := cmpf .olt main_v12 main_v13
  let main_c_3 : IVec S_ 1 := constantI S_ 1 1#1
  let main_v15 : IVec S_ 1 := (fun x v => Host.reduce IntOp.andi x v reducesTo_S16384x8_S_d0_1 h_S_) main_v14 main_c_3
  let main_v16 : IVec S_ 1 := andi main_v10 main_v15
  let main_v17 : FVec F S16x8x1024 .f32 := Host.absf main_arg5
  fn_part1 (F := F) main_arg2 main_v16 main_v17
-- ==== Kernel.lean ====
abbrev S16384x1024 : Shape := ⟨2, ![16384, 1024]⟩
abbrev S32x8x144x512 : Shape := ⟨4, ![32, 8, 144, 512]⟩
abbrev S16384x15872 : Shape := ⟨2, ![16384, 15872]⟩
abbrev S16384x128 : Shape := ⟨2, ![16384, 128]⟩
abbrev S16x8x1024 : Shape := ⟨3, ![16, 8, 1024]⟩
abbrev S1024x512 : Shape := ⟨2, ![1024, 512]⟩
abbrev S8192x512 : Shape := ⟨2, ![8192, 512]⟩
abbrev S16x4x144x512 : Shape := ⟨4, ![16, 4, 144, 512]⟩
abbrev S8192x128 : Shape := ⟨2, ![8192, 128]⟩
abbrev S1x8x1024 : Shape := ⟨3, ![1, 8, 1024]⟩
abbrev S4x1x1024 : Shape := ⟨3, ![4, 1, 1024]⟩
abbrev S4x144x1024 : Shape := ⟨3, ![4, 144, 1024]⟩
abbrev S512x128 : Shape := ⟨2, ![512, 128]⟩
abbrev S8x1024 : Shape := ⟨2, ![8, 1024]⟩
abbrev S1024 : Shape := ⟨1, ![1024]⟩
abbrev S1x1024 : Shape := ⟨2, ![1, 1024]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1x128 : Shape := ⟨2, ![1, 128]⟩
abbrev S128 : Shape := ⟨1, ![128]⟩
abbrev S1x144x1024 : Shape := ⟨3, ![1, 144, 1024]⟩
abbrev S144x1024 : Shape := ⟨2, ![144, 1024]⟩
abbrev S1x1x144x512 : Shape := ⟨4, ![1, 1, 144, 512]⟩
abbrev S144x512 : Shape := ⟨2, ![144, 512]⟩
abbrev S1x128x1024 : Shape := ⟨3, ![1, 128, 1024]⟩
abbrev S128x1024 : Shape := ⟨2, ![128, 1024]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S32x8x144x512, .bf16⟩
  | .hbm, ⟨3, _⟩ => ⟨S16384x15872, .f32⟩
  | .hbm, ⟨4, _⟩ => ⟨S16384x128, .f32⟩
  | .hbm, ⟨5, _⟩ => ⟨S16x8x1024, .f32⟩
  | .hbm, ⟨6, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S8192x512, .bf16⟩
  | .local _ .vmem, ⟨3, _⟩ => ⟨S16x4x144x512, .bf16⟩
  | .local _ .vmem, ⟨4, _⟩ => ⟨S8192x128, .f32⟩
  | .local _ .vmem, ⟨5, _⟩ => ⟨S1x8x1024, .f32⟩
  | .local _ .vmem, ⟨6, _⟩ => ⟨S1x8x1024, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S4x1x1024, .f32⟩
  | .local _ .vmem, ⟨12, _⟩ => ⟨S4x144x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_40 : BitVec 32 := 1#32
  ⟨c0_i32_38, v93, c1_i32_40⟩
def k0_mult1 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c512_i32_80 : BitVec 32 := 512#32
  let v151 : BitVec 32 := Scalar.muli arg12 c512_i32_80
  v151
def k0_off1 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_80 : BitVec 32 := 512#32
  let v151 : BitVec 32 := Scalar.muli arg12 c512_i32_80
  let v152 : BitVec 32 := v151
  let v153 : Index := Scalar.indexCast v152
  let c0_81 : Index := 0#32
  ![v153.toNat, 0]
def k0_off2 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_80 : BitVec 32 := 512#32
  let v151 : BitVec 32 := Scalar.muli arg12 c512_i32_80
  let v152 : BitVec 32 := v151
  let v160 : Index := Scalar.indexCast v152
  let c0_86 : Index := 0#32
  ![v160.toNat, 0]
def k0_off3 (i : grid0.Coords) (k0_t1 : Fin (k0_t1_loop i).trips) : Fin 4 → Nat :=
  let c0_i32_38 : BitVec 32 := 0#32
  let c1_i32_40 : BitVec 32 := 1#32
  let arg12 : BitVec 32 := Scf.iv c0_i32_38 c1_i32_40 k0_t1
  let v339 : Index := Scalar.indexCast arg12
  let c0_115 : Index := 0#32
  let c0_116 : Index := 0#32
  let c0_117 : Index := 0#32
  ![v339.toNat, 0, 0, 0]
def k0_off4 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_80 : BitVec 32 := 512#32
  let v151 : BitVec 32 := Scalar.muli arg12 c512_i32_80
  let v152 : BitVec 32 := v151
  let v348 : Index := Scalar.indexCast v152
  let c128_122 : Index := 128#32
  ![v348.toNat, 128]
def k0_off5 (i : grid0.Coords) (k0_t1 : Fin (k0_t1_loop i).trips) : Fin 4 → Nat :=
  let c0_i32_38 : BitVec 32 := 0#32
  let c1_i32_40 : BitVec 32 := 1#32
  let arg12 : BitVec 32 := Scf.iv c0_i32_38 c1_i32_40 k0_t1
  let v534 : Index := Scalar.indexCast arg12
  let c1_156 : Index := 1#32
  let c0_157 : Index := 0#32
  let c0_158 : Index := 0#32
  ![v534.toNat, 1, 0, 0]
def k0_off6 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_80 : BitVec 32 := 512#32
  let v151 : BitVec 32 := Scalar.muli arg12 c512_i32_80
  let v152 : BitVec 32 := v151
  let v543 : Index := Scalar.indexCast v152
  let c256_163 : Index := 256#32
  ![v543.toNat, 256]
def k0_off7 (i : grid0.Coords) (k0_t1 : Fin (k0_t1_loop i).trips) : Fin 4 → Nat :=
  let c0_i32_38 : BitVec 32 := 0#32
  let c1_i32_40 : BitVec 32 := 1#32
  let arg12 : BitVec 32 := Scf.iv c0_i32_38 c1_i32_40 k0_t1
  let v729 : Index := Scalar.indexCast arg12
  let c2_197 : Index := 2#32
  let c0_198 : Index := 0#32
  let c0_199 : Index := 0#32
  ![v729.toNat, 2, 0, 0]
def k0_off8 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_80 : BitVec 32 := 512#32
  let v151 : BitVec 32 := Scalar.muli arg12 c512_i32_80
  let v152 : BitVec 32 := v151
  let v738 : Index := Scalar.indexCast v152
  let c384_204 : Index := 384#32
  ![v738.toNat, 384]
def k0_off9 (i : grid0.Coords) (k0_t1 : Fin (k0_t1_loop i).trips) : Fin 4 → Nat :=
  let c0_i32_38 : BitVec 32 := 0#32
  let c1_i32_40 : BitVec 32 := 1#32
  let arg12 : BitVec 32 := Scf.iv c0_i32_38 c1_i32_40 k0_t1
  let v924 : Index := Scalar.indexCast arg12
  let c3_238 : Index := 3#32
  let c0_239 : Index := 0#32
  let c0_240 : Index := 0#32
  ![v924.toNat, 3, 0, 0]
@[reducible] def k0_t2_loop (i : grid0.Coords) : Scf.Loop 32 :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let v90 : BitVec 32 := Scalar.addi c0_i32_38 v89
  let c1_i32_41 : BitVec 32 := 1#32
  ⟨v93, v90, c1_i32_41⟩
def k0_mult2 (i : grid0.Coords) (k0_t2 : Fin (k0_t2_loop i).trips) : BitVec 32 :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_80 : BitVec 32 := 512#32
  let v151 : BitVec 32 := Scalar.muli arg12 c512_i32_80
  v151
def k0_off10 (i : grid0.Coords) (k0_t2 : Fin (k0_t2_loop i).trips) : Fin 2 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_80 : BitVec 32 := 512#32
  let v151 : BitVec 32 := Scalar.muli arg12 c512_i32_80
  let v152 : BitVec 32 := v151
  let v153 : Index := Scalar.indexCast v152
  let c0_81 : Index := 0#32
  ![v153.toNat, 0]
def k0_off11 (i : grid0.Coords) (k0_t2 : Fin (k0_t2_loop i).trips) : Fin 2 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_80 : BitVec 32 := 512#32
  let v151 : BitVec 32 := Scalar.muli arg12 c512_i32_80
  let v152 : BitVec 32 := v151
  let v160 : Index := Scalar.indexCast v152
  let c0_86 : Index := 0#32
  ![v160.toNat, 0]
def k0_off12 (i : grid0.Coords) (k0_t2 : Fin (k0_t2_loop i).trips) : Fin 4 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let v339 : Index := Scalar.indexCast arg12
  let c0_115 : Index := 0#32
  let c0_116 : Index := 0#32
  let c0_117 : Index := 0#32
  ![v339.toNat, 0, 0, 0]
def k0_off13 (i : grid0.Coords) (k0_t2 : Fin (k0_t2_loop i).trips) : Fin 2 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_80 : BitVec 32 := 512#32
  let v151 : BitVec 32 := Scalar.muli arg12 c512_i32_80
  let v152 : BitVec 32 := v151
  let v348 : Index := Scalar.indexCast v152
  let c128_122 : Index := 128#32
  ![v348.toNat, 128]
def k0_off14 (i : grid0.Coords) (k0_t2 : Fin (k0_t2_loop i).trips) : Fin 4 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let v534 : Index := Scalar.indexCast arg12
  let c1_156 : Index := 1#32
  let c0_157 : Index := 0#32
  let c0_158 : Index := 0#32
  ![v534.toNat, 1, 0, 0]
def k0_off15 (i : grid0.Coords) (k0_t2 : Fin (k0_t2_loop i).trips) : Fin 2 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_80 : BitVec 32 := 512#32
  let v151 : BitVec 32 := Scalar.muli arg12 c512_i32_80
  let v152 : BitVec 32 := v151
  let v543 : Index := Scalar.indexCast v152
  let c256_163 : Index := 256#32
  ![v543.toNat, 256]
def k0_off16 (i : grid0.Coords) (k0_t2 : Fin (k0_t2_loop i).trips) : Fin 4 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let v729 : Index := Scalar.indexCast arg12
  let c2_197 : Index := 2#32
  let c0_198 : Index := 0#32
  let c0_199 : Index := 0#32
  ![v729.toNat, 2, 0, 0]
def k0_off17 (i : grid0.Coords) (k0_t2 : Fin (k0_t2_loop i).trips) : Fin 2 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let c512_i32_80 : BitVec 32 := 512#32
  let v151 : BitVec 32 := Scalar.muli arg12 c512_i32_80
  let v152 : BitVec 32 := v151
  let v738 : Index := Scalar.indexCast v152
  let c384_204 : Index := 384#32
  ![v738.toNat, 384]
def k0_off18 (i : grid0.Coords) (k0_t2 : Fin (k0_t2_loop i).trips) : Fin 4 → Nat :=
  let c0_i32_38 : BitVec 32 := 0#32
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let v89 : BitVec 32 := Scalar.subi v68 c0_i32_38
  let c1_i32_39 : BitVec 32 := 1#32
  let v91 : BitVec 32 := Scalar.divsi v89 c1_i32_39
  let v92 : BitVec 32 := Scalar.muli v91 c1_i32_39
  let v93 : BitVec 32 := Scalar.addi c0_i32_38 v92
  let c1_i32_41 : BitVec 32 := 1#32
  let arg12 : BitVec 32 := Scf.iv v93 c1_i32_41 k0_t2
  let v924 : Index := Scalar.indexCast arg12
  let c3_238 : Index := 3#32
  let c0_239 : Index := 0#32
  let c0_240 : Index := 0#32
  ![v924.toNat, 3, 0, 0]
@[reducible] def k0_t3_loop (i : grid0.Coords) : Scf.Loop 32 :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_44 : BitVec 32 := 1#32
  ⟨v68, v98, c1_i32_44⟩
def k0_mult3 (i : grid0.Coords) (k0_t3 : Fin (k0_t3_loop i).trips) : BitVec 32 :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let c512_i32_80 : BitVec 32 := 512#32
  let v151 : BitVec 32 := Scalar.muli arg12 c512_i32_80
  v151
def k0_off19 (i : grid0.Coords) (k0_t3 : Fin (k0_t3_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let c512_i32_80 : BitVec 32 := 512#32
  let v151 : BitVec 32 := Scalar.muli arg12 c512_i32_80
  let v152 : BitVec 32 := v151
  let v153 : Index := Scalar.indexCast v152
  let c0_81 : Index := 0#32
  ![v153.toNat, 0]
def k0_off20 (i : grid0.Coords) (k0_t3 : Fin (k0_t3_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let c512_i32_80 : BitVec 32 := 512#32
  let v151 : BitVec 32 := Scalar.muli arg12 c512_i32_80
  let v152 : BitVec 32 := v151
  let v160 : Index := Scalar.indexCast v152
  let c0_86 : Index := 0#32
  ![v160.toNat, 0]
def k0_off21 (i : grid0.Coords) (k0_t3 : Fin (k0_t3_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let v403 : Index := Scalar.indexCast arg12
  let c0_125 : Index := 0#32
  let c0_126 : Index := 0#32
  let c0_127 : Index := 0#32
  ![v403.toNat, 0, 0, 0]
def k0_off22 (i : grid0.Coords) (k0_t3 : Fin (k0_t3_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let c512_i32_80 : BitVec 32 := 512#32
  let v151 : BitVec 32 := Scalar.muli arg12 c512_i32_80
  let v152 : BitVec 32 := v151
  let v412 : Index := Scalar.indexCast v152
  let c128_132 : Index := 128#32
  ![v412.toNat, 128]
def k0_off23 (i : grid0.Coords) (k0_t3 : Fin (k0_t3_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let v662 : Index := Scalar.indexCast arg12
  let c1_182 : Index := 1#32
  let c0_183 : Index := 0#32
  let c0_184 : Index := 0#32
  ![v662.toNat, 1, 0, 0]
def k0_off24 (i : grid0.Coords) (k0_t3 : Fin (k0_t3_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let c512_i32_80 : BitVec 32 := 512#32
  let v151 : BitVec 32 := Scalar.muli arg12 c512_i32_80
  let v152 : BitVec 32 := v151
  let v671 : Index := Scalar.indexCast v152
  let c256_189 : Index := 256#32
  ![v671.toNat, 256]
def k0_off25 (i : grid0.Coords) (k0_t3 : Fin (k0_t3_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let v921 : Index := Scalar.indexCast arg12
  let c2_239 : Index := 2#32
  let c0_240 : Index := 0#32
  let c0_241 : Index := 0#32
  ![v921.toNat, 2, 0, 0]
def k0_off26 (i : grid0.Coords) (k0_t3 : Fin (k0_t3_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let c512_i32_80 : BitVec 32 := 512#32
  let v151 : BitVec 32 := Scalar.muli arg12 c512_i32_80
  let v152 : BitVec 32 := v151
  let v930 : Index := Scalar.indexCast v152
  let c384_246 : Index := 384#32
  ![v930.toNat, 384]
def k0_off27 (i : grid0.Coords) (k0_t3 : Fin (k0_t3_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1_i32_44 : BitVec 32 := 1#32
  let arg12 : BitVec 32 := Scf.iv v68 c1_i32_44 k0_t3
  let v1180 : Index := Scalar.indexCast arg12
  let c3_296 : Index := 3#32
  let c0_297 : Index := 0#32
  let c0_298 : Index := 0#32
  ![v1180.toNat, 3, 0, 0]
@[reducible] def k0_t4_loop (i : grid0.Coords) : Scf.Loop 32 :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let v95 : BitVec 32 := Scalar.addi v68 v94
  let c1_i32_45 : BitVec 32 := 1#32
  ⟨v98, v95, c1_i32_45⟩
def k0_mult4 (i : grid0.Coords) (k0_t4 : Fin (k0_t4_loop i).trips) : BitVec 32 :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let c512_i32_80 : BitVec 32 := 512#32
  let v151 : BitVec 32 := Scalar.muli arg12 c512_i32_80
  v151
def k0_off28 (i : grid0.Coords) (k0_t4 : Fin (k0_t4_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let c512_i32_80 : BitVec 32 := 512#32
  let v151 : BitVec 32 := Scalar.muli arg12 c512_i32_80
  let v152 : BitVec 32 := v151
  let v153 : Index := Scalar.indexCast v152
  let c0_81 : Index := 0#32
  ![v153.toNat, 0]
def k0_off29 (i : grid0.Coords) (k0_t4 : Fin (k0_t4_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let c512_i32_80 : BitVec 32 := 512#32
  let v151 : BitVec 32 := Scalar.muli arg12 c512_i32_80
  let v152 : BitVec 32 := v151
  let v160 : Index := Scalar.indexCast v152
  let c0_86 : Index := 0#32
  ![v160.toNat, 0]
def k0_off30 (i : grid0.Coords) (k0_t4 : Fin (k0_t4_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let v403 : Index := Scalar.indexCast arg12
  let c0_125 : Index := 0#32
  let c0_126 : Index := 0#32
  let c0_127 : Index := 0#32
  ![v403.toNat, 0, 0, 0]
def k0_off31 (i : grid0.Coords) (k0_t4 : Fin (k0_t4_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let c512_i32_80 : BitVec 32 := 512#32
  let v151 : BitVec 32 := Scalar.muli arg12 c512_i32_80
  let v152 : BitVec 32 := v151
  let v412 : Index := Scalar.indexCast v152
  let c128_132 : Index := 128#32
  ![v412.toNat, 128]
def k0_off32 (i : grid0.Coords) (k0_t4 : Fin (k0_t4_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let v662 : Index := Scalar.indexCast arg12
  let c1_182 : Index := 1#32
  let c0_183 : Index := 0#32
  let c0_184 : Index := 0#32
  ![v662.toNat, 1, 0, 0]
def k0_off33 (i : grid0.Coords) (k0_t4 : Fin (k0_t4_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let c512_i32_80 : BitVec 32 := 512#32
  let v151 : BitVec 32 := Scalar.muli arg12 c512_i32_80
  let v152 : BitVec 32 := v151
  let v671 : Index := Scalar.indexCast v152
  let c256_189 : Index := 256#32
  ![v671.toNat, 256]
def k0_off34 (i : grid0.Coords) (k0_t4 : Fin (k0_t4_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let v921 : Index := Scalar.indexCast arg12
  let c2_239 : Index := 2#32
  let c0_240 : Index := 0#32
  let c0_241 : Index := 0#32
  ![v921.toNat, 2, 0, 0]
def k0_off35 (i : grid0.Coords) (k0_t4 : Fin (k0_t4_loop i).trips) : Fin 2 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let c512_i32_80 : BitVec 32 := 512#32
  let v151 : BitVec 32 := Scalar.muli arg12 c512_i32_80
  let v152 : BitVec 32 := v151
  let v930 : Index := Scalar.indexCast v152
  let c384_246 : Index := 384#32
  ![v930.toNat, 384]
def k0_off36 (i : grid0.Coords) (k0_t4 : Fin (k0_t4_loop i).trips) : Fin 4 → Nat :=
  let arg2 : BitVec 32 := BitVec.ofNat 32 (i 2).val
  let c1024_i32 : BitVec 32 := 1024#32
  let v1 : BitVec 32 := Scalar.muli arg2 c1024_i32
  let c0_i32_21 : BitVec 32 := 0#32
  let v53 : BitVec 1 := Scalar.cmpi .sgt v1 c0_i32_21
  let v54 : BitVec 32 := Scalar.extui v53
  let c0_i32_22 : BitVec 32 := 0#32
  let v55 : BitVec 1 := Scalar.cmpi .slt v1 c0_i32_22
  let v56 : BitVec 32 := Scalar.extui v55
  let v57 : BitVec 32 := Scalar.subi v54 v56
  let c512_i32 : BitVec 32 := 512#32
  let c0_i32_23 : BitVec 32 := 0#32
  let v58 : BitVec 1 := Scalar.cmpi .sgt c512_i32 c0_i32_23
  let v59 : BitVec 32 := Scalar.extui v58
  let c0_i32_24 : BitVec 32 := 0#32
  let v60 : BitVec 1 := Scalar.cmpi .slt c512_i32 c0_i32_24
  let v61 : BitVec 32 := Scalar.extui v60
  let v62 : BitVec 32 := Scalar.subi v59 v61
  let v63 : BitVec 1 := Scalar.cmpi .ne v57 v62
  let v64 : BitVec 32 := Scalar.remsi v1 c512_i32
  let c0_i32_25 : BitVec 32 := 0#32
  let v65 : BitVec 1 := Scalar.cmpi .ne v64 c0_i32_25
  let v66 : BitVec 1 := Scalar.andi v63 v65
  let v52 : BitVec 32 := Scalar.divsi v1 c512_i32
  let c1_i32_26 : BitVec 32 := 1#32
  let v67 : BitVec 32 := Scalar.subi v52 c1_i32_26
  let v68 : BitVec 32 := Scalar.select v66 v67 v52
  let c1024_i32_27 : BitVec 32 := 1024#32
  let v69 : BitVec 32 := Scalar.addi v1 c1024_i32_27
  let c512_i32_28 : BitVec 32 := 512#32
  let v70 : BitVec 32 := Scalar.addi v69 c512_i32_28
  let c1_i32_29 : BitVec 32 := 1#32
  let v71 : BitVec 32 := Scalar.subi v70 c1_i32_29
  let c0_i32_31 : BitVec 32 := 0#32
  let v73 : BitVec 1 := Scalar.cmpi .sgt v71 c0_i32_31
  let v74 : BitVec 32 := Scalar.extui v73
  let c0_i32_32 : BitVec 32 := 0#32
  let v75 : BitVec 1 := Scalar.cmpi .slt v71 c0_i32_32
  let v76 : BitVec 32 := Scalar.extui v75
  let v77 : BitVec 32 := Scalar.subi v74 v76
  let c512_i32_30 : BitVec 32 := 512#32
  let c0_i32_33 : BitVec 32 := 0#32
  let v78 : BitVec 1 := Scalar.cmpi .sgt c512_i32_30 c0_i32_33
  let v79 : BitVec 32 := Scalar.extui v78
  let c0_i32_34 : BitVec 32 := 0#32
  let v80 : BitVec 1 := Scalar.cmpi .slt c512_i32_30 c0_i32_34
  let v81 : BitVec 32 := Scalar.extui v80
  let v82 : BitVec 32 := Scalar.subi v79 v81
  let v83 : BitVec 1 := Scalar.cmpi .ne v77 v82
  let v84 : BitVec 32 := Scalar.remsi v71 c512_i32_30
  let c0_i32_35 : BitVec 32 := 0#32
  let v85 : BitVec 1 := Scalar.cmpi .ne v84 c0_i32_35
  let v86 : BitVec 1 := Scalar.andi v83 v85
  let v72 : BitVec 32 := Scalar.divsi v71 c512_i32_30
  let c1_i32_36 : BitVec 32 := 1#32
  let v87 : BitVec 32 := Scalar.subi v72 c1_i32_36
  let v88 : BitVec 32 := Scalar.select v86 v87 v72
  let v94 : BitVec 32 := Scalar.subi v88 v68
  let c1_i32_43 : BitVec 32 := 1#32
  let v96 : BitVec 32 := Scalar.divsi v94 c1_i32_43
  let v97 : BitVec 32 := Scalar.muli v96 c1_i32_43
  let v98 : BitVec 32 := Scalar.addi v68 v97
  let c1_i32_45 : BitVec 32 := 1#32
  let arg12 : BitVec 32 := Scf.iv v98 c1_i32_45 k0_t4
  let v1180 : Index := Scalar.indexCast arg12
  let c3_296 : Index := 3#32
  let c0_297 : Index := 0#32
  let c0_298 : Index := 0#32
  ![v1180.toNat, 3, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S16x4x144x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== ReferenceIdeal.lean ====
abbrev S16384x1024 : Shape := ⟨2, ![16384, 1024]⟩
abbrev S32x8x144x512 : Shape := ⟨4, ![32, 8, 144, 512]⟩
abbrev S16384x15872 : Shape := ⟨2, ![16384, 15872]⟩
abbrev S16384x128 : Shape := ⟨2, ![16384, 128]⟩
abbrev S16x8x1024 : Shape := ⟨3, ![16, 8, 1024]⟩
abbrev S2x8192x8x128 : Shape := ⟨4, ![2, 8192, 8, 128]⟩
abbrev S32x8x128x512 : Shape := ⟨4, ![32, 8, 128, 512]⟩
abbrev S32x512x8x128 : Shape := ⟨4, ![32, 512, 8, 128]⟩
abbrev S16384x8 : Shape := ⟨2, ![16384, 8]⟩
abbrev S2x8192x8 : Shape := ⟨3, ![2, 8192, 8]⟩
abbrev S2x8x8192 : Shape := ⟨3, ![2, 8, 8192]⟩
abbrev S16x1024x8 : Shape := ⟨3, ![16, 1024, 8]⟩
abbrev S8192 : Shape := ⟨1, ![8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x128x8192 : Shape := ⟨4, ![2, 8, 128, 8192]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S32x8x144x512, .bf16⟩
  | .hbm, ⟨3, _⟩ => ⟨S16384x15872, .f32⟩
  | .hbm, ⟨4, _⟩ => ⟨S16384x128, .f32⟩
  | .hbm, ⟨5, _⟩ => ⟨S16x8x1024, .f32⟩
  | .hbm, ⟨6, _⟩ => ⟨S16384x1024, .f32⟩
  | .hbm, ⟨7, _⟩ => ⟨S2x8192x8x128, .f32⟩
  | .hbm, ⟨8, _⟩ => ⟨S16384x1024, .f32⟩
  | .hbm, ⟨9, _⟩ => ⟨S2x8192x8x128, .f32⟩
  | .hbm, ⟨10, _⟩ => ⟨S32x8x144x512, .f32⟩
  | .hbm, ⟨11, _⟩ => ⟨S32x8x128x512, .f32⟩
  | .hbm, ⟨12, _⟩ => ⟨S32x512x8x128, .f32⟩
  | .hbm, ⟨13, _⟩ => ⟨S2x8192x8x128, .f32⟩
  | .hbm, ⟨14, _⟩ => ⟨S16384x8, .f32⟩
  | .hbm, ⟨15, _⟩ => ⟨S2x8192x8, .f32⟩
  | .hbm, ⟨16, _⟩ => ⟨S2x8x8192, .f32⟩
  | .hbm, ⟨17, _⟩ => ⟨S16x1024x8, .f32⟩
  | .hbm, ⟨18, _⟩ => ⟨S2x8192x8, .f32⟩
  | .hbm, ⟨19, _⟩ => ⟨S2x8x8192, .f32⟩
  | .hbm, ⟨20, _⟩ => ⟨S8192, .i32⟩
  | .hbm, ⟨21, _⟩ => ⟨S2x8x8192x8192, .f32⟩
  | .hbm, ⟨22, _⟩ => ⟨S_, .f32⟩
  | .hbm, ⟨23, _⟩ => ⟨S_, .f32⟩
  | .hbm, ⟨24, _⟩ => ⟨S2x8x8192x8192, .f32⟩
  | .hbm, ⟨25, _⟩ => ⟨S2x8x8192x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x1x8192, .f32⟩
  | .hbm, ⟨30, _⟩ => ⟨S2x8x8192x8192, .f32⟩
  | .hbm, ⟨31, _⟩ => ⟨S2x8x8192x8192, .f32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x1x8192x8192, .i1⟩
  | .hbm, ⟨38, _⟩ => ⟨S_, .f32⟩
  | .hbm, ⟨39, _⟩ => ⟨S_, .f32⟩
  | .hbm, ⟨40, _⟩ => ⟨S2x8x8192x8192, .i1⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S2x8x8192x1, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S_, .f32⟩
  | .hbm, ⟨50, _⟩ => ⟨S2x8x8192, .f32⟩
  | .hbm, ⟨51, _⟩ => ⟨S2x8x8192x1, .f32⟩
  | .hbm, ⟨52, _⟩ => ⟨S2x8x8192x8192, .f32⟩
  | .hbm, ⟨53, _⟩ => ⟨S2x8x8192x8192, .f32⟩
  | .hbm, ⟨54, _⟩ => ⟨S2x8x128x8192, .f32⟩
  | .hbm, ⟨55, _⟩ => ⟨S2x8192x8x128, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== KernelIn.lean ====
abbrev S16384x4096 : Shape := ⟨2, ![16384, 4096]⟩
abbrev S4x15872x4096 : Shape := ⟨3, ![4, 15872, 4096]⟩
abbrev S16384x15872 : Shape := ⟨2, ![16384, 15872]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x15872x4096, .bf16⟩
  | .hbm, ⟨2, _⟩ => ⟨S16384x15872, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S16384x4096 : Shape := ⟨2, ![16384, 4096]⟩
abbrev S4x15872x4096 : Shape := ⟨3, ![4, 15872, 4096]⟩
abbrev S1x15872x4096 : Shape := ⟨3, ![1, 15872, 4096]⟩
abbrev S15872x4096 : Shape := ⟨2, ![15872, 4096]⟩
abbrev S4096x15872 : Shape := ⟨2, ![4096, 15872]⟩
abbrev S16384x15872 : Shape := ⟨2, ![16384, 15872]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x15872x4096, .bf16⟩
  | .hbm, ⟨2, _⟩ => ⟨S16384x4096, .f32⟩
  | .hbm, ⟨3, _⟩ => ⟨S1x15872x4096, .bf16⟩
  | .hbm, ⟨4, _⟩ => ⟨S15872x4096, .bf16⟩
  | .hbm, ⟨5, _⟩ => ⟨S15872x4096, .f32⟩
  | .hbm, ⟨6, _⟩ => ⟨S4096x15872, .f32⟩
  | .hbm, ⟨7, _⟩ => ⟨S16384x15872, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelOut.lean ====
abbrev S16384x4096 : Shape := ⟨2, ![16384, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S16384x4096 : Shape := ⟨2, ![16384, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S16384x4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMerge.lean ====
abbrev S16384x1024 : Shape := ⟨2, ![16384, 1024]⟩
abbrev S16384x4096 : Shape := ⟨2, ![16384, 4096]⟩
abbrev S4x4x1024x4096 : Shape := ⟨4, ![4, 4, 1024, 4096]⟩
abbrev S4x4x16x256x256 : Shape := ⟨5, ![4, 4, 16, 256, 256]⟩
abbrev S4x4x4096 : Shape := ⟨3, ![4, 4, 4096]⟩
abbrev S1024x1024 : Shape := ⟨2, ![1024, 1024]⟩
abbrev S1024x512 : Shape := ⟨2, ![1024, 512]⟩
abbrev S1x4x1024x512 : Shape := ⟨4, ![1, 4, 1024, 512]⟩
abbrev S1x4x2x256x256 : Shape := ⟨5, ![1, 4, 2, 256, 256]⟩
abbrev S1x4x512 : Shape := ⟨3, ![1, 4, 512]⟩
abbrev S1x1x1024x512 : Shape := ⟨4, ![1, 1, 1024, 512]⟩
abbrev S1024x256 : Shape := ⟨2, ![1024, 256]⟩
abbrev S1x1x1x256x256 : Shape := ⟨5, ![1, 1, 1, 256, 256]⟩
abbrev S256x256 : Shape := ⟨2, ![256, 256]⟩
abbrev S1x1x512 : Shape := ⟨3, ![1, 1, 512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x4096, .bf16⟩
  | .hbm, ⟨5, _⟩ => ⟨S4x4x1024x4096, .bf16⟩
  | .hbm, ⟨6, _⟩ => ⟨S4x4x16x256x256, .bf16⟩
  | .hbm, ⟨7, _⟩ => ⟨S4x4x4096, .f32⟩
  | .hbm, ⟨8, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1x4x1024x512, .bf16⟩
  | .local _ .vmem, ⟨11, _⟩ => ⟨S1x4x1024x512, .bf16⟩
  | .local _ .vmem, ⟨12, _⟩ => ⟨S1x4x2x256x256, .bf16⟩
  | .local _ .vmem, ⟨13, _⟩ => ⟨S1x4x2x256x256, .bf16⟩
  | .local _ .vmem, ⟨14, _⟩ => ⟨S1x4x512, .f32⟩
  | .local _ .vmem, ⟨15, _⟩ => ⟨S1x4x512, .f32⟩
  | .local _ .vmem, ⟨16, _⟩ => ⟨S1024x512, .bf16⟩
  | .local _ .vmem, ⟨17, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x2x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMergeIdeal.lean ====
abbrev S16384x1024 : Shape := ⟨2, ![16384, 1024]⟩
abbrev S16384x4096 : Shape := ⟨2, ![16384, 4096]⟩
abbrev S4x4x1024x4096 : Shape := ⟨4, ![4, 4, 1024, 4096]⟩
abbrev S4x4x16x256x256 : Shape := ⟨5, ![4, 4, 16, 256, 256]⟩
abbrev S4x4x4096 : Shape := ⟨3, ![4, 4, 4096]⟩
abbrev S16384x16x256 : Shape := ⟨3, ![16384, 16, 256]⟩
abbrev S1x1x16x256x256 : Shape := ⟨5, ![1, 1, 16, 256, 256]⟩
abbrev S16x256x256 : Shape := ⟨3, ![16, 256, 256]⟩
abbrev S16x256x16384 : Shape := ⟨3, ![16, 256, 16384]⟩
abbrev S1x1x4096 : Shape := ⟨3, ![1, 1, 4096]⟩
abbrev S4096 : Shape := ⟨1, ![4096]⟩
abbrev S1x4096 : Shape := ⟨2, ![1, 4096]⟩
abbrev S_ : Shape := ⟨0, ![]⟩
abbrev S1x1x1024x4096 : Shape := ⟨4, ![1, 1, 1024, 4096]⟩
abbrev S1024x4096 : Shape := ⟨2, ![1024, 4096]⟩

abbrev nBuf : Space → Nat
  | .hbm => 114
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x4096, .bf16⟩
  | .hbm, ⟨5, _⟩ => ⟨S4x4x1024x4096, .bf16⟩
  | .hbm, ⟨6, _⟩ => ⟨S4x4x16x256x256, .bf16⟩
  | .hbm, ⟨7, _⟩ => ⟨S4x4x4096, .f32⟩
  | .hbm, ⟨8, _⟩ => ⟨S16384x4096, .f32⟩
  | .hbm, ⟨9, _⟩ => ⟨S16384x16x256, .f32⟩
  | .hbm, ⟨10, _⟩ => ⟨S1x1x16x256x256, .bf16⟩
  | .hbm, ⟨11, _⟩ => ⟨S16x256x256, .bf16⟩
  | .hbm, ⟨12, _⟩ => ⟨S16x256x256, .f32⟩
  | .hbm, ⟨13, _⟩ => ⟨S16x256x16384, .f32⟩
  | .hbm, ⟨14, _⟩ => ⟨S16384x16x256, .f32⟩
  | .hbm, ⟨15, _⟩ => ⟨S16384x4096, .f32⟩
  | .hbm, ⟨16, _⟩ => ⟨S1x1x4096, .f32⟩
  | .hbm, ⟨17, _⟩ => ⟨S4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S1x1x1024x4096, .bf16⟩
  | .hbm, ⟨31, _⟩ => ⟨S1024x4096, .bf16⟩
  | .hbm, ⟨32, _⟩ => ⟨S1024x4096, .f32⟩
  | .hbm, ⟨33, _⟩ => ⟨S16384x4096, .f32⟩
  | .hbm, ⟨34, _⟩ => ⟨S16384x4096, .f32⟩
  | .hbm, ⟨35, _⟩ => ⟨S1x1x16x256x256, .bf16⟩
  | .hbm, ⟨36, _⟩ => ⟨S16x256x256, .bf16⟩
  | .hbm, ⟨37, _⟩ => ⟨S16x256x256, .f32⟩
  | .hbm, ⟨38, _⟩ => ⟨S16x256x16384, .f32⟩
  | .hbm, ⟨39, _⟩ => ⟨S16384x16x256, .f32⟩
  | .hbm, ⟨40, _⟩ => ⟨S16384x4096, .f32⟩
  | .hbm, ⟨41, _⟩ => ⟨S1x1x4096, .f32⟩
  | .hbm, ⟨42, _⟩ => ⟨S4096, .f32⟩
  | .hbm, ⟨43, _⟩ => ⟨S1x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S16384x4096, .f32⟩
  | .hbm, ⟨48, _⟩ => ⟨S_, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S16384x1024, .f32⟩
  | .hbm, ⟨55, _⟩ => ⟨S1x1x1024x4096, .bf16⟩
  | .hbm, ⟨56, _⟩ => ⟨S1024x4096, .bf16⟩
  | .hbm, ⟨57, _⟩ => ⟨S1024x4096, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S1x1x16x256x256, .bf16⟩
  | .hbm, ⟨62, _⟩ => ⟨S16x256x256, .bf16⟩
  | .hbm, ⟨63, _⟩ => ⟨S16x256x256, .f32⟩
  | .hbm, ⟨64, _⟩ => ⟨S16x256x16384, .f32⟩
  | .hbm, ⟨65, _⟩ => ⟨S16384x16x256, .f32⟩
  | .hbm, ⟨66, _⟩ => ⟨S16384x4096, .f32⟩
  | .hbm, ⟨67, _⟩ => ⟨S1x1x4096, .f32⟩
  | .hbm, ⟨68, _⟩ => ⟨S4096, .f32⟩
  | .hbm, ⟨69, _⟩ => ⟨S1x4096, .f32⟩
  | .hbm, ⟨70, _⟩ => ⟨S16384x4096, .f32⟩
  | .hbm, ⟨71, _⟩ => ⟨S16384x4096, .f32⟩
  | .hbm, ⟨72, _⟩ => ⟨S16384x4096, .f32⟩
  | .hbm, ⟨73, _⟩ => ⟨S16384x4096, .f32⟩
  | .hbm, ⟨74, _⟩ => ⟨S_, .f32⟩
  | .hbm, ⟨75, _⟩ => ⟨S16384x4096, .f32⟩
  | .hbm, ⟨76, _⟩ => ⟨S16384x4096, .f32⟩
  | .hbm, ⟨77, _⟩ => ⟨S_, .f32⟩
  | .hbm, ⟨78, _⟩ => ⟨S16384x4096, .f32⟩
  | .hbm, ⟨79, _⟩ => ⟨S16384x4096, .f32⟩
  | .hbm, ⟨80, _⟩ => ⟨S16384x1024, .f32⟩
  | .hbm, ⟨81, _⟩ => ⟨S1x1x1024x4096, .bf16⟩
  | .hbm, ⟨82, _⟩ => ⟨S1024x4096, .bf16⟩
  | .hbm, ⟨83, _⟩ => ⟨S1024x4096, .f32⟩
  | .hbm, ⟨84, _⟩ => ⟨S16384x4096, .f32⟩
  | .hbm, ⟨85, _⟩ => ⟨S16384x4096, .f32⟩
  | .hbm, ⟨86, _⟩ => ⟨S16384x4096, .f32⟩
  | .hbm, ⟨87, _⟩ => ⟨S1x1x16x256x256, .bf16⟩
  | .hbm, ⟨88, _⟩ => ⟨S16x256x256, .bf16⟩
  | .hbm, ⟨89, _⟩ => ⟨S16x256x256, .f32⟩
  | .hbm, ⟨90, _⟩ => ⟨S16x256x16384, .f32⟩
  | .hbm, ⟨91, _⟩ => ⟨S16384x16x256, .f32⟩
  | .hbm, ⟨92, _⟩ => ⟨S16384x4096, .f32⟩
  | .hbm, ⟨93, _⟩ => ⟨S1x1x4096, .f32⟩
  | .hbm, ⟨94, _⟩ => ⟨S4096, .f32⟩
  | .hbm, ⟨95, _⟩ => ⟨S1x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S16384x4096, .f32⟩
  | .hbm, ⟨100, _⟩ => ⟨S_, .f32⟩
  | .hbm, ⟨101, _⟩ => ⟨S16384x4096, .f32⟩
  | .hbm, ⟨102, _⟩ => ⟨S16384x4096, .f32⟩
  | .hbm, ⟨103, _⟩ => ⟨S_, .f32⟩
  | .hbm, ⟨104, _⟩ => ⟨S16384x4096, .f32⟩
  | .hbm, ⟨105, _⟩ => ⟨S16384x4096, .f32⟩
  | .hbm, ⟨106, _⟩ => ⟨S16384x1024, .f32⟩
  | .hbm, ⟨107, _⟩ => ⟨S1x1x1024x4096, .bf16⟩
  | .hbm, ⟨108, _⟩ => ⟨S1024x4096, .bf16⟩
  | .hbm, ⟨109, _⟩ => ⟨S1024x4096, .f32⟩
  | .hbm, ⟨110, _⟩ => ⟨S16384x4096, .f32⟩
  | .hbm, ⟨111, _⟩ => ⟨S16384x4096, .f32⟩
  | .hbm, ⟨112, _⟩ => ⟨S16384x4096, .f32⟩
  | .hbm, ⟨113, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_3 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_5 : Ref sig .tc := ⟨.hbm, 100, rfl⟩
abbrev main_v86 : Ref sig .tc := ⟨.hbm, 101, rfl⟩
abbrev main_v87 : Ref sig .tc := ⟨.hbm, 102, rfl⟩
abbrev main_cst_6 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩

abbrev nD : Nat := 1
abbrev τ : Topo := Topo.v7x

variable {F : FTy → Type} [FloatOps F]
-- ==== KernelNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelLast.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLastIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelConv.lean ====
abbrev S16384x15872 : Shape := ⟨2, ![16384, 15872]⟩
abbrev S3x1024 : Shape := ⟨2, ![3, 1024]⟩
abbrev S16384x1024 : Shape := ⟨2, ![16384, 1024]⟩
abbrev S512x1024 : Shape := ⟨2, ![512, 1024]⟩
abbrev S8x1024 : Shape := ⟨2, ![8, 1024]⟩
abbrev S1x1024 : Shape := ⟨2, ![1, 1024]⟩

abbrev nBuf : Space → Nat
  | .hbm => 3
  | .vmem => 15
  | .smem => 0
  | _ => 0

abbrev bufTy : (tb : Table) → Fin (tcTables nBuf tb) → BufTy
  | .hbm, ⟨0, _⟩ => ⟨S16384x15872, .f32⟩
  | .hbm, ⟨1, _⟩ => ⟨S3x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | _, _ => ⟨S16384x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceConvIdeal.lean ====
abbrev S16384x15872 : Shape := ⟨2, ![16384, 15872]⟩
abbrev S3x1024 : Shape := ⟨2, ![3, 1024]⟩
abbrev S16384x1024 : Shape := ⟨2, ![16384, 1024]⟩
abbrev S2x8192x1024 : Shape := ⟨3, ![2, 8192, 1024]⟩
abbrev S_ : Shape := ⟨0, ![]⟩
abbrev S2x8194x1024 : Shape := ⟨3, ![2, 8194, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x15872, .f32⟩
  | .hbm, ⟨1, _⟩ => ⟨S3x1024, .f32⟩
  | .hbm, ⟨2, _⟩ => ⟨S16384x1024, .f32⟩
  | .hbm, ⟨3, _⟩ => ⟨S2x8192x1024, .f32⟩
  | .hbm, ⟨4, _⟩ => ⟨S16384x1024, .f32⟩
  | .hbm, ⟨5, _⟩ => ⟨S2x8192x1024, .f32⟩
  | .hbm, ⟨6, _⟩ => ⟨S2x8192x1024, .f32⟩
  | .hbm, ⟨7, _⟩ => ⟨S_, .i32⟩
  | .hbm, ⟨8, _⟩ => ⟨S_, .f32⟩
  | .hbm, ⟨9, _⟩ => ⟨S2x8194x1024, .f32⟩
  | .hbm, ⟨10, _⟩ => ⟨S1x1024, .f32⟩
  | .hbm, ⟨11, _⟩ => ⟨S1024, .f32⟩
  | .hbm, ⟨12, _⟩ => ⟨S2x8192x1024, .f32⟩
  | .hbm, ⟨13, _⟩ => ⟨S1x1x1024, .f32⟩
  | .hbm, ⟨14, _⟩ => ⟨S2x8192x1024, .f32⟩
  | .hbm, ⟨15, _⟩ => ⟨S2x8192x1024, .f32⟩
  | .hbm, ⟨16, _⟩ => ⟨S1x1024, .f32⟩
  | .hbm, ⟨17, _⟩ => ⟨S1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S1x1024, .f32⟩
  | .hbm, ⟨24, _⟩ => ⟨S1024, .f32⟩
  | .hbm, ⟨25, _⟩ => ⟨S2x8192x1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S16384x1024, .f32⟩
  | .hbm, ⟨31, _⟩ => ⟨S2x8192x1024, .f32⟩
  | .hbm, ⟨32, _⟩ => ⟨S16384x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S16384x1024, .f32⟩
  | .hbm, ⟨46, _⟩ => ⟨S16384x1024, .bf16⟩
  | _, _ => ⟨S16384x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩
abbrev main_v34 : Ref sig .tc := ⟨.hbm, 39, rfl⟩
abbrev main_cst_0 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== KernelLower.lean ====
abbrev S4x1024 : Shape := ⟨2, ![4, 1024]⟩
abbrev S1024 : Shape := ⟨1, ![1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceLowerIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S4x1024, .f32⟩
  | .hbm, ⟨11, _⟩ => ⟨S4x1024, .f32⟩
  | .hbm, ⟨12, _⟩ => ⟨S_, .f32⟩
  | .hbm, ⟨13, _⟩ => ⟨S_, .f32⟩
  | .hbm, ⟨14, _⟩ => ⟨S4x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4x1024, .f32⟩
  | .hbm, ⟨19, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_call0_cst : Ref sig .tc := ⟨.hbm, 12, rfl⟩
abbrev main_call0_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelCum.lean ====
abbrev S16384x15872 : Shape := ⟨2, ![16384, 15872]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S16384x128 : Shape := ⟨2, ![16384, 128]⟩
abbrev S16x8x1024 : Shape := ⟨3, ![16, 8, 1024]⟩
abbrev S1024x128 : Shape := ⟨2, ![1024, 128]⟩
abbrev S1x8x1024 : Shape := ⟨3, ![1, 8, 1024]⟩
abbrev S1024x1024 : Shape := ⟨2, ![1024, 1024]⟩
abbrev S128x1024 : Shape := ⟨2, ![128, 1024]⟩
abbrev S8x1024 : Shape := ⟨2, ![8, 1024]⟩

abbrev nBuf : Space → Nat
  | .hbm => 12
  | .vmem => 8
  | .smem => 0
  | _ => 0

abbrev bufTy : (tb : Table) → Fin (tcTables nBuf tb) → BufTy
  | .hbm, ⟨0, _⟩ => ⟨S16384x15872, .f32⟩
  | .hbm, ⟨1, _⟩ => ⟨S8, .f32⟩
  | .hbm, ⟨2, _⟩ => ⟨S_, .f32⟩
  | .hbm, ⟨3, _⟩ => ⟨S1x128, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S1x128, .f32⟩
  | .hbm, ⟨10, _⟩ => ⟨S16384x128, .f32⟩
  | .hbm, ⟨11, _⟩ => ⟨S16x8x1024, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1x8x1024, .f32⟩
  | .local _ .vmem, ⟨6, _⟩ => ⟨S1x8x1024, .f32⟩
  | .local _ .vmem, ⟨7, _⟩ => ⟨S1x128, .f32⟩
  | _, _ => ⟨S16384x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c123_i32 : BitVec 32 := 123#32
  let c0_i32 : BitVec 32 := 0#32
  ![v1.toNat, c123_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceCumIdeal.lean ====
abbrev S16384x15872 : Shape := ⟨2, ![16384, 15872]⟩
abbrev S8 : Shape := ⟨1, ![8]⟩
abbrev S_ : Shape := ⟨0, ![]⟩
abbrev S128 : Shape := ⟨1, ![128]⟩
abbrev S16384x128 : Shape := ⟨2, ![16384, 128]⟩
abbrev S1x128 : Shape := ⟨2, ![1, 128]⟩
abbrev S2x8192x128 : Shape := ⟨3, ![2, 8192, 128]⟩
abbrev S16384x8 : Shape := ⟨2, ![16384, 8]⟩
abbrev S16x1024x8 : Shape := ⟨3, ![16, 1024, 8]⟩
abbrev S16x8x1024 : Shape := ⟨3, ![16, 8, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x15872, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S16384x128, .f32⟩
  | .hbm, ⟨6, _⟩ => ⟨S1x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x128, .i1⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S2x8192x128, .f32⟩
  | .hbm, ⟨26, _⟩ => ⟨S_, .f32⟩
  | .hbm, ⟨27, _⟩ => ⟨S_, .f32⟩
  | .hbm, ⟨28, _⟩ => ⟨S2x8192x128, .f32⟩
  | .hbm, ⟨29, _⟩ => ⟨S16384x128, .f32⟩
  | .hbm, ⟨30, _⟩ => ⟨S16384x8, .f32⟩
  | .hbm, ⟨31, _⟩ => ⟨S16x1024x8, .f32⟩
  | .hbm, ⟨32, _⟩ => ⟨S16x8x1024, .f32⟩
  | _, _ => ⟨S16384x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_v0 : Ref sig .tc := ⟨.hbm, 9, rfl⟩
abbrev main_call1_call0_cst : Ref sig .tc := ⟨.hbm, 10, rfl⟩
abbrev main_call1_call0_v0 : Ref sig .tc := ⟨.hbm, 11, rfl⟩
abbrev main_call1_call0_v1 : Ref sig .tc := ⟨.hbm, 12, rfl⟩
abbrev main_call1_call0_v2 : Ref sig .tc := ⟨.hbm, 13, rfl⟩
abbrev main_call1_call0_v3 : Ref sig .tc := ⟨.hbm, 14, rfl⟩
abbrev main_call1_call0_v4 : Ref sig .tc := ⟨.hbm, 15, rfl⟩
abbrev main_call1_call0_v5 : Ref sig .tc := ⟨.hbm, 16, rfl⟩
abbrev main_call1_call0_v6 : Ref sig .tc := ⟨.hbm, 17, rfl⟩
abbrev main_call1_call0_v7 : Ref sig .tc := ⟨.hbm, 18, rfl⟩
abbrev main_call1_call0_v8 : Ref sig .tc := ⟨.hbm, 19, rfl⟩
abbrev main_call1_call0_v9 : Ref sig .tc := ⟨.hbm, 20, rfl⟩
abbrev main_call1_call0_v10 : Ref sig .tc := ⟨.hbm, 21, rfl⟩
abbrev main_call1_call0_v11 : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== KernelPrep.lean ====
abbrev S16384x15872 : Shape := ⟨2, ![16384, 15872]⟩
abbrev S16384x1024 : Shape := ⟨2, ![16384, 1024]⟩
abbrev S32x8x144x512 : Shape := ⟨4, ![32, 8, 144, 512]⟩
abbrev S512x1024 : Shape := ⟨2, ![512, 1024]⟩
abbrev S1x8x144x512 : Shape := ⟨4, ![1, 8, 144, 512]⟩
abbrev S512x128 : Shape := ⟨2, ![512, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x15872, .f32⟩
  | .hbm, ⟨1, _⟩ => ⟨S16384x1024, .bf16⟩
  | .hbm, ⟨2, _⟩ => ⟨S16384x1024, .bf16⟩
  | .hbm, ⟨3, _⟩ => ⟨S32x8x144x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x8x144x512, .bf16⟩
  | .local _ .vmem, ⟨11, _⟩ => ⟨S1x8x144x512, .bf16⟩
  | _, _ => ⟨S16384x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x144x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferencePrepIdeal.lean ====
abbrev S16384x15872 : Shape := ⟨2, ![16384, 15872]⟩
abbrev S16384x1024 : Shape := ⟨2, ![16384, 1024]⟩
abbrev S32x512x8x128 : Shape := ⟨4, ![32, 512, 8, 128]⟩
abbrev S32x8x128x512 : Shape := ⟨4, ![32, 8, 128, 512]⟩
abbrev S_ : Shape := ⟨0, ![]⟩
abbrev S32x8x16x512 : Shape := ⟨4, ![32, 8, 16, 512]⟩
abbrev S32x8x144x512 : Shape := ⟨4, ![32, 8, 144, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x15872, .f32⟩
  | .hbm, ⟨1, _⟩ => ⟨S16384x1024, .f32⟩
  | .hbm, ⟨2, _⟩ => ⟨S16384x1024, .bf16⟩
  | .hbm, ⟨3, _⟩ => ⟨S32x512x8x128, .bf16⟩
  | .hbm, ⟨4, _⟩ => ⟨S32x8x128x512, .bf16⟩
  | .hbm, ⟨5, _⟩ => ⟨S_, .bf16⟩
  | .hbm, ⟨6, _⟩ => ⟨S32x8x16x512, .bf16⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S32x8x144x512, .bf16⟩
  | _, _ => ⟨S16384x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== KernelRope.lean ====
abbrev S16384x15872 : Shape := ⟨2, ![16384, 15872]⟩
abbrev S8192x128 : Shape := ⟨2, ![8192, 128]⟩
abbrev S16384x1024 : Shape := ⟨2, ![16384, 1024]⟩
abbrev S16384x128 : Shape := ⟨2, ![16384, 128]⟩
abbrev S64x144x256 : Shape := ⟨3, ![64, 144, 256]⟩
abbrev S16x16384x64 : Shape := ⟨3, ![16, 16384, 64]⟩
abbrev S16384x64 : Shape := ⟨2, ![16384, 64]⟩
abbrev S16x16384 : Shape := ⟨2, ![16, 16384]⟩
abbrev S256x1024 : Shape := ⟨2, ![256, 1024]⟩
abbrev S256x128 : Shape := ⟨2, ![256, 128]⟩
abbrev S1x144x256 : Shape := ⟨3, ![1, 144, 256]⟩
abbrev S16x256x64 : Shape := ⟨3, ![16, 256, 64]⟩
abbrev S256x64 : Shape := ⟨2, ![256, 64]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩
abbrev S1x256x64 : Shape := ⟨3, ![1, 256, 64]⟩

abbrev nBuf : Space → Nat
  | .hbm => 11
  | .vmem => 30
  | .smem => 0
  | _ => 0

abbrev bufTy : (tb : Table) → Fin (tcTables nBuf tb) → BufTy
  | .hbm, ⟨0, _⟩ => ⟨S16384x15872, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S16384x1024, .bf16⟩
  | .hbm, ⟨6, _⟩ => ⟨S16384x128, .bf16⟩
  | .hbm, ⟨7, _⟩ => ⟨S64x144x256, .bf16⟩
  | .hbm, ⟨8, _⟩ => ⟨S16x16384x64, .bf16⟩
  | .hbm, ⟨9, _⟩ => ⟨S16384x64, .bf16⟩
  | .hbm, ⟨10, _⟩ => ⟨S16x16384, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x1024, .bf16⟩
  | .local _ .vmem, ⟨19, _⟩ => ⟨S256x1024, .bf16⟩
  | .local _ .vmem, ⟨20, _⟩ => ⟨S256x128, .bf16⟩
  | .local _ .vmem, ⟨21, _⟩ => ⟨S256x128, .bf16⟩
  | .local _ .vmem, ⟨22, _⟩ => ⟨S1x144x256, .bf16⟩
  | .local _ .vmem, ⟨23, _⟩ => ⟨S1x144x256, .bf16⟩
  | .local _ .vmem, ⟨24, _⟩ => ⟨S16x256x64, .bf16⟩
  | .local _ .vmem, ⟨25, _⟩ => ⟨S16x256x64, .bf16⟩
  | .local _ .vmem, ⟨26, _⟩ => ⟨S256x64, .bf16⟩
  | .local _ .vmem, ⟨27, _⟩ => ⟨S256x64, .bf16⟩
  | .local _ .vmem, ⟨28, _⟩ => ⟨S16x256, .f32⟩
  | .local _ .vmem, ⟨29, _⟩ => ⟨S16x256, .f32⟩
  | _, _ => ⟨S16384x15872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c120_i32 : BitVec 32 := 120#32
  let c0_i32 : BitVec 32 := 0#32
  ![arg0.toNat, c120_i32.toNat]

def cc0_transform_3 (i : grid0.Coords) : Fin 2 → Nat :=
  let arg0 : BitVec 32 := BitVec.ofNat 32 (i 0).val
  let c121_i32 : BitVec 32 := 121#32
  let c0_i32 : BitVec 32 := 0#32
  ![arg0.toNat, c121_i32.toNat]

def cc0_transform_4 (i : grid0.Coords) : Fin 2 → Nat :=
  let arg0 : BitVec 32 := BitVec.ofNat 32 (i 0).val
  let c122_i32 : BitVec 32 := 122#32
  let c0_i32 : BitVec 32 := 0#32
  ![arg0.toNat, c122_i32.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x144x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceRopeIdeal.lean ====
abbrev S16384x15872 : Shape := ⟨2, ![16384, 15872]⟩
abbrev S8192x128 : Shape := ⟨2, ![8192, 128]⟩
abbrev S16384x1024 : Shape := ⟨2, ![16384, 1024]⟩
abbrev S2x8192x1024 : Shape := ⟨3, ![2, 8192, 1024]⟩
abbrev S2x8192x8x128 : Shape := ⟨4, ![2, 8192, 8, 128]⟩
abbrev S8192x1x128 : Shape := ⟨3, ![8192, 1, 128]⟩
abbrev S1x8192x1x128 : Shape := ⟨4, ![1, 8192, 1, 128]⟩
abbrev S2x8192x8x64 : Shape := ⟨4, ![2, 8192, 8, 64]⟩
abbrev S16384x128 : Shape := ⟨2, ![16384, 128]⟩
abbrev S2x8192x128 : Shape := ⟨3, ![2, 8192, 128]⟩
abbrev S1x8192x128 : Shape := ⟨3, ![1, 8192, 128]⟩
abbrev S2x8192x64 : Shape := ⟨3, ![2, 8192, 64]⟩
abbrev S2x8192x8x2x64 : Shape := ⟨5, ![2, 8192, 8, 2, 64]⟩
abbrev S8192x1x2x64 : Shape := ⟨4, ![8192, 1, 2, 64]⟩
abbrev S1x8192x1x2x64 : Shape := ⟨5, ![1, 8192, 1, 2, 64]⟩
abbrev S2x8192x8x2x32 : Shape := ⟨5, ![2, 8192, 8, 2, 32]⟩
abbrev S16384x64 : Shape := ⟨2, ![16384, 64]⟩
abbrev S8192x64 : Shape := ⟨2, ![8192, 64]⟩
abbrev S1x8192x64 : Shape := ⟨3, ![1, 8192, 64]⟩
abbrev S2x8192x32 : Shape := ⟨3, ![2, 8192, 32]⟩
abbrev S16384x16 : Shape := ⟨2, ![16384, 16]⟩
abbrev S64x256x128 : Shape := ⟨3, ![64, 256, 128]⟩
abbrev S64x128x256 : Shape := ⟨3, ![64, 128, 256]⟩
abbrev S_ : Shape := ⟨0, ![]⟩
abbrev S64x16x256 : Shape := ⟨3, ![64, 16, 256]⟩
abbrev S64x144x256 : Shape := ⟨3, ![64, 144, 256]⟩
abbrev S16384x16x64 : Shape := ⟨3, ![16384, 16, 64]⟩
abbrev S16x16384x64 : Shape := ⟨3, ![16, 16384, 64]⟩
abbrev S16x16384 : Shape := ⟨2, ![16, 16384]⟩

abbrev nBuf : Space → Nat
  | .hbm => 82
  | .vmem => 0
  | .smem => 0
  | _ => 0

abbrev bufTy : (tb : Table) → Fin (tcTables nBuf tb) → BufTy
  | .hbm, ⟨0, _⟩ => ⟨S16384x15872, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S16384x1024, .f32⟩
  | .hbm, ⟨6, _⟩ => ⟨S2x8192x1024, .f32⟩
  | .hbm, ⟨7, _⟩ => ⟨S2x8192x8x128, .f32⟩
  | .hbm, ⟨8, _⟩ => ⟨S8192x1x128, .f32⟩
  | .hbm, ⟨9, _⟩ => ⟨S8192x1x128, .f32⟩
  | .hbm, ⟨10, _⟩ => ⟨S1x8192x1x128, .f32⟩
  | .hbm, ⟨11, _⟩ => ⟨S2x8192x8x128, .f32⟩
  | .hbm, ⟨12, _⟩ => ⟨S2x8192x8x128, .f32⟩
  | .hbm, ⟨13, _⟩ => ⟨S2x8192x8x64, .f32⟩
  | .hbm, ⟨14, _⟩ => ⟨S2x8192x8x64, .f32⟩
  | .hbm, ⟨15, _⟩ => ⟨S2x8192x8x128, .f32⟩
  | .hbm, ⟨16, _⟩ => ⟨S1x8192x1x128, .f32⟩
  | .hbm, ⟨17, _⟩ => ⟨S2x8192x8x128, .f32⟩
  | .hbm, ⟨18, _⟩ => ⟨S2x8192x8x128, .f32⟩
  | .hbm, ⟨19, _⟩ => ⟨S2x8192x8x128, .f32⟩
  | .hbm, ⟨20, _⟩ => ⟨S16384x128, .f32⟩
  | .hbm, ⟨21, _⟩ => ⟨S2x8192x128, .f32⟩
  | .hbm, ⟨22, _⟩ => ⟨S1x8192x128, .f32⟩
  | .hbm, ⟨23, _⟩ => ⟨S2x8192x128, .f32⟩
  | .hbm, ⟨24, _⟩ => ⟨S2x8192x128, .f32⟩
  | .hbm, ⟨25, _⟩ => ⟨S2x8192x64, .f32⟩
  | .hbm, ⟨26, _⟩ => ⟨S2x8192x64, .f32⟩
  | .hbm, ⟨27, _⟩ => ⟨S2x8192x128, .f32⟩
  | .hbm, ⟨28, _⟩ => ⟨S1x8192x128, .f32⟩
  | .hbm, ⟨29, _⟩ => ⟨S2x8192x128, .f32⟩
  | .hbm, ⟨30, _⟩ => ⟨S2x8192x128, .f32⟩
  | .hbm, ⟨31, _⟩ => ⟨S2x8192x128, .f32⟩
  | .hbm, ⟨32, _⟩ => ⟨S16384x1024, .f32⟩
  | .hbm, ⟨33, _⟩ => ⟨S2x8192x1024, .f32⟩
  | .hbm, ⟨34, _⟩ => ⟨S2x8192x8x2x64, .f32⟩
  | .hbm, ⟨35, _⟩ => ⟨S8192x1x2x64, .f32⟩
  | .hbm, ⟨36, _⟩ => ⟨S8192x1x2x64, .f32⟩
  | .hbm, ⟨37, _⟩ => ⟨S1x8192x1x2x64, .f32⟩
  | .hbm, ⟨38, _⟩ => ⟨S2x8192x8x2x64, .f32⟩
  | .hbm, ⟨39, _⟩ => ⟨S2x8192x8x2x64, .f32⟩
  | .hbm, ⟨40, _⟩ => ⟨S2x8192x8x2x32, .f32⟩
  | .hbm, ⟨41, _⟩ => ⟨S2x8192x8x2x32, .f32⟩
  | .hbm, ⟨42, _⟩ => ⟨S2x8192x8x2x64, .f32⟩
  | .hbm, ⟨43, _⟩ => ⟨S1x8192x1x2x64, .f32⟩
  | .hbm, ⟨44, _⟩ => ⟨S2x8192x8x2x64, .f32⟩
  | .hbm, ⟨45, _⟩ => ⟨S2x8192x8x2x64, .f32⟩
  | .hbm, ⟨46, _⟩ => ⟨S2x8192x8x2x64, .f32⟩
  | .hbm, ⟨47, _⟩ => ⟨S16384x64, .f32⟩
  | .hbm, ⟨48, _⟩ => ⟨S2x8192x64, .f32⟩
  | .hbm, ⟨49, _⟩ => ⟨S8192x64, .f32⟩
  | .hbm, ⟨50, _⟩ => ⟨S8192x64, .f32⟩
  | .hbm, ⟨51, _⟩ => ⟨S1x8192x64, .f32⟩
  | .hbm, ⟨52, _⟩ => ⟨S2x8192x64, .f32⟩
  | .hbm, ⟨53, _⟩ => ⟨S2x8192x64, .f32⟩
  | .hbm, ⟨54, _⟩ => ⟨S2x8192x32, .f32⟩
  | .hbm, ⟨55, _⟩ => ⟨S2x8192x32, .f32⟩
  | .hbm, ⟨56, _⟩ => ⟨S2x8192x64, .f32⟩
  | .hbm, ⟨57, _⟩ => ⟨S1x8192x64, .f32⟩
  | .hbm, ⟨58, _⟩ => ⟨S2x8192x64, .f32⟩
  | .hbm, ⟨59, _⟩ => ⟨S2x8192x64, .f32⟩
  | .hbm, ⟨60, _⟩ => ⟨S2x8192x64, .f32⟩
  | .hbm, ⟨61, _⟩ => ⟨S16384x16, .f32⟩
  | .hbm, ⟨62, _⟩ => ⟨S16384x128, .f32⟩
  | .hbm, ⟨63, _⟩ => ⟨S64x256x128, .f32⟩
  | .hbm, ⟨64, _⟩ => ⟨S64x128x256, .f32⟩
  | .hbm, ⟨65, _⟩ => ⟨S_, .bf16⟩
  | .hbm, ⟨66, _⟩ => ⟨S64x16x256, .bf16⟩
  | .hbm, ⟨67, _⟩ => ⟨S16384x1024, .f32⟩
  | .hbm, ⟨68, _⟩ => ⟨S16384x1024, .bf16⟩
  | .hbm, ⟨69, _⟩ => ⟨S16384x128, .f32⟩
  | .hbm, ⟨70, _⟩ => ⟨S16384x128, .bf16⟩
  | .hbm, ⟨71, _⟩ => ⟨S64x128x256, .bf16⟩
  | .hbm, ⟨72, _⟩ => ⟨S64x144x256, .bf16⟩
  | .hbm, ⟨73, _⟩ => ⟨S16384x16x64, .f32⟩
  | .hbm, ⟨74, _⟩ => ⟨S16x16384x64, .f32⟩
  | .hbm, ⟨75, _⟩ => ⟨S16x16384x64, .bf16⟩
  | .hbm, ⟨76, _⟩ => ⟨S16384x64, .f32⟩
  | .hbm, ⟨77, _⟩ => ⟨S16384x64, .bf16⟩
  | .hbm, ⟨78, _⟩ => ⟨S16x16384, .f32⟩
  | .hbm, ⟨79, _⟩ => ⟨S_, .f32⟩
  | .hbm, ⟨80, _⟩ => ⟨S16x16384, .f32⟩
  | .hbm, ⟨81, _⟩ => ⟨S16x16384, .f32⟩
  | _, _ => ⟨S16384x15872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_cst : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_cst_0 : Ref sig .tc := ⟨.hbm, 79, rfl⟩
abbrev main_v73 : Ref sig .tc := ⟨.hbm, 80, rfl⟩
abbrev main_v74 : Ref sig .tc := ⟨.hbm, 81, rfl⟩

abbrev nD : Nat := 1
abbrev τ : Topo := Topo.v7x

variable {F : FTy → Type} [FloatOps F]
-- ==== Proof.InProj.lean ====
/- The value of the input projection's call. -/
module

public import proofs.«01_k».proof.Defs
public import proofs.«01_k».proof.Proof.Gen.KernelInIdeal.Value
public import proofs.«01_k».proof.Proof.Gen.ReferenceInIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProj

open Cert.KernelInIdeal Cert.KernelInIdeal.Gen

variable (m : (ℓ : Loc nD τ sig) → Buf (Elt Ideal) ℓ)

/-- The reference's term over the activations and the projection's weights. -/
abbrev product (h : FVec Ideal S16384x4096 .bf16) (w : FVec Ideal S4x15872x4096 .bf16) : FVec Ideal S16384x15872 .f32 :=
  Host.dotGeneral Cert.ReferenceInIdeal.dot_S16384x4096_S4096x15872_S16384x15872_1_0_0_1_n_n none
    (extf .f32 h Cert.ReferenceInIdeal.Gen.bitsLt_bf16_f32)
    (transpose Cert.ReferenceInIdeal.S4096x15872 [1, 0]
      (extf .f32 (shapeCast _ (extractStridedSlice Cert.ReferenceInIdeal.S1x15872x4096 ![0, 0, 0] w
        Cert.ReferenceInIdeal.Gen.slices_S4x15872x4096_S1x15872x4096_0_0_0)
        Cert.ReferenceInIdeal.Gen.shapeCasts_S1x15872x4096_S15872x4096) Cert.ReferenceInIdeal.Gen.bitsLt_bf16_f32)
      Cert.ReferenceInIdeal.Gen.transposes_S15872x4096_S4096x15872_1_0)

/-- The block each window takes at a grid point. -/
theorem idx : ∀ t : Fin cfg0.N, win0_0.index t = ![(grid0.coords t 0).val, 0]
    ∧ win0_1.index t = ![0, (grid0.coords t 1).val, 0]
    ∧ win0_2.index t = ![(grid0.coords t 0).val, (grid0.coords t 1).val] :=
  (by decide +kernel : ∀ t : Fin grid0.N, _)

/-- What a point stores at an index of its block is the reference's term at the array index it sits at. -/
theorem point (c : Dev nD) (t : Fin cfg0.N) (y : S1024x512.Idx) :
    k0_pay1 (iblk m c 0 t) (iblk m c 1 t) y
      = product (m ((c : Thread nD τ).loc main_arg0)) (m ((c : Thread nD τ).loc main_arg1))
          (((cfg0.win 2).blk t).view.emb y) := by
  pointwise [k0_pay1, product]
  blk_point [iblk, V, idx t]

/-- The result array after the run is the reference's term. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The input projection's kernel and its reference end with the same result. -/
theorem algebraic : Cert.algebraic_KernelInIdeal_ReferenceInIdeal := by
  intro m ρ m' ρ' _ hag
  refine ⟨fun c => product (m ((c : Thread nD τ).loc main_arg0)) (m ((c : Thread nD τ).loc main_arg1)), ?_, ?_⟩
  · exact (θ_run Cert.KernelInIdeal.defs _ _).mono (fun _ h c => ⟨(h c).1.trans (final m c), (h c).2⟩)
      (Cert.KernelInIdeal.Value.run_blocks (F := Ideal) m ρ)
  · refine (θ_run Cert.ReferenceInIdeal.defs _ _).mono (fun r h c => ⟨(h c).1.trans ?_, (h c).2⟩)
      (Cert.ReferenceInIdeal.Value.run (F := Ideal) m' ρ')
    rw [(hag c).1, (hag c).2]

end Cert.Proof.InProj

end
-- ==== Proof.OutProj.lean ====
/- The value of the output projection's call. -/
module

public import proofs.«01_k».proof.Defs
public import proofs.«01_k».proof.Proof.Gen.KernelOutIdeal.Value
public import proofs.«01_k».proof.Proof.Gen.ReferenceOutIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.OutProj

open Cert.KernelOutIdeal Cert.KernelOutIdeal.Gen

variable (m : (ℓ : Loc nD τ sig) → Buf (Elt Ideal) ℓ)

/-- The reference's term over the merged branches, the output weights and the residual stream. -/
abbrev product (a : FVec Ideal S16384x4096 .bf16) (w : FVec Ideal S4x4096x4096 .f32) (x : FVec Ideal S16384x4096 .f32) :
    FVec Ideal S16384x4096 .f32 :=
  addf x (Host.dotGeneral Cert.ReferenceOutIdeal.dot_S16384x4096_S4096x4096_S16384x4096_1_0_0_1_n_n none
    (extf .f32 a Cert.ReferenceOutIdeal.Gen.bitsLt_bf16_f32)
    (shapeCast _ (extractStridedSlice Cert.ReferenceOutIdeal.S1x4096x4096 ![0, 0, 0] w
      Cert.ReferenceOutIdeal.Gen.slices_S4x4096x4096_S1x4096x4096_0_0_0)
      Cert.ReferenceOutIdeal.Gen.shapeCasts_S1x4096x4096_S4096x4096))

/-- The block each window takes at a grid point. -/
theorem idx : ∀ t : Fin cfg0.N, win0_0.index t = ![(grid0.coords t 0).val, 0]
    ∧ win0_1.index t = ![0, 0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- What a point stores at an index of its block is the reference's term at the array index it sits at. -/
theorem point (c : Dev nD) (t : Fin cfg0.N) (y : S1024x512.Idx) :
    k0_pay1 (iblk m c 2 t) (iblk m c 0 t) (iblk m c 1 t) y
      = product (m ((c : Thread nD τ).loc main_arg0)) (m ((c : Thread nD τ).loc main_arg1))
          (m ((c : Thread nD τ).loc main_arg2)) (((cfg0.win 3).blk t).view.emb y) := by
  pointwise [k0_pay1, product]
  blk_point [iblk, V, idx t]

/-- The result array after the run is the reference's term. -/
theorem final (c : Dev nD) : (dats m 0 c).arrAt 3 cfg0.N
    = product (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

/-- The output projection's kernel and its reference end with the same result. -/
theorem algebraic : Cert.algebraic_KernelOutIdeal_ReferenceOutIdeal := by
  intro m ρ m' ρ' _ hag
  refine ⟨fun c => product (m ((c : Thread nD τ).loc main_arg0)) (m ((c : Thread nD τ).loc main_arg1))
    (m ((c : Thread nD τ).loc main_arg2)), ?_, ?_⟩
  · exact (θ_run Cert.KernelOutIdeal.defs _ _).mono (fun _ h c => ⟨(h c).1.trans (final m c), (h c).2⟩)
      (Cert.KernelOutIdeal.Value.run_blocks (F := Ideal) m ρ)
  · refine (θ_run Cert.ReferenceOutIdeal.defs _ _).mono (fun r h c => ⟨(h c).1.trans ?_, (h c).2⟩)
      (Cert.ReferenceOutIdeal.Value.run (F := Ideal) m' ρ')
    rw [(hag c).1, (hag c).2.1, (hag c).2.2]

end Cert.Proof.OutProj

end
-- ==== Proof.Merge.lean ====
/- The value of the gated merge's call. -/
module

public import proofs.«01_k».proof.Defs
public import proofs.«01_k».proof.Proof.Gen.KernelMergeIdeal.Value
public import proofs.«01_k».proof.Proof.Gen.ReferenceMergeIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Merge

open Cert.KernelMergeIdeal Cert.KernelMergeIdeal.Gen

variable (m : (ℓ : Loc nD τ sig) → Buf (Elt Ideal) ℓ)

/-- The block each window takes at a grid point. -/
theorem idx : ∀ t : Fin cfg0.N, win0_0.index t = ![(grid0.coords t 0).val, 0]
    ∧ win0_1.index t = ![(grid0.coords t 0).val, 0] ∧ win0_2.index t = ![(grid0.coords t 0).val, 0]
    ∧ win0_3.index t = ![(grid0.coords t 0).val, 0]
    ∧ win0_4.index t = ![(grid0.coords t 0).val, (grid0.coords t 1).val]
    ∧ win0_5.index t = ![0, 0, 0, (grid0.coords t 1).val]
    ∧ win0_6.index t = ![0, 0, (grid0.coords t 1).val, 0, 0]
    ∧ win0_7.index t = ![0, 0, (grid0.coords t 1).val]
    ∧ win0_8.index t = ![(grid0.coords t 0).val, (grid0.coords t 1).val] :=
  (by decide +kernel : ∀ t : Fin grid0.N, _)

/-- One gated branch at row `r` and column `l`: the sigmoid of the block-diagonal gate and its bias, times the branch's
    projection. -/
def branch (y : FVec Ideal S16384x1024 .bf16) (h : FVec Ideal S16384x4096 .bf16) (wb : FVec Ideal S4x4x1024x4096 .bf16)
    (wm : FVec Ideal S4x4x16x256x256 .bf16) (bm : FVec Ideal S4x4x4096 .f32) (b : Fin 4) (r : Fin 16384) (l : Fin 4096) :
    EReal :=
  Ideal.logistic ((∑ x : Fin 256,
      h (ix2 r (⟨(l : ℕ) / 256 * 256 + x, by omega⟩ : Fin 4096))
        * wm (ix5 0 b (⟨(l : ℕ) / 256, by omega⟩ : Fin 16) x (⟨(l : ℕ) % 256, by omega⟩ : Fin 256))) + bm (ix3 0 b l))
    * ∑ x : Fin 1024, y (ix2 r x) * wb (ix4 0 b x l)

/-- The same with the sigmoid as the reference spells it and the gate's products in its order. -/
theorem branch_eq (y : FVec Ideal S16384x1024 .bf16) (h : FVec Ideal S16384x4096 .bf16) (wb : FVec Ideal S4x4x1024x4096 .bf16)
    (wm : FVec Ideal S4x4x16x256x256 .bf16) (bm : FVec Ideal S4x4x4096 .f32) (b : Fin 4) (r : Fin 16384) (l : Fin 4096) :
    branch y h wb wm bm b r l = Ideal.div 1 (1 + Ideal.exp (-((∑ x : Fin 256,
      wm (ix5 0 b (⟨(l : ℕ) / 256, by omega⟩ : Fin 16) x (⟨(l : ℕ) % 256, by omega⟩ : Fin 256))
        * h (ix2 r (⟨(l : ℕ) / 256 * 256 + x, by omega⟩ : Fin 4096))) + bm (ix3 0 b l))))
    * ∑ x : Fin 1024, y (ix2 r x) * wb (ix4 0 b x l) := by
  unfold branch Ideal.logistic
  simp only [mul_comm (h _)]

/-- The four gated branches' sum, as an array. -/
def merged (ya yb yc yd : FVec Ideal S16384x1024 .bf16) (h : FVec Ideal S16384x4096 .bf16)
    (wb : FVec Ideal S4x4x1024x4096 .bf16) (wm : FVec Ideal S4x4x16x256x256 .bf16) (bm : FVec Ideal S4x4x4096 .f32) :
    FVec Ideal S16384x4096 .bf16 := fun i =>
  branch ya h wb wm bm 0 (i 0) (i 1) + branch yb h wb wm bm 1 (i 0) (i 1) + branch yc h wb wm bm 2 (i 0) (i 1)
    + branch yd h wb wm bm 3 (i 0) (i 1)

/-- What a point stores at an index of its block is the sum of the branches at the array index it sits at. -/
theorem point (c : Dev nD) (t : Fin cfg0.N) (y : S1024x512.Idx) :
    out0_8 (iblk m c 0 t) (iblk m c 1 t) (iblk m c 2 t) (iblk m c 3 t) (iblk m c 4 t) (iblk m c 5 t) (iblk m c 6 t)
        (iblk m c 7 t) y
      = merged (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (((cfg0.win 8).blk t).view.emb y) := by
  frame_out
  pointwise [k0_pay1, k0_pay2, k0_pay3, k0_pay4, k0_pay5, k0_pay6, k0_pay7]
  unfold merged branch
  by_cases h : (y 1 : ℕ) < 256
  · simp only [h, dif_pos]
    blk_point [iblk, V, idx t]
  · simp only [h, dif_neg, not_false_eq_true]
    blk_point [iblk, V, idx t]

/-- The reference's result, at an index. -/
theorem reference_at (mR : (ℓ : Loc Cert.ReferenceMergeIdeal.nD Cert.ReferenceMergeIdeal.τ Cert.ReferenceMergeIdeal.sig) → Buf (Elt Ideal) ℓ) (c : Dev Cert.ReferenceMergeIdeal.nD) :
   Cert.ReferenceMergeIdeal.Value.res_main_v97 mR c = merged (mR ((c.tc : Thread Cert.ReferenceMergeIdeal.nD Cert.ReferenceMergeIdeal.τ).loc Cert.ReferenceMergeIdeal.main_arg0))
     (mR ((c.tc : Thread Cert.ReferenceMergeIdeal.nD Cert.ReferenceMergeIdeal.τ).loc Cert.ReferenceMergeIdeal.main_arg1))
     (mR ((c.tc : Thread Cert.ReferenceMergeIdeal.nD Cert.ReferenceMergeIdeal.τ).loc Cert.ReferenceMergeIdeal.main_arg2))
     (mR ((c.tc : Thread Cert.ReferenceMergeIdeal.nD Cert.ReferenceMergeIdeal.τ).loc Cert.ReferenceMergeIdeal.main_arg3))
     (mR ((c.tc : Thread Cert.ReferenceMergeIdeal.nD Cert.ReferenceMergeIdeal.τ).loc Cert.ReferenceMergeIdeal.main_arg4))
     (mR ((c.tc : Thread Cert.ReferenceMergeIdeal.nD Cert.ReferenceMergeIdeal.τ).loc Cert.ReferenceMergeIdeal.main_arg5))
     (mR ((c.tc : Thread Cert.ReferenceMergeIdeal.nD Cert.ReferenceMergeIdeal.τ).loc Cert.ReferenceMergeIdeal.main_arg6))
     (mR ((c.tc : Thread Cert.ReferenceMergeIdeal.nD Cert.ReferenceMergeIdeal.τ).loc Cert.ReferenceMergeIdeal.main_arg7)) := by
  funext i
  refine Eq.trans ?_ (congrArg₂ (· + ·) (congrArg₂ (· + ·) (congrArg₂ (· + ·) (branch_eq ..).symm (branch_eq ..).symm)
    (branch_eq ..).symm) (branch_eq ..).symm)
  pointwise [Cert.ReferenceMergeIdeal.Value.res_main_v97]

/-- The result array after the run is the sum of the branches. -/
theorem final (c : Dev nD) : (dats m 0 c).arrAt 8 cfg0.N
    = merged (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (dats m 0 c).arrAt_eq_of_covers 8 _ (by decide +kernel) fun t _ y => ?_
  blk_simp
  rw [after0_8]
  exact point m c t y

/-- The gated merge's kernel and its reference end with the same result. -/
theorem algebraic : Cert.algebraic_KernelMergeIdeal_ReferenceMergeIdeal := by
  intro m ρ m' ρ' _ hag
  refine ⟨fun c => merged (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)), ?_, ?_⟩
  · exact (θ_run Cert.KernelMergeIdeal.defs _ _).mono (fun _ h c => ⟨(h c).1.trans (final m c), (h c).2⟩)
      (Cert.KernelMergeIdeal.Value.run_blocks (F := Ideal) m ρ)
  · refine (θ_run Cert.ReferenceMergeIdeal.defs _ _).mono (fun r h c => ⟨(h c).1.trans ?_, (h c).2⟩)
      (Cert.ReferenceMergeIdeal.Value.run (F := Ideal) m' ρ')
    obtain ⟨h0, h1, h2, h3, h4, h5, h6, h7⟩ := hag c
    rw [reference_at, h0, h1, h2, h3, h4, h5, h6, h7]

end Cert.Proof.Merge

end
-- ==== Proof.FoxStep.lean ====
module

public import proofs.«01_k».proof.Defs
public import proofs.«01_k».proof.Proof.Gen.KernelIdeal.Value
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem

namespace Cert.Proof.Fox
open Cert.KernelIdeal Cert.KernelIdeal.Gen

/-! ## One trip of the loop over key chunks, as functions of vectors -/

/-- A chunk's scores: its keys against the tile's queries. -/
def scores (k : FVec Ideal S512x128 .bf16) (q : FVec Ideal S1024x128 .bf16) : FVec Ideal S512x1024 .f32 :=
  matmul dot_S512x128_S1024x128_S512x1024_1_1_0_0_n_n none k q (constant S512x1024 .f32 0x00000000#32)

/-- The keys' bias: the column of the head numbered `w`, times the named constant. -/
def colBias (w : BitVec 32) (lane : IVec S512x128 32) (cc : FVec Ideal S512x128 .f32) : FVec Ideal S512x1 .f32 :=
  mulf (shapeCast S512x1 (multiReduction .add [1] S512
      (select (cmpi .eq lane (broadcast S512x128 w)) cc (broadcast S512x128 (Scalar.ofBits .f32 0x00000000#32)))
      0x00000000#32 reduces_S512x128_S512 (.inl rfl) rfl) shapeCasts_S512_S512x1)
    (broadcast S512x1 (Named.named κ "log2e" 0x3FB8AA3B#32))

/-- The column slices of the scores fit. -/
theorem slicesK (j : Fin 8) : S512x1024.Slices ![0, 128 * j.val] S512x128 := by revert j; decide
theorem slicesQ (j : Fin 8) : S1x1024.Slices ![0, 128 * j.val] S1x128 := by revert j; decide

/-- The scaled and biased scores of the `j`-th 128 queries. -/
def tile (s : FVec Ideal S512x1024 .f32) (b : FVec Ideal S512x1 .f32) (j : Fin 8) : FVec Ideal S512x128 .f32 :=
  subf (mulf (extractStridedSlice S512x128 ![0, 128 * j.val] s (slicesK j))
      (broadcast S512x128 (Named.named κ "scale_log2e" 0x3E0293EE#32)))
    (broadcastTo S512x128 b broadcasts_S512x1_S512x128)

/-- The same, keys after the query masked off: `kb` the chunk's first key, `qb` the tile's first query. -/
def maskTile (kb qb : BitVec 32) (row lane : IVec S512x128 32) (s : FVec Ideal S512x1024 .f32) (b : FVec Ideal S512x1 .f32)
    (j : Fin 8) : FVec Ideal S512x128 .f32 :=
  select (cmpi .sle (addi (broadcast S512x128 kb) row)
      (addi (broadcast S512x128 (Scalar.addi qb (BitVec.ofNat 32 (128 * j.val)))) lane))
    (tile s b j) (broadcast S512x128 (Scalar.ofBits .f32 0xFF800000#32))

variable (y : Fin 8 → FVec Ideal S512x128 .f32) (cq mp : FVec Ideal S1x1024 .f32)

/-- The running maximum of the `j`-th 128 queries after the chunk. -/
def maxTile (j : Fin 8) : FVec Ideal S1x128 .f32 :=
  maximumf (extractStridedSlice S1x128 ![0, 128 * j.val] mp (slicesQ j))
    (addf (shapeCast S1x128 (multiReduction .maximumf [0] S128 (y j) 0xFF800000#32 reduces_S512x128_S128 (.inl rfl) rfl)
        shapeCasts_S128_S1x128)
      (extractStridedSlice S1x128 ![0, 128 * j.val] cq (slicesQ j)))

/-- The weights of the chunk's keys for the `j`-th 128 queries. -/
def weightTile (j : Fin 8) : FVec Ideal S512x128 .bf16 :=
  truncf .bf16 (exp2 (subf (y j) (broadcastTo S512x128
    (subf (maxTile y cq mp j) (extractStridedSlice S1x128 ![0, 128 * j.val] cq (slicesQ j)))
    broadcasts_S1x128_S512x128))) bitsLt_bf16_f32

/-- The factor the earlier sums of the `j`-th 128 queries are rescaled by. -/
def decayTile (j : Fin 8) : FVec Ideal S1x128 .f32 :=
  exp2 (subf (extractStridedSlice S1x128 ![0, 128 * j.val] mp (slicesQ j)) (maxTile y cq mp j))

/-- Eight tiles of one row side by side. -/
def rowOf (v : Fin 8 → FVec Ideal S1x128 .f32) : FVec Ideal S1x1024 .f32 :=
  concatenate S1x1024 1 [⟨S1x128, v 0⟩, ⟨S1x128, v 1⟩, ⟨S1x128, v 2⟩, ⟨S1x128, v 3⟩, ⟨S1x128, v 4⟩, ⟨S1x128, v 5⟩,
    ⟨S1x128, v 6⟩, ⟨S1x128, v 7⟩] concatenates_S1x128_S1x128_S1x128_S1x128_S1x128_S1x128_S1x128_S1x128_S1x1024_d1

/-- Eight tiles of a chunk's weights side by side. -/
def blockOf (v : Fin 8 → FVec Ideal S512x128 .bf16) : FVec Ideal S512x1024 .bf16 :=
  concatenate S512x1024 1 [⟨S512x128, v 0⟩, ⟨S512x128, v 1⟩, ⟨S512x128, v 2⟩, ⟨S512x128, v 3⟩, ⟨S512x128, v 4⟩,
    ⟨S512x128, v 5⟩, ⟨S512x128, v 6⟩, ⟨S512x128, v 7⟩]
    concatenates_S512x128_S512x128_S512x128_S512x128_S512x128_S512x128_S512x128_S512x128_S512x1024_d1

/-- The running maximum the trip stores for a head. -/
def newMax (y : Fin 8 → FVec Ideal S512x128 .f32) (cq : FVec Ideal S1x1024 .f32) (mp : FVec Ideal S1x1x1024 .f32) :
    FVec Ideal S1x1x1024 .f32 :=
  shapeCast S1x1x1024 (rowOf (maxTile y cq (shapeCast S1x1024 mp shapeCasts_S1x1x1024_S1x1024))) shapeCasts_S1x1024_S1x1x1024

/-- The running sums the trip stores for a head. -/
def newAcc (y : Fin 8 → FVec Ideal S512x128 .f32) (cq : FVec Ideal S1x1024 .f32) (mp : FVec Ideal S1x1x1024 .f32)
    (acc : FVec Ideal S1x144x1024 .f32) (vt : FVec Ideal S1x1x144x512 .bf16) : FVec Ideal S1x144x1024 .f32 :=
  shapeCast S1x144x1024
    (addf (mulf (broadcastTo S144x1024 (rowOf (decayTile y cq (shapeCast S1x1024 mp shapeCasts_S1x1x1024_S1x1024)))
          broadcasts_S1x1024_S144x1024)
        (shapeCast S144x1024 acc shapeCasts_S1x144x1024_S144x1024))
      (matmul dot_S144x512_S512x1024_S144x1024_1_0_0_1_n_n none (shapeCast S144x512 vt shapeCasts_S1x1x144x512_S144x512)
        (blockOf (weightTile y cq (shapeCast S1x1024 mp shapeCasts_S1x1x1024_S1x1024)))
        (constant S144x1024 .f32 0x00000000#32)))
    shapeCasts_S144x1024_S1x144x1024

variable (𝒱 : Variants) (c : Dev nD) (bd : Option 𝒱.V) (i : grid0.Coords) (arg3 : Memref sig .tc .vmem S1024x512 .bf16) (harg3 : arg3.IsWhole) (arg4 : Memref sig .tc .vmem S8192x512 .bf16) (harg4 : arg4.IsWhole) (arg5 : Memref sig .tc .vmem S16x4x144x512 .bf16) (harg5 : arg5.IsWhole) (arg6 : Memref sig .tc .vmem S8192x128 .f32) (harg6 : arg6.IsWhole) (arg7 : Memref sig .tc .vmem S1x8x1024 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S4x1x1024 .f32) (harg10 : arg10.IsWhole) (arg11 : Memref sig .tc .vmem S4x144x1024 .f32) (harg11 : arg11.IsWhole)
  (v0 v1 : BitVec 32) (v2 : IVec S512x128 32) (v14 v23 v32 v41 : FVec Ideal S1x1024 .f32) (v50 v51 : IVec S512x128 32) (v68 v71 c512_i32_30 v72 : BitVec 32) (v73 : BitVec 1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
  (f10 : BufTy.Contents (Elt Ideal) arg10.view.ty) (f11 : BufTy.Contents (Elt Ideal) arg11.view.ty)

/-- The keys of a chunk, for one head. -/
abbrev keysAt (off : Fin 2 → ℕ) (h : ∀ a, off a + S512x128.size a ≤ S8192x512.size a) : FVec Ideal S512x128 .bf16 :=
  View.readAt (Elt Ideal) arg4.view (Rect.unit (s := S8192x512) off S512x128.size h).toLoadRect X_arg4
/-- The queries of a tile, for one head. -/
abbrev queriesAt (off : Fin 2 → ℕ) (h : ∀ a, off a + S1024x128.size a ≤ S1024x512.size a) : FVec Ideal S1024x128 .bf16 :=
  View.readAt (Elt Ideal) arg3.view (Rect.unit (s := S1024x512) off S1024x128.size h).toLoadRect X_arg3
/-- The values of a chunk, for one head. -/
abbrev valuesAt (off : Fin 4 → ℕ) (h : ∀ a, off a + S1x1x144x512.size a ≤ S16x4x144x512.size a) : FVec Ideal S1x1x144x512 .bf16 :=
  View.readAt (Elt Ideal) arg5.view (Rect.unit (s := S16x4x144x512) off S1x1x144x512.size h).toLoadRect X_arg5
/-- The keys' cumulative log-forgets of a chunk. -/
abbrev forgetsAt (off : Fin 2 → ℕ) (h : ∀ a, off a + S512x128.size a ≤ S8192x128.size a) : FVec Ideal S512x128 .f32 :=
  View.readAt (Elt Ideal) arg6.view (Rect.unit (s := S8192x128) off S512x128.size h).toLoadRect X_arg6
/-- The running maximum of one head. -/
abbrev maxAt (off : Fin 3 → ℕ) (h : ∀ a, off a + S1x1x1024.size a ≤ S4x1x1024.size a) : FVec Ideal S1x1x1024 .f32 :=
  View.readAt (Elt Ideal) arg10.view (Rect.unit (s := S4x1x1024) off S1x1x1024.size h).toLoadRect f10
/-- The running sums of one head. -/
abbrev accAt (off : Fin 3 → ℕ) (h : ∀ a, off a + S1x144x1024.size a ≤ S4x144x1024.size a) : FVec Ideal S1x144x1024 .f32 :=
  View.readAt (Elt Ideal) arg11.view (Rect.unit (s := S4x144x1024) off S1x144x1024.size h).toLoadRect f11

set_option maxHeartbeats 4000000 in
/-- What a trip of the unmasked loop stores: each head's maximum and sums. -/
theorem trip1 (k : Fin (k0_t1_loop i).trips) :
    tripL_k0_t1 (F := Ideal) 𝒱 c bd i arg3 harg3 arg4 harg4 arg5 harg5 arg6 harg6 arg7 harg7 arg8 harg8 arg9 harg9 arg10 harg10 arg11 harg11 v0 v1 v2 v14 v23 v32 v41 v50 v51 v68 v71 c512_i32_30 v72 v73 X_arg3 X_arg4 X_arg5 X_arg6 k f10 f11
      = ([⟨Rect.unit ![3, 0, 0] S1x1x1024.size inb_S4x1x1024_S1x1x1024_3_0_0,
          newMax (tile (scores (keysAt arg4 X_arg4 (k0_off8 i k) (k0_off8_inb i k)) (queriesAt arg3 X_arg3 ![0, 384] inb_S1024x512_S1024x128_0_384)) (colBias (Scalar.addi v0 3#32) v2 (forgetsAt arg6 X_arg6 (k0_off2 i k) (k0_off2_inb i k))))
            v41 (maxAt arg10 f10 ![3, 0, 0] inb_S4x1x1024_S1x1x1024_3_0_0)⟩,
        ⟨Rect.unit ![2, 0, 0] S1x1x1024.size inb_S4x1x1024_S1x1x1024_2_0_0,
          newMax (tile (scores (keysAt arg4 X_arg4 (k0_off6 i k) (k0_off6_inb i k)) (queriesAt arg3 X_arg3 ![0, 256] inb_S1024x512_S1024x128_0_256)) (colBias (Scalar.addi v0 2#32) v2 (forgetsAt arg6 X_arg6 (k0_off2 i k) (k0_off2_inb i k))))
            v32 (maxAt arg10 f10 ![2, 0, 0] inb_S4x1x1024_S1x1x1024_2_0_0)⟩,
        ⟨Rect.unit ![1, 0, 0] S1x1x1024.size inb_S4x1x1024_S1x1x1024_1_0_0,
          newMax (tile (scores (keysAt arg4 X_arg4 (k0_off4 i k) (k0_off4_inb i k)) (queriesAt arg3 X_arg3 ![0, 128] inb_S1024x512_S1024x128_0_128)) (colBias (Scalar.addi v0 1#32) v2 (forgetsAt arg6 X_arg6 (k0_off2 i k) (k0_off2_inb i k))))
            v23 (maxAt arg10 f10 ![1, 0, 0] inb_S4x1x1024_S1x1x1024_1_0_0)⟩,
        ⟨Rect.unit ![0, 0, 0] S1x1x1024.size inb_S4x1x1024_S1x1x1024_0_0_0,
          newMax (tile (scores (keysAt arg4 X_arg4 (k0_off1 i k) (k0_off1_inb i k)) (queriesAt arg3 X_arg3 ![0, 0] inb_S1024x512_S1024x128_0_0)) (colBias (Scalar.addi v0 0#32) v2 (forgetsAt arg6 X_arg6 (k0_off2 i k) (k0_off2_inb i k))))
            v14 (maxAt arg10 f10 ![0, 0, 0] inb_S4x1x1024_S1x1x1024_0_0_0)⟩],
        [⟨Rect.unit ![3, 0, 0] S1x144x1024.size inb_S4x144x1024_S1x144x1024_3_0_0,
          newAcc (tile (scores (keysAt arg4 X_arg4 (k0_off8 i k) (k0_off8_inb i k)) (queriesAt arg3 X_arg3 ![0, 384] inb_S1024x512_S1024x128_0_384)) (colBias (Scalar.addi v0 3#32) v2 (forgetsAt arg6 X_arg6 (k0_off2 i k) (k0_off2_inb i k))))
            v41 (maxAt arg10 f10 ![3, 0, 0] inb_S4x1x1024_S1x1x1024_3_0_0) (accAt arg11 f11 ![3, 0, 0] inb_S4x144x1024_S1x144x1024_3_0_0)
            (valuesAt arg5 X_arg5 (k0_off9 i k) (k0_off9_inb i k))⟩,
        ⟨Rect.unit ![2, 0, 0] S1x144x1024.size inb_S4x144x1024_S1x144x1024_2_0_0,
          newAcc (tile (scores (keysAt arg4 X_arg4 (k0_off6 i k) (k0_off6_inb i k)) (queriesAt arg3 X_arg3 ![0, 256] inb_S1024x512_S1024x128_0_256)) (colBias (Scalar.addi v0 2#32) v2 (forgetsAt arg6 X_arg6 (k0_off2 i k) (k0_off2_inb i k))))
            v32 (maxAt arg10 f10 ![2, 0, 0] inb_S4x1x1024_S1x1x1024_2_0_0) (accAt arg11 f11 ![2, 0, 0] inb_S4x144x1024_S1x144x1024_2_0_0)
            (valuesAt arg5 X_arg5 (k0_off7 i k) (k0_off7_inb i k))⟩,
        ⟨Rect.unit ![1, 0, 0] S1x144x1024.size inb_S4x144x1024_S1x144x1024_1_0_0,
          newAcc (tile (scores (keysAt arg4 X_arg4 (k0_off4 i k) (k0_off4_inb i k)) (queriesAt arg3 X_arg3 ![0, 128] inb_S1024x512_S1024x128_0_128)) (colBias (Scalar.addi v0 1#32) v2 (forgetsAt arg6 X_arg6 (k0_off2 i k) (k0_off2_inb i k))))
            v23 (maxAt arg10 f10 ![1, 0, 0] inb_S4x1x1024_S1x1x1024_1_0_0) (accAt arg11 f11 ![1, 0, 0] inb_S4x144x1024_S1x144x1024_1_0_0)
            (valuesAt arg5 X_arg5 (k0_off5 i k) (k0_off5_inb i k))⟩,
        ⟨Rect.unit ![0, 0, 0] S1x144x1024.size inb_S4x144x1024_S1x144x1024_0_0_0,
          newAcc (tile (scores (keysAt arg4 X_arg4 (k0_off1 i k) (k0_off1_inb i k)) (queriesAt arg3 X_arg3 ![0, 0] inb_S1024x512_S1024x128_0_0)) (colBias (Scalar.addi v0 0#32) v2 (forgetsAt arg6 X_arg6 (k0_off2 i k) (k0_off2_inb i k))))
            v14 (maxAt arg10 f10 ![0, 0, 0] inb_S4x1x1024_S1x1x1024_0_0_0) (accAt arg11 f11 ![0, 0, 0] inb_S4x144x1024_S1x144x1024_0_0_0)
            (valuesAt arg5 X_arg5 (k0_off3 i k) (k0_off3_inb i k))⟩]) := by
  unfold tripL_k0_t1 trip_k0_t1
  rfl

set_option maxHeartbeats 4000000 in
/-- What a trip of the masked loop stores: each head's maximum and sums. -/
theorem trip3 (k : Fin (k0_t3_loop i).trips) :
    tripL_k0_t3 (F := Ideal) 𝒱 c bd i arg3 harg3 arg4 harg4 arg5 harg5 arg6 harg6 arg7 harg7 arg8 harg8 arg9 harg9 arg10 harg10 arg11 harg11 v0 v1 v2 v14 v23 v32 v41 v50 v51 v68 v71 c512_i32_30 v72 v73 X_arg3 X_arg4 X_arg5 X_arg6 k f10 f11
      = ([⟨Rect.unit ![3, 0, 0] S1x1x1024.size inb_S4x1x1024_S1x1x1024_3_0_0,
          newMax (maskTile (Scalar.muli (Scf.iv v68 1#32 k) 512#32) v1 v50 v51 (scores (keysAt arg4 X_arg4 (k0_off26 i k) (k0_off26_inb i k)) (queriesAt arg3 X_arg3 ![0, 384] inb_S1024x512_S1024x128_0_384)) (colBias (Scalar.addi v0 3#32) v2 (forgetsAt arg6 X_arg6 (k0_off20 i k) (k0_off20_inb i k))))
            v41 (maxAt arg10 f10 ![3, 0, 0] inb_S4x1x1024_S1x1x1024_3_0_0)⟩,
        ⟨Rect.unit ![2, 0, 0] S1x1x1024.size inb_S4x1x1024_S1x1x1024_2_0_0,
          newMax (maskTile (Scalar.muli (Scf.iv v68 1#32 k) 512#32) v1 v50 v51 (scores (keysAt arg4 X_arg4 (k0_off24 i k) (k0_off24_inb i k)) (queriesAt arg3 X_arg3 ![0, 256] inb_S1024x512_S1024x128_0_256)) (colBias (Scalar.addi v0 2#32) v2 (forgetsAt arg6 X_arg6 (k0_off20 i k) (k0_off20_inb i k))))
            v32 (maxAt arg10 f10 ![2, 0, 0] inb_S4x1x1024_S1x1x1024_2_0_0)⟩,
        ⟨Rect.unit ![1, 0, 0] S1x1x1024.size inb_S4x1x1024_S1x1x1024_1_0_0,
          newMax (maskTile (Scalar.muli (Scf.iv v68 1#32 k) 512#32) v1 v50 v51 (scores (keysAt arg4 X_arg4 (k0_off22 i k) (k0_off22_inb i k)) (queriesAt arg3 X_arg3 ![0, 128] inb_S1024x512_S1024x128_0_128)) (colBias (Scalar.addi v0 1#32) v2 (forgetsAt arg6 X_arg6 (k0_off20 i k) (k0_off20_inb i k))))
            v23 (maxAt arg10 f10 ![1, 0, 0] inb_S4x1x1024_S1x1x1024_1_0_0)⟩,
        ⟨Rect.unit ![0, 0, 0] S1x1x1024.size inb_S4x1x1024_S1x1x1024_0_0_0,
          newMax (maskTile (Scalar.muli (Scf.iv v68 1#32 k) 512#32) v1 v50 v51 (scores (keysAt arg4 X_arg4 (k0_off19 i k) (k0_off19_inb i k)) (queriesAt arg3 X_arg3 ![0, 0] inb_S1024x512_S1024x128_0_0)) (colBias (Scalar.addi v0 0#32) v2 (forgetsAt arg6 X_arg6 (k0_off20 i k) (k0_off20_inb i k))))
            v14 (maxAt arg10 f10 ![0, 0, 0] inb_S4x1x1024_S1x1x1024_0_0_0)⟩],
        [⟨Rect.unit ![3, 0, 0] S1x144x1024.size inb_S4x144x1024_S1x144x1024_3_0_0,
          newAcc (maskTile (Scalar.muli (Scf.iv v68 1#32 k) 512#32) v1 v50 v51 (scores (keysAt arg4 X_arg4 (k0_off26 i k) (k0_off26_inb i k)) (queriesAt arg3 X_arg3 ![0, 384] inb_S1024x512_S1024x128_0_384)) (colBias (Scalar.addi v0 3#32) v2 (forgetsAt arg6 X_arg6 (k0_off20 i k) (k0_off20_inb i k))))
            v41 (maxAt arg10 f10 ![3, 0, 0] inb_S4x1x1024_S1x1x1024_3_0_0) (accAt arg11 f11 ![3, 0, 0] inb_S4x144x1024_S1x144x1024_3_0_0)
            (valuesAt arg5 X_arg5 (k0_off27 i k) (k0_off27_inb i k))⟩,
        ⟨Rect.unit ![2, 0, 0] S1x144x1024.size inb_S4x144x1024_S1x144x1024_2_0_0,
          newAcc (maskTile (Scalar.muli (Scf.iv v68 1#32 k) 512#32) v1 v50 v51 (scores (keysAt arg4 X_arg4 (k0_off24 i k) (k0_off24_inb i k)) (queriesAt arg3 X_arg3 ![0, 256] inb_S1024x512_S1024x128_0_256)) (colBias (Scalar.addi v0 2#32) v2 (forgetsAt arg6 X_arg6 (k0_off20 i k) (k0_off20_inb i k))))
            v32 (maxAt arg10 f10 ![2, 0, 0] inb_S4x1x1024_S1x1x1024_2_0_0) (accAt arg11 f11 ![2, 0, 0] inb_S4x144x1024_S1x144x1024_2_0_0)
            (valuesAt arg5 X_arg5 (k0_off25 i k) (k0_off25_inb i k))⟩,
        ⟨Rect.unit ![1, 0, 0] S1x144x1024.size inb_S4x144x1024_S1x144x1024_1_0_0,
          newAcc (maskTile (Scalar.muli (Scf.iv v68 1#32 k) 512#32) v1 v50 v51 (scores (keysAt arg4 X_arg4 (k0_off22 i k) (k0_off22_inb i k)) (queriesAt arg3 X_arg3 ![0, 128] inb_S1024x512_S1024x128_0_128)) (colBias (Scalar.addi v0 1#32) v2 (forgetsAt arg6 X_arg6 (k0_off20 i k) (k0_off20_inb i k))))
            v23 (maxAt arg10 f10 ![1, 0, 0] inb_S4x1x1024_S1x1x1024_1_0_0) (accAt arg11 f11 ![1, 0, 0] inb_S4x144x1024_S1x144x1024_1_0_0)
            (valuesAt arg5 X_arg5 (k0_off23 i k) (k0_off23_inb i k))⟩,
        ⟨Rect.unit ![0, 0, 0] S1x144x1024.size inb_S4x144x1024_S1x144x1024_0_0_0,
          newAcc (maskTile (Scalar.muli (Scf.iv v68 1#32 k) 512#32) v1 v50 v51 (scores (keysAt arg4 X_arg4 (k0_off19 i k) (k0_off19_inb i k)) (queriesAt arg3 X_arg3 ![0, 0] inb_S1024x512_S1024x128_0_0)) (colBias (Scalar.addi v0 0#32) v2 (forgetsAt arg6 X_arg6 (k0_off20 i k) (k0_off20_inb i k))))
            v14 (maxAt arg10 f10 ![0, 0, 0] inb_S4x1x1024_S1x1x1024_0_0_0) (accAt arg11 f11 ![0, 0, 0] inb_S4x144x1024_S1x144x1024_0_0_0)
            (valuesAt arg5 X_arg5 (k0_off21 i k) (k0_off21_inb i k))⟩]) := by
  unfold tripL_k0_t3 trip_k0_t3
  rfl

end Cert.Proof.Fox

end
-- ==== Proof.FoxPoint.lean ====
module

public import proofs.«01_k».proof.Proof.FoxStep

@[expose] public section

set_option maxRecDepth 16384

noncomputable section

open Idealize.ShloMosaic Idealize.ShloMosaic.TcCoe Idealize.SL.Sem

namespace Cert.Proof.Fox
open Cert.KernelIdeal Cert.KernelIdeal.Gen

/-! ## A trip's vectors at an index -/

/-- Eight row tiles side by side, at an index. -/
theorem rowOf_at (v : Fin 8 → FVec Ideal S1x128 .f32) (q : Fin 1024) (j : Fin 8) (l : Fin 128) (h : q.val = 128 * j.val + l.val) :
    rowOf v (ix2 0 q) = v j (ix2 0 l) := by
  unfold rowOf
  exact concatenate_ofFn_apply (t := S1x1024) (s₁ := S1x128) 1 v
    concatenates_S1x128_S1x128_S1x128_S1x128_S1x128_S1x128_S1x128_S1x128_S1x1024_d1 rfl 128 rfl (ix2 0 q) j
    (by show q.val / 128 = j.val; omega) (ix2 0 l) (by show l.val = q.val % 128; omega)
    (by intro b hb; fin_cases b; · rfl
        · exact absurd rfl hb)

/-- Eight weight tiles side by side, at an index. -/
theorem blockOf_at (v : Fin 8 → FVec Ideal S512x128 .bf16) (k : Fin 512) (q : Fin 1024) (j : Fin 8) (l : Fin 128)
    (h : q.val = 128 * j.val + l.val) : blockOf v (ix2 k q) = v j (ix2 k l) := by
  unfold blockOf
  exact concatenate_ofFn_apply (t := S512x1024) (s₁ := S512x128) 1 v
    concatenates_S512x128_S512x128_S512x128_S512x128_S512x128_S512x128_S512x128_S512x128_S512x1024_d1 rfl 128 rfl (ix2 k q) j
    (by show q.val / 128 = j.val; omega) (ix2 k l) (by show l.val = q.val % 128; omega)
    (by intro b hb; fin_cases b; · rfl
        · exact absurd rfl hb)

/-- A chunk's score is the sum of products over the head's coordinates. -/
theorem scores_at (k : FVec Ideal S512x128 .bf16) (q : FVec Ideal S1024x128 .bf16) (a : Fin 512) (b : Fin 1024) :
    scores k q (ix2 a b) = ∑ d : Fin 128, k (ix2 a d) * q (ix2 b d) := by
  pointwise [scores]

/-- The named constant of the biases. -/
theorem log2e_eq : Named.named (F := Ideal) κ (φ := .f32) "log2e" 0x3FB8AA3B#32 = (((Real.log 2)⁻¹ : ℝ) : EReal) := rfl

/-- The named constant of the scores. -/
theorem scaleLog2e_eq : Named.named (F := Ideal) κ (φ := .f32) "scale_log2e" 0x3E0293EE#32
    = (((Real.sqrt 128)⁻¹ * (Real.log 2)⁻¹ : ℝ) : EReal) := rfl

/-- The word of negative infinity. -/
theorem negInf_eq : Ideal.ofBits FTy.f32 0xFF800000#32 = ⊥ := by
  simp [Ideal.ofBits, Ideal.ieee]

/-- Among fewer than 2^32 lanes the one of a given number is picked out of a sum. -/
theorem sum_pick {N : ℕ} (hN : N ≤ 2 ^ 32) (w : Fin N) (f : Fin N → EReal) :
    (∑ x : Fin N, Scalar.select (IntOp.cmpi CmpIPredicate.eq (BitVec.ofNat 32 x.val) (BitVec.ofNat 32 w.val)) (f x) 0) = f w := by
  rw [Finset.sum_eq_single w]
  · simp [IntOp.cmpi, Scalar.select]
  · intro x _ hx
    have hne : ¬ (BitVec.ofNat 32 x.val = BitVec.ofNat 32 w.val) := by
      intro h
      have := congrArg BitVec.toNat h
      simp only [BitVec.toNat_ofNat] at this
      rw [Nat.mod_eq_of_lt (by omega), Nat.mod_eq_of_lt (by omega)] at this
      exact hx (Fin.ext this)
    rw [show IntOp.cmpi CmpIPredicate.eq (BitVec.ofNat 32 x.val) (BitVec.ofNat 32 w.val) = 0#1 by
      rw [IntOp.cmpi, beq_eq_false_iff_ne.mpr hne]; rfl]
    rfl
  · intro h; exact absurd (Finset.mem_univ _) h

/-- The keys' bias at a key. -/
theorem colBias_at (n : Fin 128) (cc : FVec Ideal S512x128 .f32) (k : Fin 512) :
    colBias (BitVec.ofNat 32 n.val) (iota .tc S512x128 32 [1] iota_S512x128_d1_w32) cc (ix2 k 0)
      = cc (ix2 k n) * (((Real.log 2)⁻¹ : ℝ) : EReal) := by
  pointwise [colBias]
  rw [sum_pick (by norm_num) n (fun x => cc (ix2 k x)), log2e_eq]

/-- A scaled and biased score at an index. -/
theorem tile_at (s : FVec Ideal S512x1024 .f32) (b : FVec Ideal S512x1 .f32) (k : Fin 512) (q : Fin 1024) (j : Fin 8) (l : Fin 128)
    (h : q.val = 128 * j.val + l.val) :
    tile s b j (ix2 k l) = s (ix2 k q) * (((Real.sqrt 128)⁻¹ * (Real.log 2)⁻¹ : ℝ) : EReal) - b (ix2 k 0) := by
  have hb : 128 * j.val + l.val < 1024 := by omega
  obtain rfl : q = ⟨128 * j.val + l.val, hb⟩ := Fin.ext h
  pointwise [tile]
  rw [scaleLog2e_eq]

variable (y : Fin 8 → FVec Ideal S512x128 .f32) (cq : FVec Ideal S1x1024 .f32) (mp : FVec Ideal S1x1x1024 .f32)

/-- The new maximum of one tile at an index. -/
theorem maxTile_at (q : Fin 1024) (j : Fin 8) (l : Fin 128) (h : q.val = 128 * j.val + l.val) :
    maxTile y cq (shapeCast S1x1024 mp shapeCasts_S1x1x1024_S1x1024) j (ix2 0 l)
      = max (mp (ix3 0 0 q)) (((Finset.univ : Finset (Fin 512)).fold max ⊥ fun k => y j (ix2 k l)) + cq (ix2 0 q)) := by
  have hb : 128 * j.val + l.val < 1024 := by omega
  obtain rfl : q = ⟨128 * j.val + l.val, hb⟩ := Fin.ext h
  pointwise [maxTile]
  rw [negInf_eq]

/-- The stored maximum at an index. -/
theorem newMax_at (q : Fin 1024) (j : Fin 8) (l : Fin 128) (h : q.val = 128 * j.val + l.val) :
    newMax y cq mp (ix3 0 0 q)
      = max (mp (ix3 0 0 q)) (((Finset.univ : Finset (Fin 512)).fold max ⊥ fun k => y j (ix2 k l)) + cq (ix2 0 q)) := by
  pointwise [newMax]
  rw [rowOf_at _ q j l h, maxTile_at y cq mp q j l h]

/-- The stored sums at an index. -/
theorem newAcc_at (acc : FVec Ideal S1x144x1024 .f32) (vt : FVec Ideal S1x1x144x512 .bf16) (r : Fin 144) (q : Fin 1024)
    (j : Fin 8) (l : Fin 128) (h : q.val = 128 * j.val + l.val) :
    newAcc y cq mp acc vt (ix3 0 r q)
      = Ideal.exp2 (mp (ix3 0 0 q) - newMax y cq mp (ix3 0 0 q)) * acc (ix3 0 r q)
        + ∑ k : Fin 512, vt (ix4 0 0 r k) * Ideal.exp2 (y j (ix2 k l) - (newMax y cq mp (ix3 0 0 q) - cq (ix2 0 q))) := by
  have hd : decayTile y cq (shapeCast S1x1024 mp shapeCasts_S1x1x1024_S1x1024) j (ix2 0 l)
      = Ideal.exp2 (mp (ix3 0 0 q) - newMax y cq mp (ix3 0 0 q)) := by
    rw [newMax_at y cq mp q j l h, ← maxTile_at y cq mp q j l h]
    have hb : 128 * j.val + l.val < 1024 := by omega
    obtain rfl : q = ⟨128 * j.val + l.val, hb⟩ := Fin.ext h
    pointwise [decayTile]
    rfl
  have hw : ∀ k : Fin 512, weightTile y cq (shapeCast S1x1024 mp shapeCasts_S1x1x1024_S1x1024) j (ix2 k l)
      = Ideal.exp2 (y j (ix2 k l) - (newMax y cq mp (ix3 0 0 q) - cq (ix2 0 q))) := by
    intro k
    rw [newMax_at y cq mp q j l h, ← maxTile_at y cq mp q j l h]
    have hb : 128 * j.val + l.val < 1024 := by omega
    obtain rfl : q = ⟨128 * j.val + l.val, hb⟩ := Fin.ext h
    pointwise [weightTile]
    rfl
  rw [← hd]
  simp only [← hw]
  pointwise [newAcc]
  rw [rowOf_at _ q j l h]
  refine congrArg (_ + ·) (Finset.sum_congr rfl fun k _ => ?_)
  rw [blockOf_at _ k q j l h]

/-- A masked score at an index: the score where the key's position is at most the query's, else negative infinity. -/
theorem maskTile_at (kb qb : ℕ) (hk : kb + 512 ≤ 2 ^ 31) (hq : qb + 1024 ≤ 2 ^ 31) (s : FVec Ideal S512x1024 .f32)
    (b : FVec Ideal S512x1 .f32) (k : Fin 512) (q : Fin 1024) (j : Fin 8) (l : Fin 128) (h : q.val = 128 * j.val + l.val) :
    maskTile (BitVec.ofNat 32 kb) (BitVec.ofNat 32 qb) (iota .tc S512x128 32 [0] iota_S512x128_d0_w32)
        (iota .tc S512x128 32 [1] iota_S512x128_d1_w32) s b j (ix2 k l)
      = if kb + k.val ≤ qb + q.val then tile s b j (ix2 k l) else ⊥ := by
  pointwise [maskTile]
  have e1 : IntOp.addi (BitVec.ofNat 32 kb) (BitVec.ofNat 32 k.val) = BitVec.ofNat 32 (kb + k.val) :=
    (BitVec.ofNat_add kb k.val).symm
  have e2 : IntOp.addi (Scalar.addi (BitVec.ofNat 32 qb) (BitVec.ofNat 32 (128 * j.val))) (BitVec.ofNat 32 l.val)
      = BitVec.ofNat 32 (qb + q.val) := by
    rw [h, ← Nat.add_assoc, BitVec.ofNat_add, BitVec.ofNat_add]; rfl
  rw [e1, e2, WordCmp.cmpi_sle_ofNat (by omega) (by omega)]
  rw [negInf_eq]
  by_cases hc : kb + k.val ≤ qb + q.val <;> simp [hc, Scalar.select]

end Cert.Proof.Fox

end
-- ==== Proof.FoxMath.lean ====
module

public import proofs.«01_k».proof.Defs

@[expose] public section

noncomputable section

open Idealize.ShloMosaic

namespace Cert.Proof.Fox

/-! ## The running softmax over chunks of 512 keys, for one query

`Y` is the keys' scores without the query's own bias `c`, in base two, negative infinity where masked; `V` the values at one
coordinate. -/

/-- The running maximum after `n` chunks. -/
def runMax (Y : ℕ → EReal) (c : EReal) : ℕ → EReal
  | 0 => ⊥
  | n + 1 => max (runMax Y c n) (((Finset.univ : Finset (Fin 512)).fold max ⊥ fun k => Y (512 * n + k.val)) + c)

/-- The running sum after `n` chunks. -/
def runAcc (Y : ℕ → EReal) (c : EReal) (V : ℕ → EReal) : ℕ → EReal
  | 0 => 0
  | n + 1 => Ideal.exp2 (runMax Y c n - runMax Y c (n + 1)) * runAcc Y c V n
      + ∑ k : Fin 512, V (512 * n + k.val) * Ideal.exp2 (Y (512 * n + k.val) - (runMax Y c (n + 1) - c))

/-- A nonnegative real factor goes into a sum. -/
theorem mul_sum_of_nonneg {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The maximum over one chunk more. -/
theorem sup_range_succ (Y : ℕ → EReal) (n : ℕ) :
    (Finset.range (512 * (n + 1))).sup Y
      = max ((Finset.range (512 * n)).sup Y) ((Finset.univ : Finset (Fin 512)).sup fun k => Y (512 * n + k.val)) := by
  refine le_antisymm (Finset.sup_le fun k hk => ?_) (max_le (Finset.sup_mono fun k hk => ?_) (Finset.sup_le fun k _ => ?_))
  · by_cases h : k < 512 * n
    · exact le_max_of_le_left (Finset.le_sup (f := Y) (Finset.mem_range.mpr h))
    · have hk' := Finset.mem_range.mp hk
      refine le_max_of_le_right ?_
      have := Finset.le_sup (f := fun k : Fin 512 => Y (512 * n + k.val)) (Finset.mem_univ ⟨k - 512 * n, by omega⟩)
      simpa [show 512 * n + (k - 512 * n) = k by omega] using this
  · exact Finset.mem_range.mpr (by have := Finset.mem_range.mp hk; omega)
  · exact Finset.le_sup (f := Y) (Finset.mem_range.mpr (by have := k.isLt; omega))

/-- The running maximum is the maximum so far plus the query's bias. -/
theorem runMax_eq (Y : ℕ → EReal) (c : ℝ) (n : ℕ) : runMax Y c n = (Finset.range (512 * n)).sup Y + (c : EReal) := by
  induction n with
  | zero => simp [runMax]
  | succ n ih =>
    rw [runMax, ih, sup_range_succ]
    exact max_add_add_right _ _ _

variable (Y : ℕ → EReal) (c : ℝ)

/-- With every score real or negative infinity and the first real, the maximum over the chunks so far is some key's score. -/
theorem exists_max (hY : ∀ k, Y k = ⊥ ∨ ∃ r : ℝ, Y k = r) (h0 : ∃ r : ℝ, Y 0 = r) (n : ℕ) (hn : 0 < n) :
    ∃ k0 ∈ Finset.range (512 * n), ∃ r : ℝ, Y k0 = r ∧ (Finset.range (512 * n)).sup Y = r := by
  have hmem : (0 : ℕ) ∈ Finset.range (512 * n) := Finset.mem_range.mpr (by omega)
  obtain ⟨k0, hk0, hs⟩ := Finset.exists_mem_eq_sup _ ⟨0, hmem⟩ Y
  obtain ⟨r0, hr0⟩ := h0
  rcases hY k0 with h | ⟨r, hr⟩
  · have := Finset.le_sup (f := Y) hmem
    rw [hs, h, hr0] at this
    exact absurd this (by simp)
  · exact ⟨k0, hk0, r, hr, hs.trans hr⟩

/-- The running sum is the sum over all keys so far, weighted against the maximum so far. -/
theorem runAcc_eq (hY : ∀ k, Y k = ⊥ ∨ ∃ r : ℝ, Y k = r) (h0 : ∃ r : ℝ, Y 0 = r) (V : ℕ → EReal) (n : ℕ) :
    runAcc Y c V n = ∑ k ∈ Finset.range (512 * n), V k * Ideal.exp2 (Y k - (runMax Y c n - c)) := by
  induction n with
  | zero => simp [runAcc]
  | succ n ih =>
    rw [runAcc, Nat.mul_succ, Finset.sum_range_add, Finset.sum_range (n := 512)]
    refine congrArg (· + _) ?_
    rcases Nat.eq_zero_or_pos n with rfl | hn
    · simp [runAcc]
    obtain ⟨_, _, a, _, ha⟩ := exists_max Y hY h0 n hn
    obtain ⟨_, _, b, _, hb⟩ := exists_max Y hY h0 (n + 1) (Nat.succ_pos n)
    rw [ih, runMax_eq, runMax_eq, ha, hb]
    have hf : Ideal.exp2 ((a : EReal) + (c : EReal) - ((b : EReal) + (c : EReal))) = ((Real.rpow 2 (a + c - (b + c)) : ℝ) : EReal) := by
      rw [← EReal.coe_add, ← EReal.coe_add, ← EReal.coe_sub, Ideal.exp2_coe]
    rw [hf, mul_sum_of_nonneg _ _ (Real.rpow 2 (a + c - (b + c))) (Real.rpow_nonneg (by norm_num) _)]
    refine Finset.sum_congr rfl fun k _ => ?_
    rw [mul_left_comm]
    refine congrArg (V k * ·) ?_
    rcases hY k with h | ⟨r, hr⟩
    · rw [h]; simp [← EReal.coe_add, ← EReal.coe_sub]
    · rw [hr]
      simp only [← EReal.coe_add, ← EReal.coe_sub, Ideal.exp2_coe, ← EReal.coe_mul]
      refine congrArg _ ?_
      refine (Real.rpow_add (by norm_num : (0 : ℝ) < 2) _ _).symm.trans ?_
      exact congrArg (Real.rpow 2) (by ring)

/-- The running softmax over the chunks that hold every unmasked key is the softmax of the natural scores over all keys. -/
theorem running_softmax (L V : ℕ → EReal) (n K : ℕ) (hn : 0 < n) (hK : 512 * n ≤ K)
    (hYL : ∀ k, (Y k = ⊥ ∧ L k = ⊥) ∨ ∃ y l : ℝ, Y k = y ∧ L k = l ∧ Real.log 2 * (y + c) = l)
    (h0 : ∃ r : ℝ, Y 0 = r) (hL : ∀ k, 512 * n ≤ k → L k = ⊥) :
    Ideal.div (runAcc Y c V n) (runAcc Y c (fun _ => 1) n)
      = ∑ k ∈ Finset.range K, V k * Ideal.div (Ideal.exp (L k - (Finset.range K).sup L))
          (∑ k ∈ Finset.range K, Ideal.exp (L k - (Finset.range K).sup L)) := by
  have hY : ∀ k, Y k = ⊥ ∨ ∃ r : ℝ, Y k = r := fun k => (hYL k).imp (·.1) fun ⟨y, _, h, _⟩ => ⟨y, h⟩
  obtain ⟨k0, hk0, y0, hy0, hsup⟩ := exists_max Y hY h0 n hn
  have hlog : 0 < Real.log 2 := Real.log_pos (by norm_num)
  obtain ⟨l0, hl0, he0⟩ : ∃ l0 : ℝ, L k0 = l0 ∧ Real.log 2 * (y0 + c) = l0 := by
    rcases hYL k0 with ⟨h, _⟩ | ⟨y, l, h, h', e⟩
    · rw [hy0] at h; exact absurd h (EReal.coe_ne_bot y0)
    · rw [hy0] at h; obtain rfl := EReal.coe_injective h; exact ⟨l, h', e⟩
  have hsupL : (Finset.range K).sup L = l0 := by
    refine le_antisymm (Finset.sup_le fun k _ => ?_) ?_
    · rcases hYL k with ⟨_, h⟩ | ⟨y, l, h, h', e⟩
      · rw [h]; exact bot_le
      · rw [h', EReal.coe_le_coe_iff, ← e, ← he0]
        have hk : k < 512 * n := by
          by_contra hk
          rw [hL k (by omega)] at h'; exact absurd h'.symm (EReal.coe_ne_bot l)
        have := Finset.le_sup (f := Y) (Finset.mem_range.mpr hk)
        rw [hsup, h, EReal.coe_le_coe_iff] at this
        exact mul_le_mul_of_nonneg_left (by linarith) hlog.le
    · rw [← hl0]
      exact Finset.le_sup (f := L) (Finset.mem_range.mpr (lt_of_lt_of_le (Finset.mem_range.mp hk0) hK))
  -- each key's weight
  let p : ℕ → ℝ := fun k => if L k = ⊥ then 0 else Real.exp ((L k).toReal - l0)
  have hp : ∀ k, Ideal.exp (L k - (Finset.range K).sup L) = p k := by
    intro k
    rw [hsupL]
    rcases hYL k with ⟨_, h⟩ | ⟨y, l, _, h, _⟩
    · simp [p, h]
    · simp [p, h, ← EReal.coe_sub]
  have hw : ∀ k, Ideal.exp2 (Y k - (runMax Y c n - c)) = p k := by
    intro k
    rw [runMax_eq, hsup]
    rcases hYL k with ⟨h', h⟩ | ⟨y, l, h', h, e⟩
    · rw [h']; simp [p, h, ← EReal.coe_add, ← EReal.coe_sub]
    · rw [h']
      simp only [p, h, ← EReal.coe_add, ← EReal.coe_sub, Ideal.exp2_coe, EReal.coe_ne_bot, if_false, EReal.toReal_coe]
      refine congrArg _ ?_
      refine (Real.rpow_def_of_pos (by norm_num : (0 : ℝ) < 2) _).trans (congrArg Real.exp ?_)
      rw [← e, ← he0]; ring
  have hp0 : ∀ k, 0 ≤ p k := fun k => by
    show 0 ≤ (if _ then (0 : ℝ) else _)
    split
    · exact le_rfl
    · exact (Real.exp_pos _).le
  have hpK : ∀ k, 512 * n ≤ k → p k = 0 := fun k hk => if_pos (hL k hk)
  have hcut : ∀ W : ℕ → EReal, ∑ k ∈ Finset.range (512 * n), W k * (p k : EReal) = ∑ k ∈ Finset.range K, W k * (p k : EReal) := by
    intro W
    refine Finset.sum_subset (Finset.range_mono hK) fun k _ hk => ?_
    rw [hpK k (by simpa using hk)]; simp
  have hA : ∀ W : ℕ → EReal, runAcc Y c W n = ∑ k ∈ Finset.range K, W k * (p k : EReal) := by
    intro W
    rw [runAcc_eq Y c hY h0, ← hcut]
    exact Finset.sum_congr rfl fun k _ => by rw [hw]
  have hD : ∑ k ∈ Finset.range K, (p k : EReal) = ((∑ k ∈ Finset.range K, p k : ℝ) : EReal) := by
    induction Finset.range K using Finset.induction_on with
    | empty => simp
    | insert i s hi ih => rw [Finset.sum_insert hi, Finset.sum_insert hi, ih, EReal.coe_add]
  have hDpos : 0 < ∑ k ∈ Finset.range K, p k := by
    refine Finset.sum_pos' (fun k _ => hp0 k) ⟨k0, Finset.mem_range.mpr (lt_of_lt_of_le (Finset.mem_range.mp hk0) hK), ?_⟩
    simp [p, hl0, Real.exp_pos]
  rw [hA, hA]
  simp only [hp, one_mul]
  rw [hD]
  have hD0 : ((∑ k ∈ Finset.range K, p k : ℝ) : EReal) ≠ 0 := by
    rw [Ne, EReal.coe_eq_zero]; exact hDpos.ne'
  simp only [Ideal.div, if_neg hD0, ← EReal.coe_inv]
  rw [mul_comm, mul_sum_of_nonneg _ _ _ (inv_nonneg.mpr hDpos.le)]
  exact Finset.sum_congr rfl fun k _ => by rw [mul_comm, mul_assoc]

end Cert.Proof.Fox

end
-- ==== Proof.FoxRun.lean ====
module

public import proofs.«01_k».proof.Proof.FoxPoint
public import proofs.«01_k».proof.Proof.FoxMath

@[expose] public section

set_option maxRecDepth 16384

noncomputable section

open Idealize.ShloMosaic Idealize.ShloMosaic.TcCoe Idealize.SL.Sem

namespace Cert.Proof.Fox
open Cert.KernelIdeal Cert.KernelIdeal.Gen

/-! ## The loops over key chunks, at an index -/

/-- The trips of the four loops at a grid point: two unmasked chunks per earlier query tile, two masked ones, no remainders. -/
theorem trips_eq : ∀ t : Fin cfg0.N, (k0_t1_loop (grid0.coords t)).trips = 2 * (grid0.coords t 2).val
    ∧ (k0_t2_loop (grid0.coords t)).trips = 0 ∧ (k0_t3_loop (grid0.coords t)).trips = 2
    ∧ (k0_t4_loop (grid0.coords t)).trips = 0 := by
  decide +kernel

/-- Where an unmasked trip reads. -/
theorem offs1 : ∀ (t : Fin cfg0.N) (k : Fin (k0_t1_loop (grid0.coords t)).trips),
    (k0_off1 (grid0.coords t) k = ![512 * k.val, 0] ∧ k0_off4 (grid0.coords t) k = ![512 * k.val, 128]
      ∧ k0_off6 (grid0.coords t) k = ![512 * k.val, 256] ∧ k0_off8 (grid0.coords t) k = ![512 * k.val, 384])
    ∧ k0_off2 (grid0.coords t) k = ![512 * k.val, 0]
    ∧ (k0_off3 (grid0.coords t) k = ![k.val, 0, 0, 0] ∧ k0_off5 (grid0.coords t) k = ![k.val, 1, 0, 0]
      ∧ k0_off7 (grid0.coords t) k = ![k.val, 2, 0, 0] ∧ k0_off9 (grid0.coords t) k = ![k.val, 3, 0, 0]) := by
  decide +kernel

/-- Where a masked trip reads. -/
theorem offs3 : ∀ (t : Fin cfg0.N) (k : Fin (k0_t3_loop (grid0.coords t)).trips),
    (k0_off19 (grid0.coords t) k = ![512 * (2 * (grid0.coords t 2).val + k.val), 0]
      ∧ k0_off22 (grid0.coords t) k = ![512 * (2 * (grid0.coords t 2).val + k.val), 128]
      ∧ k0_off24 (grid0.coords t) k = ![512 * (2 * (grid0.coords t 2).val + k.val), 256]
      ∧ k0_off26 (grid0.coords t) k = ![512 * (2 * (grid0.coords t 2).val + k.val), 384])
    ∧ k0_off20 (grid0.coords t) k = ![512 * (2 * (grid0.coords t 2).val + k.val), 0]
    ∧ (k0_off21 (grid0.coords t) k = ![2 * (grid0.coords t 2).val + k.val, 0, 0, 0]
      ∧ k0_off23 (grid0.coords t) k = ![2 * (grid0.coords t 2).val + k.val, 1, 0, 0]
      ∧ k0_off25 (grid0.coords t) k = ![2 * (grid0.coords t 2).val + k.val, 2, 0, 0]
      ∧ k0_off27 (grid0.coords t) k = ![2 * (grid0.coords t 2).val + k.val, 3, 0, 0]) := by
  decide +kernel

/-- A key's score against a query of the tile, in base two, without the query's own bias. -/
def score (Qb : FVec Ideal S1024x512 .bf16) (Kb : FVec Ideal S8192x512 .bf16) (Cb : FVec Ideal S8192x128 .f32) (hg : Fin 2) (hh : Fin 4)
    (q : Fin 1024) (k : Fin 8192) : EReal :=
  (∑ d : Fin 128, Kb (ix2 k ⟨128 * hh.val + d.val, by omega⟩) * Qb (ix2 q ⟨128 * hh.val + d.val, by omega⟩))
      * (((Real.sqrt 128)⁻¹ * (Real.log 2)⁻¹ : ℝ) : EReal)
    - Cb (ix2 k ⟨4 * hg.val + hh.val, by omega⟩) * (((Real.log 2)⁻¹ : ℝ) : EReal)

/-- The same, negative infinity for the keys after the query. -/
def masked (Qb : FVec Ideal S1024x512 .bf16) (Kb : FVec Ideal S8192x512 .bf16) (Cb : FVec Ideal S8192x128 .f32) (hg : Fin 2) (qi : Fin 8)
    (hh : Fin 4) (q : Fin 1024) (k : ℕ) : EReal :=
  if h : k ≤ 1024 * qi.val + q.val then score Qb Kb Cb hg hh q ⟨k, by omega⟩ else ⊥

/-- The values of a head at a coordinate, by the key's number. -/
def vals (Vb : FVec Ideal S16x4x144x512 .bf16) (hh : Fin 4) (r : Fin 144) (k : ℕ) : EReal :=
  if h : k < 8192 then Vb (ix4 ⟨k / 512, by omega⟩ hh r ⟨k % 512, by omega⟩) else 0

section reads
variable (arg3 : Memref sig .tc .vmem S1024x512 .bf16) (arg4 : Memref sig .tc .vmem S8192x512 .bf16) (arg5 : Memref sig .tc .vmem S16x4x144x512 .bf16) (arg6 : Memref sig .tc .vmem S8192x128 .f32) (arg10 : Memref sig .tc .vmem S4x1x1024 .f32) (arg11 : Memref sig .tc .vmem S4x144x1024 .f32)
  (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
  (f10 : BufTy.Contents (Elt Ideal) arg10.view.ty) (f11 : BufTy.Contents (Elt Ideal) arg11.view.ty)

/-- A unit rectangle's index, coordinate by coordinate. -/
theorem unit_idx {s : Shape} (off size : Fin s.rank → ℕ) (h : ∀ a, off a + size a ≤ s.size a) (x : (Rect.unit off size h).shape.Idx)
    (y : s.Idx) (hy : ∀ a, (y a).val = off a + (x a).val) : (Rect.unit off size h).toLoadRect.idx x = y :=
  funext fun a => Fin.ext (by
    show off a + 1 * (x a).val = (y a).val
    rw [hy a, Nat.one_mul])

/-- A read of keys, at an index. -/
theorem keysAt_at (off : Fin 2 → ℕ) (h) (k : Fin 512) (d : Fin 128) (a : Fin 8192) (b : Fin 512) (ha : a.val = off 0 + k.val)
    (hb : b.val = off 1 + d.val) : keysAt arg4 X_arg4 off h (ix2 k d) = arg4.view.read (Elt Ideal) X_arg4 (ix2 a b) := by
  unfold keysAt
  rw [View.readAt_apply]
  exact congrArg _ (unit_idx _ _ _ _ _ (by intro x; fin_cases x <;> assumption))

/-- A read of queries, at an index. -/
theorem queriesAt_at (off : Fin 2 → ℕ) (h) (k : Fin 1024) (d : Fin 128) (a : Fin 1024) (b : Fin 512) (ha : a.val = off 0 + k.val)
    (hb : b.val = off 1 + d.val) : queriesAt arg3 X_arg3 off h (ix2 k d) = arg3.view.read (Elt Ideal) X_arg3 (ix2 a b) := by
  unfold queriesAt
  rw [View.readAt_apply]
  exact congrArg _ (unit_idx _ _ _ _ _ (by intro x; fin_cases x <;> assumption))

/-- A read of the keys' cumulative log-forgets, at an index. -/
theorem forgetsAt_at (off : Fin 2 → ℕ) (h) (k : Fin 512) (d : Fin 128) (a : Fin 8192) (b : Fin 128) (ha : a.val = off 0 + k.val)
    (hb : b.val = off 1 + d.val) : forgetsAt arg6 X_arg6 off h (ix2 k d) = arg6.view.read (Elt Ideal) X_arg6 (ix2 a b) := by
  unfold forgetsAt
  rw [View.readAt_apply]
  exact congrArg _ (unit_idx _ _ _ _ _ (by intro x; fin_cases x <;> assumption))

/-- A read of values, at an index. -/
theorem valuesAt_at (off : Fin 4 → ℕ) (h) (r : Fin 144) (k : Fin 512) (a : Fin 16) (b : Fin 4) (ha : a.val = off 0)
    (hb : b.val = off 1) (hc : off 2 = 0) (hd : off 3 = 0) :
    valuesAt arg5 X_arg5 off h (ix4 0 0 r k) = arg5.view.read (Elt Ideal) X_arg5 (ix4 a b r k) := by
  unfold valuesAt
  rw [View.readAt_apply]
  refine congrArg _ (unit_idx _ _ _ _ _ ?_)
  intro x
  fin_cases x
  · exact ha
  · exact hb
  · show r.val = off 2 + r.val
    omega
  · show k.val = off 3 + k.val
    omega

/-- A read of a head's running maximum, at an index. -/
theorem maxAt_at (off : Fin 3 → ℕ) (h) (hh : Fin 4) (ho : off = ![hh.val, 0, 0]) (q : Fin 1024) :
    maxAt arg10 f10 off h (ix3 0 0 q) = arg10.view.read (Elt Ideal) f10 (ix3 hh 0 q) := by
  subst ho
  unfold maxAt
  rw [View.readAt_apply]
  refine congrArg _ (unit_idx _ _ _ _ _ ?_)
  intro x
  fin_cases x
  · rfl
  · rfl
  · exact (Nat.zero_add _).symm

/-- A read of a head's running sums, at an index. -/
theorem accAt_at (off : Fin 3 → ℕ) (h) (hh : Fin 4) (ho : off = ![hh.val, 0, 0]) (r : Fin 144) (q : Fin 1024) :
    accAt arg11 f11 off h (ix3 0 r q) = arg11.view.read (Elt Ideal) f11 (ix3 hh r q) := by
  subst ho
  unfold accAt
  rw [View.readAt_apply]
  refine congrArg _ (unit_idx _ _ _ _ _ ?_)
  intro x
  fin_cases x
  · rfl
  · exact (Nat.zero_add _).symm
  · exact (Nat.zero_add _).symm

/-- A trip's scaled and biased scores are those of the chunk's keys. -/
theorem tile_score (n : ℕ) (hn : 512 * n + 512 ≤ 8192) (hg : Fin 2) (hh : Fin 4) (ok oq oc : Fin 2 → ℕ) (hk) (hq) (hc)
    (w : BitVec 32) (ek : ok = ![512 * n, 128 * hh.val]) (eq : oq = ![0, 128 * hh.val]) (ec : oc = ![512 * n, 0])
    (ew : w = BitVec.ofNat 32 (4 * hg.val + hh.val)) (k : Fin 512) (q : Fin 1024) (j : Fin 8) (l : Fin 128)
    (h : q.val = 128 * j.val + l.val) :
    tile (scores (keysAt arg4 X_arg4 ok hk) (queriesAt arg3 X_arg3 oq hq))
        (colBias w (iota .tc S512x128 32 [1] iota_S512x128_d1_w32) (forgetsAt arg6 X_arg6 oc hc)) j (ix2 k l)
      = score (arg3.view.read (Elt Ideal) X_arg3) (arg4.view.read (Elt Ideal) X_arg4) (arg6.view.read (Elt Ideal) X_arg6) hg hh q
          ⟨512 * n + k.val, by omega⟩ := by
  subst ek eq ec ew
  rw [tile_at _ _ k q j l h, scores_at]
  have := colBias_at ⟨4 * hg.val + hh.val, by omega⟩ (forgetsAt arg6 X_arg6 ![512 * n, 0] hc) k
  rw [this, forgetsAt_at arg6 X_arg6 _ _ k _ ⟨512 * n + k.val, by omega⟩ ⟨4 * hg.val + hh.val, by omega⟩ rfl (Nat.zero_add _).symm]
  unfold score
  refine congrArg (· * _ - _) (Finset.sum_congr rfl fun d _ => ?_)
  rw [keysAt_at arg4 X_arg4 _ _ k d ⟨512 * n + k.val, by omega⟩ ⟨128 * hh.val + d.val, by omega⟩ rfl rfl,
    queriesAt_at arg3 X_arg3 _ _ q d q ⟨128 * hh.val + d.val, by omega⟩ (Nat.zero_add _).symm rfl]

/-- A trip's values are those of the chunk's keys. -/
theorem values_vals (n : ℕ) (hn : 512 * n + 512 ≤ 8192) (hh : Fin 4) (ov : Fin 4 → ℕ) (hv) (ev : ov = ![n, hh.val, 0, 0]) (r : Fin 144)
    (k : Fin 512) : valuesAt arg5 X_arg5 ov hv (ix4 0 0 r k) = vals (arg5.view.read (Elt Ideal) X_arg5) hh r (512 * n + k.val) := by
  subst ev
  rw [vals, dif_pos (by omega), valuesAt_at arg5 X_arg5 _ _ r k ⟨(512 * n + k.val) / 512, by omega⟩ hh
    (by show (512 * n + k.val) / 512 = n; omega) rfl rfl rfl]
  exact congrArg (fun x => arg5.view.read (Elt Ideal) X_arg5 (ix4 _ hh r x)) (Fin.ext (by show k.val = (512 * n + k.val) % 512; omega))

/-- What the four heads' writes leave of the running maxima. -/
theorem read_max4 (w0 w1 w2 w3 : FVec Ideal S1x1x1024 .f32) (hh : Fin 4) (q : Fin 1024) :
    arg10.view.read (Elt Ideal) (arg10.view.writes (Elt Ideal) f10
      [⟨Rect.unit ![3, 0, 0] S1x1x1024.size inb_S4x1x1024_S1x1x1024_3_0_0, w3⟩,
       ⟨Rect.unit ![2, 0, 0] S1x1x1024.size inb_S4x1x1024_S1x1x1024_2_0_0, w2⟩,
       ⟨Rect.unit ![1, 0, 0] S1x1x1024.size inb_S4x1x1024_S1x1x1024_1_0_0, w1⟩,
       ⟨Rect.unit ![0, 0, 0] S1x1x1024.size inb_S4x1x1024_S1x1x1024_0_0_0, w0⟩]) (ix3 hh 0 q)
      = ![w0, w1, w2, w3] hh (ix3 0 0 q) := by
  fin_cases hh
  · rw [View.read_writes_cons_unit_of_not_mem (heq := rfl) (a := 0) (ha := Or.inl (show (0 : ℕ) < 3 by decide)),
      View.read_writes_cons_unit_of_not_mem (heq := rfl) (a := 0) (ha := Or.inl (show (0 : ℕ) < 2 by decide)),
      View.read_writes_cons_unit_of_not_mem (heq := rfl) (a := 0) (ha := Or.inl (show (0 : ℕ) < 1 by decide)),
      View.read_writes_cons_unit_of_mem (heq := rfl) (x := ix3 0 0 q) (hx := by intro a; fin_cases a <;> simp)]
    rfl
  · rw [View.read_writes_cons_unit_of_not_mem (heq := rfl) (a := 0) (ha := Or.inl (show (1 : ℕ) < 3 by decide)),
      View.read_writes_cons_unit_of_not_mem (heq := rfl) (a := 0) (ha := Or.inl (show (1 : ℕ) < 2 by decide)),
      View.read_writes_cons_unit_of_mem (heq := rfl) (x := ix3 0 0 q) (hx := by intro a; fin_cases a <;> simp)]
    rfl
  · rw [View.read_writes_cons_unit_of_not_mem (heq := rfl) (a := 0) (ha := Or.inl (show (2 : ℕ) < 3 by decide)),
      View.read_writes_cons_unit_of_mem (heq := rfl) (x := ix3 0 0 q) (hx := by intro a; fin_cases a <;> simp)]
    rfl
  · rw [View.read_writes_cons_unit_of_mem (heq := rfl) (x := ix3 0 0 q) (hx := by intro a; fin_cases a <;> simp)]
    rfl

/-- What the four heads' writes leave of the running sums. -/
theorem read_acc4 (w0 w1 w2 w3 : FVec Ideal S1x144x1024 .f32) (hh : Fin 4) (r : Fin 144) (q : Fin 1024) :
    arg11.view.read (Elt Ideal) (arg11.view.writes (Elt Ideal) f11
      [⟨Rect.unit ![3, 0, 0] S1x144x1024.size inb_S4x144x1024_S1x144x1024_3_0_0, w3⟩,
       ⟨Rect.unit ![2, 0, 0] S1x144x1024.size inb_S4x144x1024_S1x144x1024_2_0_0, w2⟩,
       ⟨Rect.unit ![1, 0, 0] S1x144x1024.size inb_S4x144x1024_S1x144x1024_1_0_0, w1⟩,
       ⟨Rect.unit ![0, 0, 0] S1x144x1024.size inb_S4x144x1024_S1x144x1024_0_0_0, w0⟩]) (ix3 hh r q)
      = ![w0, w1, w2, w3] hh (ix3 0 r q) := by
  fin_cases hh
  · rw [View.read_writes_cons_unit_of_not_mem (heq := rfl) (a := 0) (ha := Or.inl (show (0 : ℕ) < 3 by decide)),
      View.read_writes_cons_unit_of_not_mem (heq := rfl) (a := 0) (ha := Or.inl (show (0 : ℕ) < 2 by decide)),
      View.read_writes_cons_unit_of_not_mem (heq := rfl) (a := 0) (ha := Or.inl (show (0 : ℕ) < 1 by decide)),
      View.read_writes_cons_unit_of_mem (heq := rfl) (x := ix3 0 r q) (hx := by intro a; fin_cases a <;> simp)]
    rfl
  · rw [View.read_writes_cons_unit_of_not_mem (heq := rfl) (a := 0) (ha := Or.inl (show (1 : ℕ) < 3 by decide)),
      View.read_writes_cons_unit_of_not_mem (heq := rfl) (a := 0) (ha := Or.inl (show (1 : ℕ) < 2 by decide)),
      View.read_writes_cons_unit_of_mem (heq := rfl) (x := ix3 0 r q) (hx := by intro a; fin_cases a <;> simp)]
    rfl
  · rw [View.read_writes_cons_unit_of_not_mem (heq := rfl) (a := 0) (ha := Or.inl (show (2 : ℕ) < 3 by decide)),
      View.read_writes_cons_unit_of_mem (heq := rfl) (x := ix3 0 r q) (hx := by intro a; fin_cases a <;> simp)]
    rfl
  · rw [View.read_writes_cons_unit_of_mem (heq := rfl) (x := ix3 0 r q) (hx := by intro a; fin_cases a <;> simp)]
    rfl

/-- The scratch after `n` chunks: each head's running maximum and sums for every query. -/
def Inv (Y : Fin 4 → Fin 1024 → ℕ → EReal) (cq : Fin 4 → Fin 1024 → EReal) (V : Fin 4 → Fin 144 → ℕ → EReal) (n : ℕ) : Prop :=
  (∀ hh q, arg10.view.read (Elt Ideal) f10 (ix3 hh 0 q) = runMax (Y hh q) (cq hh q) n)
    ∧ ∀ hh r q, arg11.view.read (Elt Ideal) f11 (ix3 hh r q) = runAcc (Y hh q) (cq hh q) (V hh r) n

variable (Y : Fin 4 → Fin 1024 → ℕ → EReal) (cq : Fin 4 → Fin 1024 → EReal) (V : Fin 4 → Fin 144 → ℕ → EReal) (n : ℕ)

/-- One head's stored maximum and sums after a chunk more. -/
theorem head_step (hI : Inv arg10 arg11 f10 f11 Y cq V n) (hh : Fin 4) (y : Fin 8 → FVec Ideal S512x128 .f32) (c : FVec Ideal S1x1024 .f32)
    (vt : FVec Ideal S1x1x144x512 .bf16) (om oa : Fin 3 → ℕ) (h10) (h11) (em : om = ![hh.val, 0, 0]) (ea : oa = ![hh.val, 0, 0])
    (hy : ∀ (k : Fin 512) (q : Fin 1024) (j : Fin 8) (l : Fin 128), q.val = 128 * j.val + l.val → y j (ix2 k l) = Y hh q (512 * n + k.val))
    (hc : ∀ q, c (ix2 0 q) = cq hh q) (hv : ∀ r k, vt (ix4 0 0 r k) = V hh r (512 * n + k.val)) :
    (∀ q, newMax y c (maxAt arg10 f10 om h10) (ix3 0 0 q) = runMax (Y hh q) (cq hh q) (n + 1))
      ∧ ∀ r q, newAcc y c (maxAt arg10 f10 om h10) (accAt arg11 f11 oa h11) vt (ix3 0 r q) = runAcc (Y hh q) (cq hh q) (V hh r) (n + 1) := by
  have hm : ∀ q, newMax y c (maxAt arg10 f10 om h10) (ix3 0 0 q) = runMax (Y hh q) (cq hh q) (n + 1) := by
    intro q
    have e : q.val = 128 * (⟨q.val / 128, by omega⟩ : Fin 8).val + (⟨q.val % 128, by omega⟩ : Fin 128).val := by
      show q.val = 128 * (q.val / 128) + q.val % 128; omega
    rw [newMax_at y c _ q _ _ e, maxAt_at arg10 f10 om h10 hh em q, hI.1, hc, runMax]
    simp only [hy _ q _ _ e]
  refine ⟨hm, fun r q => ?_⟩
  have e : q.val = 128 * (⟨q.val / 128, by omega⟩ : Fin 8).val + (⟨q.val % 128, by omega⟩ : Fin 128).val := by
    show q.val = 128 * (q.val / 128) + q.val % 128; omega
  rw [newAcc_at y c _ _ vt r q _ _ e, hm, maxAt_at arg10 f10 om h10 hh em q, accAt_at arg11 f11 oa h11 hh ea r q, hI.1, hI.2, hc, runAcc]
  simp only [hy _ q _ _ e, hv]

end reads

end Cert.Proof.Fox

end
-- ==== Proof.FoxLoop.lean ====
module

public import proofs.«01_k».proof.Proof.FoxRun

@[expose] public section

set_option maxRecDepth 16384

noncomputable section

open Idealize.ShloMosaic Idealize.ShloMosaic.TcCoe Idealize.SL.Sem

namespace Cert.Proof.Fox
open Cert.KernelIdeal Cert.KernelIdeal.Gen

/-! ## The loops' trips, one after the other -/

variable (𝒱 : Variants) (c : Dev nD) (bd : Option 𝒱.V) (t : Fin cfg0.N) (arg3 : Memref sig .tc .vmem S1024x512 .bf16) (harg3 : arg3.IsWhole) (arg4 : Memref sig .tc .vmem S8192x512 .bf16) (harg4 : arg4.IsWhole) (arg5 : Memref sig .tc .vmem S16x4x144x512 .bf16) (harg5 : arg5.IsWhole) (arg6 : Memref sig .tc .vmem S8192x128 .f32) (harg6 : arg6.IsWhole) (arg7 : Memref sig .tc .vmem S1x8x1024 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S4x1x1024 .f32) (harg10 : arg10.IsWhole) (arg11 : Memref sig .tc .vmem S4x144x1024 .f32) (harg11 : arg11.IsWhole)
  (v0 v1 : BitVec 32) (v14 v23 v32 v41 : FVec Ideal S1x1024 .f32) (v68 v71 c512_i32_30 v72 : BitVec 32) (v73 : BitVec 1) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
  (f10 : BufTy.Contents (Elt Ideal) arg10.view.ty) (f11 : BufTy.Contents (Elt Ideal) arg11.view.ty)

  (hg : Fin 2) (qi : Fin 8) (cq : Fin 4 → Fin 1024 → EReal) (hqi : (grid0.coords t 2).val = qi.val)
  (hv0 : ∀ hh : Fin 4, Scalar.addi v0 (BitVec.ofNat 32 hh.val) = BitVec.ofNat 32 (4 * hg.val + hh.val))
  (hcq : ∀ (hh : Fin 4) (q : Fin 1024), ![v14, v23, v32, v41] hh (ix2 0 q) = cq hh q)
include hqi hv0 hcq

set_option maxHeartbeats 1000000 in
/-- An unmasked trip takes the scratch after its earlier chunks to the scratch after its own. -/
theorem inv_trip1 (k : Fin (k0_t1_loop (grid0.coords t)).trips)
    (hI : Inv arg10 arg11 f10 f11 (masked (arg3.view.read (Elt Ideal) X_arg3) (arg4.view.read (Elt Ideal) X_arg4) (arg6.view.read (Elt Ideal) X_arg6) hg qi) cq (vals (arg5.view.read (Elt Ideal) X_arg5)) (k.val)) :
    Inv arg10 arg11 (arg10.view.writes (Elt Ideal) f10 (tripL_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 k f10 f11).1)
      (arg11.view.writes (Elt Ideal) f11 (tripL_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 k f10 f11).2)
      (masked (arg3.view.read (Elt Ideal) X_arg3) (arg4.view.read (Elt Ideal) X_arg4) (arg6.view.read (Elt Ideal) X_arg6) hg qi) cq (vals (arg5.view.read (Elt Ideal) X_arg5)) (k.val + 1) := by
  have hk : k.val < 2 * (grid0.coords t 2).val := lt_of_lt_of_eq k.isLt (trips_eq t).1
  have hqi' := qi.isLt
  obtain ⟨⟨k0, k1, k2, k3⟩, ec, ⟨w0, w1, w2, w3⟩⟩ := offs1 t k
  rw [trip1]
  rw [hqi] at hk
  have s0 := head_step arg10 arg11 f10 f11 _ cq _ (k.val) hI 0
    (tile (scores (keysAt arg4 X_arg4 (k0_off1 _ k) (k0_off1_inb _ k)) (queriesAt arg3 X_arg3 ![0, 0] inb_S1024x512_S1024x128_0_0)) (colBias (Scalar.addi v0 0#32) (iota .tc S512x128 32 [1] iota_S512x128_d1_w32) (forgetsAt arg6 X_arg6 (k0_off2 _ k) (k0_off2_inb _ k))))
    v14 (valuesAt arg5 X_arg5 (k0_off3 _ k) (k0_off3_inb _ k)) ![0, 0, 0] ![0, 0, 0] inb_S4x1x1024_S1x1x1024_0_0_0 inb_S4x144x1024_S1x144x1024_0_0_0 rfl rfl
    (fun kk q j l e => by
      rw [masked, dif_pos (by omega)]
      exact tile_score arg3 arg4 arg6 X_arg3 X_arg4 X_arg6 (k.val) (by omega) hg 0 _ _ _ _ _ _ _ k0 rfl ec (hv0 0) kk q j l e)
    (hcq 0) (values_vals arg5 X_arg5 (k.val) (by omega) 0 _ _ w0)
  have s1 := head_step arg10 arg11 f10 f11 _ cq _ (k.val) hI 1
    (tile (scores (keysAt arg4 X_arg4 (k0_off4 _ k) (k0_off4_inb _ k)) (queriesAt arg3 X_arg3 ![0, 128] inb_S1024x512_S1024x128_0_128)) (colBias (Scalar.addi v0 1#32) (iota .tc S512x128 32 [1] iota_S512x128_d1_w32) (forgetsAt arg6 X_arg6 (k0_off2 _ k) (k0_off2_inb _ k))))
    v23 (valuesAt arg5 X_arg5 (k0_off5 _ k) (k0_off5_inb _ k)) ![1, 0, 0] ![1, 0, 0] inb_S4x1x1024_S1x1x1024_1_0_0 inb_S4x144x1024_S1x144x1024_1_0_0 rfl rfl
    (fun kk q j l e => by
      rw [masked, dif_pos (by omega)]
      exact tile_score arg3 arg4 arg6 X_arg3 X_arg4 X_arg6 (k.val) (by omega) hg 1 _ _ _ _ _ _ _ k1 rfl ec (hv0 1) kk q j l e)
    (hcq 1) (values_vals arg5 X_arg5 (k.val) (by omega) 1 _ _ w1)
  have s2 := head_step arg10 arg11 f10 f11 _ cq _ (k.val) hI 2
    (tile (scores (keysAt arg4 X_arg4 (k0_off6 _ k) (k0_off6_inb _ k)) (queriesAt arg3 X_arg3 ![0, 256] inb_S1024x512_S1024x128_0_256)) (colBias (Scalar.addi v0 2#32) (iota .tc S512x128 32 [1] iota_S512x128_d1_w32) (forgetsAt arg6 X_arg6 (k0_off2 _ k) (k0_off2_inb _ k))))
    v32 (valuesAt arg5 X_arg5 (k0_off7 _ k) (k0_off7_inb _ k)) ![2, 0, 0] ![2, 0, 0] inb_S4x1x1024_S1x1x1024_2_0_0 inb_S4x144x1024_S1x144x1024_2_0_0 rfl rfl
    (fun kk q j l e => by
      rw [masked, dif_pos (by omega)]
      exact tile_score arg3 arg4 arg6 X_arg3 X_arg4 X_arg6 (k.val) (by omega) hg 2 _ _ _ _ _ _ _ k2 rfl ec (hv0 2) kk q j l e)
    (hcq 2) (values_vals arg5 X_arg5 (k.val) (by omega) 2 _ _ w2)
  have s3 := head_step arg10 arg11 f10 f11 _ cq _ (k.val) hI 3
    (tile (scores (keysAt arg4 X_arg4 (k0_off8 _ k) (k0_off8_inb _ k)) (queriesAt arg3 X_arg3 ![0, 384] inb_S1024x512_S1024x128_0_384)) (colBias (Scalar.addi v0 3#32) (iota .tc S512x128 32 [1] iota_S512x128_d1_w32) (forgetsAt arg6 X_arg6 (k0_off2 _ k) (k0_off2_inb _ k))))
    v41 (valuesAt arg5 X_arg5 (k0_off9 _ k) (k0_off9_inb _ k)) ![3, 0, 0] ![3, 0, 0] inb_S4x1x1024_S1x1x1024_3_0_0 inb_S4x144x1024_S1x144x1024_3_0_0 rfl rfl
    (fun kk q j l e => by
      rw [masked, dif_pos (by omega)]
      exact tile_score arg3 arg4 arg6 X_arg3 X_arg4 X_arg6 (k.val) (by omega) hg 3 _ _ _ _ _ _ _ k3 rfl ec (hv0 3) kk q j l e)
    (hcq 3) (values_vals arg5 X_arg5 (k.val) (by omega) 3 _ _ w3)
  constructor
  · intro hh q
    rw [read_max4]
    fin_cases hh
    · exact s0.1 q
    · exact s1.1 q
    · exact s2.1 q
    · exact s3.1 q
  · intro hh r q
    rw [read_acc4]
    fin_cases hh
    · exact s0.2 r q
    · exact s1.2 r q
    · exact s2.2 r q
    · exact s3.2 r q

set_option maxHeartbeats 1000000 in
/-- A masked trip takes the scratch after its earlier chunks to the scratch after its own. -/
theorem inv_trip3 (k : Fin (k0_t3_loop (grid0.coords t)).trips)
    (hv1 : v1 = BitVec.ofNat 32 (1024 * qi.val))
    (hv68 : ∀ k : ℕ, k < 2 → Scalar.muli (Scf.iv v68 1#32 k) 512#32 = BitVec.ofNat 32 (512 * (2 * qi.val + k)))
    (hI : Inv arg10 arg11 f10 f11 (masked (arg3.view.read (Elt Ideal) X_arg3) (arg4.view.read (Elt Ideal) X_arg4) (arg6.view.read (Elt Ideal) X_arg6) hg qi) cq (vals (arg5.view.read (Elt Ideal) X_arg5)) (2 * qi.val + k.val)) :
    Inv arg10 arg11 (arg10.view.writes (Elt Ideal) f10 (tripL_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 k f10 f11).1)
      (arg11.view.writes (Elt Ideal) f11 (tripL_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 k f10 f11).2)
      (masked (arg3.view.read (Elt Ideal) X_arg3) (arg4.view.read (Elt Ideal) X_arg4) (arg6.view.read (Elt Ideal) X_arg6) hg qi) cq (vals (arg5.view.read (Elt Ideal) X_arg5)) (2 * qi.val + k.val + 1) := by
  have hk : k.val < 2 := lt_of_lt_of_eq k.isLt (trips_eq t).2.2.1
  have hqi' := qi.isLt
  obtain ⟨⟨k0, k1, k2, k3⟩, ec, ⟨w0, w1, w2, w3⟩⟩ := offs3 t k
  rw [trip3]
  simp only [hqi] at k0 k1 k2 k3 ec w0 w1 w2 w3
  rw [hv68 k.val hk, hv1]
  have s0 := head_step arg10 arg11 f10 f11 _ cq _ (2 * qi.val + k.val) hI 0
    (maskTile (BitVec.ofNat 32 (512 * (2 * qi.val + k.val))) (BitVec.ofNat 32 (1024 * qi.val)) (iota .tc S512x128 32 [0] iota_S512x128_d0_w32) (iota .tc S512x128 32 [1] iota_S512x128_d1_w32) (scores (keysAt arg4 X_arg4 (k0_off19 _ k) (k0_off19_inb _ k)) (queriesAt arg3 X_arg3 ![0, 0] inb_S1024x512_S1024x128_0_0)) (colBias (Scalar.addi v0 0#32) (iota .tc S512x128 32 [1] iota_S512x128_d1_w32) (forgetsAt arg6 X_arg6 (k0_off20 _ k) (k0_off20_inb _ k))))
    v14 (valuesAt arg5 X_arg5 (k0_off21 _ k) (k0_off21_inb _ k)) ![0, 0, 0] ![0, 0, 0] inb_S4x1x1024_S1x1x1024_0_0_0 inb_S4x144x1024_S1x144x1024_0_0_0 rfl rfl
    (fun kk q j l e => by
      rw [maskTile_at _ _ (by omega) (by omega) _ _ kk q j l e]
      unfold masked
      by_cases hc : 512 * (2 * qi.val + k.val) + kk.val ≤ 1024 * qi.val + q.val
      · rw [if_pos hc, dif_pos hc]
        exact tile_score arg3 arg4 arg6 X_arg3 X_arg4 X_arg6 (2 * qi.val + k.val) (by omega) hg 0 _ _ _ _ _ _ _ k0 rfl ec (hv0 0) kk q j l e
      · rw [if_neg hc, dif_neg hc])
    (hcq 0) (values_vals arg5 X_arg5 (2 * qi.val + k.val) (by omega) 0 _ _ w0)
  have s1 := head_step arg10 arg11 f10 f11 _ cq _ (2 * qi.val + k.val) hI 1
    (maskTile (BitVec.ofNat 32 (512 * (2 * qi.val + k.val))) (BitVec.ofNat 32 (1024 * qi.val)) (iota .tc S512x128 32 [0] iota_S512x128_d0_w32) (iota .tc S512x128 32 [1] iota_S512x128_d1_w32) (scores (keysAt arg4 X_arg4 (k0_off22 _ k) (k0_off22_inb _ k)) (queriesAt arg3 X_arg3 ![0, 128] inb_S1024x512_S1024x128_0_128)) (colBias (Scalar.addi v0 1#32) (iota .tc S512x128 32 [1] iota_S512x128_d1_w32) (forgetsAt arg6 X_arg6 (k0_off20 _ k) (k0_off20_inb _ k))))
    v23 (valuesAt arg5 X_arg5 (k0_off23 _ k) (k0_off23_inb _ k)) ![1, 0, 0] ![1, 0, 0] inb_S4x1x1024_S1x1x1024_1_0_0 inb_S4x144x1024_S1x144x1024_1_0_0 rfl rfl
    (fun kk q j l e => by
      rw [maskTile_at _ _ (by omega) (by omega) _ _ kk q j l e]
      unfold masked
      by_cases hc : 512 * (2 * qi.val + k.val) + kk.val ≤ 1024 * qi.val + q.val
      · rw [if_pos hc, dif_pos hc]
        exact tile_score arg3 arg4 arg6 X_arg3 X_arg4 X_arg6 (2 * qi.val + k.val) (by omega) hg 1 _ _ _ _ _ _ _ k1 rfl ec (hv0 1) kk q j l e
      · rw [if_neg hc, dif_neg hc])
    (hcq 1) (values_vals arg5 X_arg5 (2 * qi.val + k.val) (by omega) 1 _ _ w1)
  have s2 := head_step arg10 arg11 f10 f11 _ cq _ (2 * qi.val + k.val) hI 2
    (maskTile (BitVec.ofNat 32 (512 * (2 * qi.val + k.val))) (BitVec.ofNat 32 (1024 * qi.val)) (iota .tc S512x128 32 [0] iota_S512x128_d0_w32) (iota .tc S512x128 32 [1] iota_S512x128_d1_w32) (scores (keysAt arg4 X_arg4 (k0_off24 _ k) (k0_off24_inb _ k)) (queriesAt arg3 X_arg3 ![0, 256] inb_S1024x512_S1024x128_0_256)) (colBias (Scalar.addi v0 2#32) (iota .tc S512x128 32 [1] iota_S512x128_d1_w32) (forgetsAt arg6 X_arg6 (k0_off20 _ k) (k0_off20_inb _ k))))
    v32 (valuesAt arg5 X_arg5 (k0_off25 _ k) (k0_off25_inb _ k)) ![2, 0, 0] ![2, 0, 0] inb_S4x1x1024_S1x1x1024_2_0_0 inb_S4x144x1024_S1x144x1024_2_0_0 rfl rfl
    (fun kk q j l e => by
      rw [maskTile_at _ _ (by omega) (by omega) _ _ kk q j l e]
      unfold masked
      by_cases hc : 512 * (2 * qi.val + k.val) + kk.val ≤ 1024 * qi.val + q.val
      · rw [if_pos hc, dif_pos hc]
        exact tile_score arg3 arg4 arg6 X_arg3 X_arg4 X_arg6 (2 * qi.val + k.val) (by omega) hg 2 _ _ _ _ _ _ _ k2 rfl ec (hv0 2) kk q j l e
      · rw [if_neg hc, dif_neg hc])
    (hcq 2) (values_vals arg5 X_arg5 (2 * qi.val + k.val) (by omega) 2 _ _ w2)
  have s3 := head_step arg10 arg11 f10 f11 _ cq _ (2 * qi.val + k.val) hI 3
    (maskTile (BitVec.ofNat 32 (512 * (2 * qi.val + k.val))) (BitVec.ofNat 32 (1024 * qi.val)) (iota .tc S512x128 32 [0] iota_S512x128_d0_w32) (iota .tc S512x128 32 [1] iota_S512x128_d1_w32) (scores (keysAt arg4 X_arg4 (k0_off26 _ k) (k0_off26_inb _ k)) (queriesAt arg3 X_arg3 ![0, 384] inb_S1024x512_S1024x128_0_384)) (colBias (Scalar.addi v0 3#32) (iota .tc S512x128 32 [1] iota_S512x128_d1_w32) (forgetsAt arg6 X_arg6 (k0_off20 _ k) (k0_off20_inb _ k))))
    v41 (valuesAt arg5 X_arg5 (k0_off27 _ k) (k0_off27_inb _ k)) ![3, 0, 0] ![3, 0, 0] inb_S4x1x1024_S1x1x1024_3_0_0 inb_S4x144x1024_S1x144x1024_3_0_0 rfl rfl
    (fun kk q j l e => by
      rw [maskTile_at _ _ (by omega) (by omega) _ _ kk q j l e]
      unfold masked
      by_cases hc : 512 * (2 * qi.val + k.val) + kk.val ≤ 1024 * qi.val + q.val
      · rw [if_pos hc, dif_pos hc]
        exact tile_score arg3 arg4 arg6 X_arg3 X_arg4 X_arg6 (2 * qi.val + k.val) (by omega) hg 3 _ _ _ _ _ _ _ k3 rfl ec (hv0 3) kk q j l e
      · rw [if_neg hc, dif_neg hc])
    (hcq 3) (values_vals arg5 X_arg5 (2 * qi.val + k.val) (by omega) 3 _ _ w3)
  constructor
  · intro hh q
    rw [read_max4]
    fin_cases hh
    · exact s0.1 q
    · exact s1.1 q
    · exact s2.1 q
    · exact s3.1 q
  · intro hh r q
    rw [read_acc4]
    fin_cases hh
    · exact s0.2 r q
    · exact s1.2 r q
    · exact s2.2 r q
    · exact s3.2 r q

/-- After the unmasked loop's first trips the scratch holds the maxima and sums of their chunks too. -/
theorem inv_loop1
    (hI : Inv arg10 arg11 f10 f11 (masked (arg3.view.read (Elt Ideal) X_arg3) (arg4.view.read (Elt Ideal) X_arg4) (arg6.view.read (Elt Ideal) X_arg6) hg qi) cq (vals (arg5.view.read (Elt Ideal) X_arg5)) 0) (k : ℕ) (hk : k ≤ (k0_t1_loop (grid0.coords t)).trips) :
    Inv arg10 arg11 (arg10.view.writes (Elt Ideal) f10 (pb_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 f10 f11 k).1)
      (arg11.view.writes (Elt Ideal) f11 (pb_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 f10 f11 k).2)
      (masked (arg3.view.read (Elt Ideal) X_arg3) (arg4.view.read (Elt Ideal) X_arg4) (arg6.view.read (Elt Ideal) X_arg6) hg qi) cq (vals (arg5.view.read (Elt Ideal) X_arg5)) k := by
  induction k with
  | zero => exact hI
  | succ k ih =>
    rw [show k + 1 = (⟨k, hk⟩ : Fin (k0_t1_loop (grid0.coords t)).trips).val + 1 from rfl, pb_k0_t1_succ, View.writes_append, View.writes_append]
    exact inv_trip1 (hg := hg) (qi := qi) (cq := cq) (hqi := hqi) (hv0 := hv0) (hcq := hcq) (k := ⟨k, hk⟩) (hI := ih (Nat.le_of_succ_le hk)) ..

/-- After the masked loop's first trips the scratch holds the maxima and sums of their chunks too. -/
theorem inv_loop3
    (hv1 : v1 = BitVec.ofNat 32 (1024 * qi.val))
    (hv68 : ∀ k : ℕ, k < 2 → Scalar.muli (Scf.iv v68 1#32 k) 512#32 = BitVec.ofNat 32 (512 * (2 * qi.val + k)))
    (hI : Inv arg10 arg11 f10 f11 (masked (arg3.view.read (Elt Ideal) X_arg3) (arg4.view.read (Elt Ideal) X_arg4) (arg6.view.read (Elt Ideal) X_arg6) hg qi) cq (vals (arg5.view.read (Elt Ideal) X_arg5)) (2 * qi.val)) (k : ℕ) (hk : k ≤ (k0_t3_loop (grid0.coords t)).trips) :
    Inv arg10 arg11 (arg10.view.writes (Elt Ideal) f10 (pb_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 f10 f11 k).1)
      (arg11.view.writes (Elt Ideal) f11 (pb_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) v68 v71 c512_i32_30 v72 v73 X_arg3 X_arg4 X_arg5 X_arg6 f10 f11 k).2)
      (masked (arg3.view.read (Elt Ideal) X_arg3) (arg4.view.read (Elt Ideal) X_arg4) (arg6.view.read (Elt Ideal) X_arg6) hg qi) cq (vals (arg5.view.read (Elt Ideal) X_arg5)) (2 * qi.val + k) := by
  induction k with
  | zero => exact hI
  | succ k ih =>
    rw [show k + 1 = (⟨k, hk⟩ : Fin (k0_t3_loop (grid0.coords t)).trips).val + 1 from rfl, pb_k0_t3_succ, View.writes_append, View.writes_append]
    exact inv_trip3 (hg := hg) (qi := qi) (cq := cq) (hqi := hqi) (hv0 := hv0) (hcq := hcq) (k := ⟨k, hk⟩) (hv1 := hv1) (hv68 := hv68) (hI := ih (Nat.le_of_succ_le hk)) ..

end Cert.Proof.Fox

end
-- ==== Proof.FoxScratch.lean ====
module

public import proofs.«01_k».proof.Proof.FoxLoop

@[expose] public section

set_option maxRecDepth 16384

noncomputable section

open Idealize.ShloMosaic Idealize.ShloMosaic.TcCoe Idealize.SL.Sem

namespace Cert.Proof.Fox
open Cert.KernelIdeal Cert.KernelIdeal.Gen

/-! ## The scratch after all four loops -/

/-- A query's bias, in base two. -/
def bias (Rb : FVec Ideal S1x8x1024 .f32) (hg : Fin 2) (hh : Fin 4) (q : Fin 1024) : EReal :=
  Rb (ix3 0 ⟨4 * hg.val + hh.val, by omega⟩ q) * (((Real.log 2)⁻¹ : ℝ) : EReal)

/-- The head numbers of a group. -/
theorem head_word : ∀ (t : Fin cfg0.N) (hg : Fin 2), (grid0.coords t 1).val = hg.val → ∀ hh : Fin 4,
    Scalar.addi (Scalar.muli (BitVec.ofNat 32 (grid0.coords t 1).val) 4#32) (BitVec.ofNat 32 hh.val)
      = BitVec.ofNat 32 (4 * hg.val + hh.val) := by
  decide +kernel

/-- The bias of head 0 of the group. -/
theorem bias0 (t : Fin cfg0.N) (hg : Fin 2) (h : (grid0.coords t 1).val = hg.val) (Rb : FVec Ideal S1x8x1024 .f32) (q : Fin 1024) :
    k0_pay649 (F := Ideal) (grid0.coords t) Rb (ix2 0 q) = bias Rb hg 0 q := by
  have e : Scalar.addi (Scalar.muli (BitVec.ofNat 32 (grid0.coords t 1).val) 4#32) 0#32 = BitVec.ofNat 32 (4 * hg.val + 0) := head_word t hg h 0
  pointwise [k0_pay649, k0_pay648]
  rw [e, sum_pick (by norm_num) ⟨4 * hg.val + 0, by omega⟩ (fun x => Rb (ix3 0 x q)), log2e_eq]
  rfl

/-- The bias of head 1 of the group. -/
theorem bias1 (t : Fin cfg0.N) (hg : Fin 2) (h : (grid0.coords t 1).val = hg.val) (Rb : FVec Ideal S1x8x1024 .f32) (q : Fin 1024) :
    k0_pay650 (F := Ideal) (grid0.coords t) Rb (ix2 0 q) = bias Rb hg 1 q := by
  have e : Scalar.addi (Scalar.muli (BitVec.ofNat 32 (grid0.coords t 1).val) 4#32) 1#32 = BitVec.ofNat 32 (4 * hg.val + 1) := head_word t hg h 1
  pointwise [k0_pay650, k0_pay648]
  rw [e, sum_pick (by norm_num) ⟨4 * hg.val + 1, by omega⟩ (fun x => Rb (ix3 0 x q)), log2e_eq]
  rfl

/-- The bias of head 2 of the group. -/
theorem bias2 (t : Fin cfg0.N) (hg : Fin 2) (h : (grid0.coords t 1).val = hg.val) (Rb : FVec Ideal S1x8x1024 .f32) (q : Fin 1024) :
    k0_pay651 (F := Ideal) (grid0.coords t) Rb (ix2 0 q) = bias Rb hg 2 q := by
  have e : Scalar.addi (Scalar.muli (BitVec.ofNat 32 (grid0.coords t 1).val) 4#32) 2#32 = BitVec.ofNat 32 (4 * hg.val + 2) := head_word t hg h 2
  pointwise [k0_pay651, k0_pay648]
  rw [e, sum_pick (by norm_num) ⟨4 * hg.val + 2, by omega⟩ (fun x => Rb (ix3 0 x q)), log2e_eq]
  rfl

/-- The bias of head 3 of the group. -/
theorem bias3 (t : Fin cfg0.N) (hg : Fin 2) (h : (grid0.coords t 1).val = hg.val) (Rb : FVec Ideal S1x8x1024 .f32) (q : Fin 1024) :
    k0_pay653 (F := Ideal) (k0_pay652 (F := Ideal) (grid0.coords t) Rb) (ix2 0 q) = bias Rb hg 3 q := by
  have e : Scalar.addi (Scalar.muli (BitVec.ofNat 32 (grid0.coords t 1).val) 4#32) 3#32 = BitVec.ofNat 32 (4 * hg.val + 3) := head_word t hg h 3
  pointwise [k0_pay653, k0_pay652, k0_pay648]
  rw [e, sum_pick (by norm_num) ⟨4 * hg.val + 3, by omega⟩ (fun x => Rb (ix3 0 x q)), log2e_eq]
  rfl

section loops
variable (𝒱 : Variants) (c : Dev nD) (bd : Option 𝒱.V) (t : Fin cfg0.N) (arg3 : Memref sig .tc .vmem S1024x512 .bf16) (harg3 : arg3.IsWhole) (arg4 : Memref sig .tc .vmem S8192x512 .bf16) (harg4 : arg4.IsWhole) (arg5 : Memref sig .tc .vmem S16x4x144x512 .bf16) (harg5 : arg5.IsWhole) (arg6 : Memref sig .tc .vmem S8192x128 .f32) (harg6 : arg6.IsWhole) (arg7 : Memref sig .tc .vmem S1x8x1024 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S4x1x1024 .f32) (harg10 : arg10.IsWhole) (arg11 : Memref sig .tc .vmem S4x144x1024 .f32) (harg11 : arg11.IsWhole)
  (v0 v1 : BitVec 32) (v14 v23 v32 v41 : FVec Ideal S1x1024 .f32)
  (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)
  (f10 : BufTy.Contents (Elt Ideal) arg10.view.ty) (f11 : BufTy.Contents (Elt Ideal) arg11.view.ty)
  (hg : Fin 2) (qi : Fin 8) (cq : Fin 4 → Fin 1024 → EReal) (hqi : (grid0.coords t 2).val = qi.val)
  (hv0 : ∀ hh : Fin 4, Scalar.addi v0 (BitVec.ofNat 32 hh.val) = BitVec.ofNat 32 (4 * hg.val + hh.val))
  (hcq : ∀ (hh : Fin 4) (q : Fin 1024), ![v14, v23, v32, v41] hh (ix2 0 q) = cq hh q)
  (a1 b1 c1 d1 : BitVec 32) (e1 : BitVec 1) (a2 b2 c2 d2 : BitVec 32) (e2 : BitVec 1)
  (a3 b3 c3 d3 : BitVec 32) (e3 : BitVec 1) (a4 b4 c4 d4 : BitVec 32) (e4 : BitVec 1) (z2 z4 : BitVec 32)

/-- The initial scratch holds the maxima and sums of no chunk. -/
theorem inv_init (Y : Fin 4 → Fin 1024 → ℕ → EReal) (V : Fin 4 → Fin 144 → ℕ → EReal) (i10) (i11) :
    Inv arg10 arg11
      (arg10.view.writes (Elt Ideal) f10 [⟨Rect.unit (s := S4x1x1024) ![0, 0, 0] S4x1x1024.size i10, k0_pay654 (F := Ideal)⟩])
      (arg11.view.writes (Elt Ideal) f11 [⟨Rect.unit (s := S4x144x1024) ![0, 0, 0] S4x144x1024.size i11, k0_pay655 (F := Ideal)⟩]) Y cq V 0 := by
  constructor
  · intro hh q
    rw [View.read_writes_cons_unit_of_mem (heq := rfl) (x := ix3 hh 0 q) (hx := by intro a; fin_cases a <;> simp)]
    pointwise [k0_pay654]
    rw [negInf_eq]; rfl
  · intro hh r q
    rw [View.read_writes_cons_unit_of_mem (heq := rfl) (x := ix3 hh r q) (hx := by intro a; fin_cases a <;> simp)]
    pointwise [k0_pay655]
    rfl

include hqi hv0 hcq in
/-- After all loops the scratch holds the maxima and sums of every chunk up to the tile's own. -/
theorem inv_loops (hv1 : v1 = BitVec.ofNat 32 (1024 * qi.val))
    (hv68 : ∀ k : ℕ, k < 2 → Scalar.muli (Scf.iv a3 1#32 k) 512#32 = BitVec.ofNat 32 (512 * (2 * qi.val + k)))
    (g10 : BufTy.Contents (Elt Ideal) arg10.view.ty) (g11 : BufTy.Contents (Elt Ideal) arg11.view.ty)
    (x10 : BufTy.Contents (Elt Ideal) arg10.view.ty) (x11 : BufTy.Contents (Elt Ideal) arg11.view.ty)
    (y10 : BufTy.Contents (Elt Ideal) arg10.view.ty) (y11 : BufTy.Contents (Elt Ideal) arg11.view.ty)
    (eg10 : g10 = arg10.view.writes (Elt Ideal) f10 (pb_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a1 b1 c1 d1 e1 X_arg3 X_arg4 X_arg5 X_arg6 f10 f11 (k0_t1_loop (grid0.coords t)).trips).1)
    (eg11 : g11 = arg11.view.writes (Elt Ideal) f11 (pb_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a1 b1 c1 d1 e1 X_arg3 X_arg4 X_arg5 X_arg6 f10 f11 (k0_t1_loop (grid0.coords t)).trips).2)
    (ex10 : x10 = arg10.view.writes (Elt Ideal) g10 (pb_k0_t2 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a2 b2 c2 d2 e2 z2 X_arg3 X_arg4 X_arg5 X_arg6 g10 g11 (k0_t2_loop (grid0.coords t)).trips).1)
    (ex11 : x11 = arg11.view.writes (Elt Ideal) g11 (pb_k0_t2 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a2 b2 c2 d2 e2 z2 X_arg3 X_arg4 X_arg5 X_arg6 g10 g11 (k0_t2_loop (grid0.coords t)).trips).2)
    (ey10 : y10 = arg10.view.writes (Elt Ideal) x10 (pb_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a3 b3 c3 d3 e3 X_arg3 X_arg4 X_arg5 X_arg6 x10 x11 (k0_t3_loop (grid0.coords t)).trips).1)
    (ey11 : y11 = arg11.view.writes (Elt Ideal) x11 (pb_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a3 b3 c3 d3 e3 X_arg3 X_arg4 X_arg5 X_arg6 x10 x11 (k0_t3_loop (grid0.coords t)).trips).2)
    (hI : Inv arg10 arg11 f10 f11 (masked (arg3.view.read (Elt Ideal) X_arg3) (arg4.view.read (Elt Ideal) X_arg4) (arg6.view.read (Elt Ideal) X_arg6) hg qi) cq (vals (arg5.view.read (Elt Ideal) X_arg5)) 0) :
    Inv arg10 arg11 (arg10.view.writes (Elt Ideal) y10 (pb_k0_t4 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a4 b4 c4 d4 e4 z4 X_arg3 X_arg4 X_arg5 X_arg6 y10 y11 (k0_t4_loop (grid0.coords t)).trips).1)
      (arg11.view.writes (Elt Ideal) y11 (pb_k0_t4 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a4 b4 c4 d4 e4 z4 X_arg3 X_arg4 X_arg5 X_arg6 y10 y11 (k0_t4_loop (grid0.coords t)).trips).2)
      (masked (arg3.view.read (Elt Ideal) X_arg3) (arg4.view.read (Elt Ideal) X_arg4) (arg6.view.read (Elt Ideal) X_arg6) hg qi) cq (vals (arg5.view.read (Elt Ideal) X_arg5)) (2 * qi.val + 2) := by
  obtain ⟨t1, t2, t3, t4⟩ := trips_eq t
  have h1 := inv_loop1 (hg := hg) (qi := qi) (cq := cq) (hqi := hqi) (hv0 := hv0) (hcq := hcq) (hI := hI) (k := (k0_t1_loop (grid0.coords t)).trips) (hk := le_rfl)
    𝒱 c bd t arg3 harg3 arg4 harg4 arg5 harg5 arg6 harg6 arg7 harg7 arg8 harg8 arg9 harg9 arg10 harg10 arg11 harg11 v0 v1 v14 v23 v32 v41 a1 b1 c1 d1 e1 X_arg3 X_arg4 X_arg5 X_arg6 f10 f11
  rw [← eg10, ← eg11, t1, hqi] at h1
  rw [t2] at ex10 ex11
  rw [t4]
  have ex10' : x10 = g10 := ex10
  have ex11' : x11 = g11 := ex11
  rw [← ex10', ← ex11'] at h1
  have h3 := inv_loop3 (hg := hg) (qi := qi) (cq := cq) (hqi := hqi) (hv0 := hv0) (hcq := hcq) (hv1 := hv1) (hv68 := hv68) (hI := h1) (k := (k0_t3_loop (grid0.coords t)).trips) (hk := le_rfl)
    𝒱 c bd t arg3 harg3 arg4 harg4 arg5 harg5 arg6 harg6 arg7 harg7 arg8 harg8 arg9 harg9 arg10 harg10 arg11 harg11 v0 v1 v14 v23 v32 v41 a3 b3 c3 d3 e3 X_arg3 X_arg4 X_arg5 X_arg6 x10 x11
  rw [← ey10, ← ey11, t3] at h3
  exact h3

include hqi hv0 hcq in
/-- The same, the writes to each scratch array gathered in one list, the latest first. -/
theorem inv_lists (hv1 : v1 = BitVec.ofNat 32 (1024 * qi.val))
    (hv68 : ∀ k : ℕ, k < 2 → Scalar.muli (Scf.iv a3 1#32 k) 512#32 = BitVec.ofNat 32 (512 * (2 * qi.val + k)))
    (l0 l1 l2 l3 : List (View.Piece (Elt Ideal) S4x1x1024 .f32)) (m0 m1 m2 m3 : List (View.Piece (Elt Ideal) S4x144x1024 .f32))
    (el1 : l1 = (pb_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a1 b1 c1 d1 e1 X_arg3 X_arg4 X_arg5 X_arg6 (arg10.view.writes (Elt Ideal) f10 l0) (arg11.view.writes (Elt Ideal) f11 m0) (k0_t1_loop (grid0.coords t)).trips).1 ++ l0)
    (em1 : m1 = (pb_k0_t1 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a1 b1 c1 d1 e1 X_arg3 X_arg4 X_arg5 X_arg6 (arg10.view.writes (Elt Ideal) f10 l0) (arg11.view.writes (Elt Ideal) f11 m0) (k0_t1_loop (grid0.coords t)).trips).2 ++ m0)
    (el2 : l2 = (pb_k0_t2 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a2 b2 c2 d2 e2 z2 X_arg3 X_arg4 X_arg5 X_arg6 (arg10.view.writes (Elt Ideal) f10 l1) (arg11.view.writes (Elt Ideal) f11 m1) (k0_t2_loop (grid0.coords t)).trips).1 ++ l1)
    (em2 : m2 = (pb_k0_t2 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a2 b2 c2 d2 e2 z2 X_arg3 X_arg4 X_arg5 X_arg6 (arg10.view.writes (Elt Ideal) f10 l1) (arg11.view.writes (Elt Ideal) f11 m1) (k0_t2_loop (grid0.coords t)).trips).2 ++ m1)
    (el3 : l3 = (pb_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a3 b3 c3 d3 e3 X_arg3 X_arg4 X_arg5 X_arg6 (arg10.view.writes (Elt Ideal) f10 l2) (arg11.view.writes (Elt Ideal) f11 m2) (k0_t3_loop (grid0.coords t)).trips).1 ++ l2)
    (em3 : m3 = (pb_k0_t3 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a3 b3 c3 d3 e3 X_arg3 X_arg4 X_arg5 X_arg6 (arg10.view.writes (Elt Ideal) f10 l2) (arg11.view.writes (Elt Ideal) f11 m2) (k0_t3_loop (grid0.coords t)).trips).2 ++ m2)
    (hI : Inv arg10 arg11 (arg10.view.writes (Elt Ideal) f10 l0) (arg11.view.writes (Elt Ideal) f11 m0) (masked (arg3.view.read (Elt Ideal) X_arg3) (arg4.view.read (Elt Ideal) X_arg4) (arg6.view.read (Elt Ideal) X_arg6) hg qi) cq (vals (arg5.view.read (Elt Ideal) X_arg5)) 0) :
    Inv arg10 arg11 (arg10.view.writes (Elt Ideal) f10 ((pb_k0_t4 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a4 b4 c4 d4 e4 z4 X_arg3 X_arg4 X_arg5 X_arg6 (arg10.view.writes (Elt Ideal) f10 l3) (arg11.view.writes (Elt Ideal) f11 m3) (k0_t4_loop (grid0.coords t)).trips).1 ++ l3))
      (arg11.view.writes (Elt Ideal) f11 ((pb_k0_t4 (F := Ideal) 𝒱 c bd (grid0.coords t) arg3 harg3 arg4 harg4 arg5 harg5 arg6 harg6 arg7 harg7 arg8 harg8 arg9 harg9 arg10 harg10 arg11 harg11 v0 v1 (iota .tc S512x128 32 [1] iota_S512x128_d1_w32) v14 v23 v32 v41 (iota .tc S512x128 32 [0] iota_S512x128_d0_w32) (iota .tc S512x128 32 [1] iota_S512x128_d1_w32) a4 b4 c4 d4 e4 z4 X_arg3 X_arg4 X_arg5 X_arg6 (arg10.view.writes (Elt Ideal) f10 l3) (arg11.view.writes (Elt Ideal) f11 m3) (k0_t4_loop (grid0.coords t)).trips).2 ++ m3))
      (masked (arg3.view.read (Elt Ideal) X_arg3) (arg4.view.read (Elt Ideal) X_arg4) (arg6.view.read (Elt Ideal) X_arg6) hg qi) cq (vals (arg5.view.read (Elt Ideal) X_arg5)) (2 * qi.val + 2) := by
  rw [View.writes_append, View.writes_append]
  exact inv_loops (hg := hg) (qi := qi) (cq := cq) (hqi := hqi) (hv0 := hv0) (hcq := hcq) (hv1 := hv1) (hv68 := hv68)
    (eg10 := (congrArg (arg10.view.writes (Elt Ideal) f10) el1).trans (View.writes_append ..)) (eg11 := (congrArg (arg11.view.writes (Elt Ideal) f11) em1).trans (View.writes_append ..))
    (ex10 := (congrArg (arg10.view.writes (Elt Ideal) f10) el2).trans (View.writes_append ..)) (ex11 := (congrArg (arg11.view.writes (Elt Ideal) f11) em2).trans (View.writes_append ..))
    (ey10 := (congrArg (arg10.view.writes (Elt Ideal) f10) el3).trans (View.writes_append ..)) (ey11 := (congrArg (arg11.view.writes (Elt Ideal) f11) em3).trans (View.writes_append ..)) (hI := hI) ..

end loops

/-- The number of the first masked chunk, as the kernel computes it: a quotient rounded down. -/
abbrev chunk0 (t : Fin cfg0.N) : BitVec 32 :=
  Scalar.select
    (Scalar.andi
      (Scalar.cmpi .ne
        (Scalar.subi (Scalar.extui (Scalar.cmpi .sgt (Scalar.muli (BitVec.ofNat 32 (grid0.coords t 2).val) 1024#32) 0#32))
          (Scalar.extui (Scalar.cmpi .slt (Scalar.muli (BitVec.ofNat 32 (grid0.coords t 2).val) 1024#32) 0#32))) 1#32)
      (Scalar.cmpi .ne (Scalar.remsi (Scalar.muli (BitVec.ofNat 32 (grid0.coords t 2).val) 1024#32) 512#32) 0#32))
    (Scalar.subi (Scalar.divsi (Scalar.muli (BitVec.ofNat 32 (grid0.coords t 2).val) 1024#32) 512#32) 1#32)
    (Scalar.divsi (Scalar.muli (BitVec.ofNat 32 (grid0.coords t 2).val) 1024#32) 512#32)

/-- The first key of a masked chunk, in words. -/
theorem chunk_word : ∀ (t : Fin cfg0.N) (k : ℕ), k < 2 →
    Scalar.muli (Scf.iv (chunk0 t) 1#32 k) 512#32 = BitVec.ofNat 32 (512 * (2 * (grid0.coords t 2).val + k)) := by
  decide +kernel

/-- The first query of a tile, in words. -/
theorem tile_word : ∀ t : Fin cfg0.N,
    Scalar.muli (BitVec.ofNat 32 (grid0.coords t 2).val) 1024#32 = BitVec.ofNat 32 (1024 * (grid0.coords t 2).val) := by
  decide +kernel

/-- The scratch after the run's loops, over the blocks the windows hold. -/
theorem inv_run (𝒱 : Variants) (c : Dev nD) (bd : Option 𝒱.V) (t : Fin cfg0.N) (arg3 : Memref sig .tc .vmem S1024x512 .bf16) (harg3 : arg3.IsWhole) (arg4 : Memref sig .tc .vmem S8192x512 .bf16) (harg4 : arg4.IsWhole) (arg5 : Memref sig .tc .vmem S16x4x144x512 .bf16) (harg5 : arg5.IsWhole) (arg6 : Memref sig .tc .vmem S8192x128 .f32) (harg6 : arg6.IsWhole) (arg7 : Memref sig .tc .vmem S1x8x1024 .f32) (harg7 : arg7.IsWhole) (arg8 : Memref sig .tc .vmem S1024x512 .f32) (harg8 : arg8.IsWhole) (arg9 : Memref sig .tc .vmem S1024x512 .bf16) (harg9 : arg9.IsWhole) (arg10 : Memref sig .tc .vmem S4x1x1024 .f32) (harg10 : arg10.IsWhole) (arg11 : Memref sig .tc .vmem S4x144x1024 .f32) (harg11 : arg11.IsWhole)
    (B3 : FVec Ideal S1024x512 .bf16) (B4 : FVec Ideal S8192x512 .bf16) (B5 : FVec Ideal S16x4x144x512 .bf16) (B6 : FVec Ideal S8192x128 .f32) (B7 : FVec Ideal S1x8x1024 .f32)
    (f10 : BufTy.Contents (Elt Ideal) arg10.view.ty) (f11 : BufTy.Contents (Elt Ideal) arg11.view.ty)
    (hg : Fin 2) (qi : Fin 8) (hhg : (grid0.coords t 1).val = hg.val) (hqi : (grid0.coords t 2).val = qi.val)
    (a1 b1 c1 d1 : BitVec 32) (e1 : BitVec 1) (a2 b2 c2 d2 : BitVec 32) (e2 : BitVec 1)
    (b3 c3 d3 : BitVec 32) (e3 : BitVec 1) (a4 b4 c4 d4 : BitVec 32) (e4 : BitVec 1) (z2 z4 : BitVec 32)
    (l0 l1 l2 l3 : List (View.Piece (Elt Ideal) S4x1x1024 .f32)) (m0 m1 m2 m3 : List (View.Piece (Elt Ideal) S4x144x1024 .f32))
    (el0 : l0 = [⟨Rect.unit (s := S4x1x1024) ![0, 0, 0] S4x1x1024.size inb_S4x1x1024_S4x1x1024_0_0_0, k0_pay654 (F := Ideal)⟩])
    (em0 : m0 = [⟨Rect.unit (s := S4x144x1024) ![0, 0, 0] S4x144x1024.size inb_S4x144x1024_S4x144x1024_0_0_0, k0_pay655 (F := Ideal)⟩])
    (el1 : l1 = (pb_k0_t1 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) a1 b1 c1 d1 e1 (harg3.unread B3) (harg4.unread B4) (harg5.unread B5) (harg6.unread B6) (arg10.view.writes (Elt Ideal) f10 l0) (arg11.view.writes (Elt Ideal) f11 m0) (k0_t1_loop (grid0.coords t)).trips).1 ++ l0)
    (em1 : m1 = (pb_k0_t1 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) a1 b1 c1 d1 e1 (harg3.unread B3) (harg4.unread B4) (harg5.unread B5) (harg6.unread B6) (arg10.view.writes (Elt Ideal) f10 l0) (arg11.view.writes (Elt Ideal) f11 m0) (k0_t1_loop (grid0.coords t)).trips).2 ++ m0)
    (el2 : l2 = (pb_k0_t2 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) a2 b2 c2 d2 e2 z2 (harg3.unread B3) (harg4.unread B4) (harg5.unread B5) (harg6.unread B6) (arg10.view.writes (Elt Ideal) f10 l1) (arg11.view.writes (Elt Ideal) f11 m1) (k0_t2_loop (grid0.coords t)).trips).1 ++ l1)
    (em2 : m2 = (pb_k0_t2 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) a2 b2 c2 d2 e2 z2 (harg3.unread B3) (harg4.unread B4) (harg5.unread B5) (harg6.unread B6) (arg10.view.writes (Elt Ideal) f10 l1) (arg11.view.writes (Elt Ideal) f11 m1) (k0_t2_loop (grid0.coords t)).trips).2 ++ m1)
    (el3 : l3 = (pb_k0_t3 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) (chunk0 t) b3 c3 d3 e3 (harg3.unread B3) (harg4.unread B4) (harg5.unread B5) (harg6.unread B6) (arg10.view.writes (Elt Ideal) f10 l2) (arg11.view.writes (Elt Ideal) f11 m2) (k0_t3_loop (grid0.coords t)).trips).1 ++ l2)
    (em3 : m3 = (pb_k0_t3 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) (chunk0 t) b3 c3 d3 e3 (harg3.unread B3) (harg4.unread B4) (harg5.unread B5) (harg6.unread B6) (arg10.view.writes (Elt Ideal) f10 l2) (arg11.view.writes (Elt Ideal) f11 m2) (k0_t3_loop (grid0.coords t)).trips).2 ++ m2) :
    Inv arg10 arg11 (arg10.view.writes (Elt Ideal) f10 ((pb_k0_t4 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) a4 b4 c4 d4 e4 z4 (harg3.unread B3) (harg4.unread B4) (harg5.unread B5) (harg6.unread B6) (arg10.view.writes (Elt Ideal) f10 l3) (arg11.view.writes (Elt Ideal) f11 m3) (k0_t4_loop (grid0.coords t)).trips).1 ++ l3))
      (arg11.view.writes (Elt Ideal) f11 ((pb_k0_t4 (F := Ideal) 𝒱 c bd (grid0.coords t) arg3 harg3 arg4 harg4 arg5 harg5 arg6 harg6 arg7 harg7 arg8 harg8 arg9 harg9 arg10 harg10 arg11 harg11 (Scalar.muli (BitVec.ofNat 32 (grid0.coords t 1).val) 4#32) (Scalar.muli (BitVec.ofNat 32 (grid0.coords t 2).val) 1024#32) (iota .tc S512x128 32 [1] iota_S512x128_d1_w32) (k0_pay649 (grid0.coords t) (View.readAt (Elt Ideal) arg7.view (Rect.unit (s := S1x8x1024) ![0, 0, 0] S1x8x1024.size inb_S1x8x1024_S1x8x1024_0_0_0).toLoadRect (harg7.unread B7))) (k0_pay650 (grid0.coords t) (View.readAt (Elt Ideal) arg7.view (Rect.unit (s := S1x8x1024) ![0, 0, 0] S1x8x1024.size inb_S1x8x1024_S1x8x1024_0_0_0).toLoadRect (harg7.unread B7))) (k0_pay651 (grid0.coords t) (View.readAt (Elt Ideal) arg7.view (Rect.unit (s := S1x8x1024) ![0, 0, 0] S1x8x1024.size inb_S1x8x1024_S1x8x1024_0_0_0).toLoadRect (harg7.unread B7))) (k0_pay653 (k0_pay652 (grid0.coords t) (View.readAt (Elt Ideal) arg7.view (Rect.unit (s := S1x8x1024) ![0, 0, 0] S1x8x1024.size inb_S1x8x1024_S1x8x1024_0_0_0).toLoadRect (harg7.unread B7)))) (iota .tc S512x128 32 [0] iota_S512x128_d0_w32) (iota .tc S512x128 32 [1] iota_S512x128_d1_w32) a4 b4 c4 d4 e4 z4 (harg3.unread B3) (harg4.unread B4) (harg5.unread B5) (harg6.unread B6) (arg10.view.writes (Elt Ideal) f10 l3) (arg11.view.writes (Elt Ideal) f11 m3) (k0_t4_loop (grid0.coords t)).trips).2 ++ m3))
      (masked B3 B4 B6 hg qi) (bias B7 hg) (vals B5) (2 * qi.val + 2) := by
  have hr : (View.readAt (Elt Ideal) arg7.view (Rect.unit (s := S1x8x1024) ![0, 0, 0] S1x8x1024.size inb_S1x8x1024_S1x8x1024_0_0_0).toLoadRect (harg7.unread B7)) = B7 := by
    funext x
    rw [View.readAt_apply, harg7.read_unread]
    exact congrArg B7 (unit_idx _ _ _ _ _ (by intro a; fin_cases a <;> exact (Nat.zero_add _).symm))
  have hI := inv_init arg10 arg11 f10 f11 (bias B7 hg) (masked B3 B4 B6 hg qi) (vals B5) inb_S4x1x1024_S4x1x1024_0_0_0 inb_S4x144x1024_S4x144x1024_0_0_0
  rw [← el0, ← em0] at hI
  rw [show masked B3 B4 B6 hg qi = masked (arg3.view.read (Elt Ideal) (harg3.unread B3)) (arg4.view.read (Elt Ideal) (harg4.unread B4))
      (arg6.view.read (Elt Ideal) (harg6.unread B6)) hg qi by rw [harg3.read_unread, harg4.read_unread, harg6.read_unread],
    show vals B5 = vals (arg5.view.read (Elt Ideal) (harg5.unread B5)) by rw [harg5.read_unread]]
  exact inv_lists (hg := hg) (qi := qi) (cq := bias B7 hg) (hqi := hqi) (hv0 := head_word t hg hhg)
    (hcq := fun hh q => by
      rw [hr]
      fin_cases hh
      · exact bias0 t hg hhg B7 q
      · exact bias1 t hg hhg B7 q
      · exact bias2 t hg hhg B7 q
      · exact bias3 t hg hhg B7 q)
    (hv1 := by rw [tile_word, hqi]) (hv68 := fun k hk => by rw [chunk_word t k hk, hqi])
    (el1 := el1) (em1 := em1) (el2 := el2) (em2 := em2) (el3 := el3) (em3 := em3)
    (hI := by rw [harg3.read_unread, harg4.read_unread, harg5.read_unread, harg6.read_unread]; exact hI) ..

end Cert.Proof.Fox

end
-- ==== Proof.FoxOut.lean ====
module

public import proofs.«01_k».proof.Proof.FoxScratch

@[expose] public section

set_option maxRecDepth 16384

noncomputable section

open Idealize.ShloMosaic Idealize.ShloMosaic.TcCoe Idealize.SL.Sem
open Idealize.ShloMosaic.Pipeline (Dat)

namespace Cert.Proof.Fox
open Cert.KernelIdeal Cert.KernelIdeal.Gen

/-! ## What a grid point stores -/

/-- A tile's result for one head, query and coordinate, over the blocks: the sums' ratio times the gate's factor. -/
def outVal (Qb : FVec Ideal S1024x512 .bf16) (Kb : FVec Ideal S8192x512 .bf16) (Vb : FVec Ideal S16x4x144x512 .bf16)
    (Cb : FVec Ideal S8192x128 .f32) (Rb : FVec Ideal S1x8x1024 .f32) (Gb : FVec Ideal S1024x512 .f32) (hg : Fin 2) (qi : Fin 8)
    (hh : Fin 4) (q : Fin 1024) (d : Fin 128) : EReal :=
  Ideal.div (runAcc (masked Qb Kb Cb hg qi hh q) (bias Rb hg hh q) (vals Vb hh ⟨d.val, by omega⟩) (2 * qi.val + 2))
      (runAcc (masked Qb Kb Cb hg qi hh q) (bias Rb hg hh q) (vals Vb hh 128) (2 * qi.val + 2))
    * (Gb (ix2 q ⟨128 * hh.val + d.val, by omega⟩) * Ideal.logistic (Gb (ix2 q ⟨128 * hh.val + d.val, by omega⟩)))

section pays
variable (g : FVec Ideal S1024x128 .f32) (a : FVec Ideal S1x128x1024 .f32) (d : FVec Ideal S1x1x1024 .f32) (q : Fin 1024) (e : Fin 128)

/-- What is stored for one head: the sums over the denominators, times the gate's factor. -/
theorem pay1_at : k0_pay1 (F := Ideal) g a d (ix2 q e) = Ideal.div (a (ix3 0 e q)) (d (ix3 0 0 q)) * (g (ix2 q e) * Ideal.logistic (g (ix2 q e))) := by
  pointwise [k0_pay1]
/-- What is stored for one head: the sums over the denominators, times the gate's factor. -/
theorem pay664_at : k0_pay664 (F := Ideal) g a d (ix2 q e) = Ideal.div (a (ix3 0 e q)) (d (ix3 0 0 q)) * (g (ix2 q e) * Ideal.logistic (g (ix2 q e))) := by
  pointwise [k0_pay664]
/-- What is stored for one head: the sums over the denominators, times the gate's factor. -/
theorem pay663_at : k0_pay663 (F := Ideal) g a d (ix2 q e) = Ideal.div (a (ix3 0 e q)) (d (ix3 0 0 q)) * (g (ix2 q e) * Ideal.logistic (g (ix2 q e))) := by
  pointwise [k0_pay663]
/-- What is stored for one head: the sums over the denominators, times the gate's factor. -/
theorem pay662_at : k0_pay662 (F := Ideal) g (k0_pay660 (F := Ideal) a d) (k0_pay661 (F := Ideal) g) (ix2 q e)
    = Ideal.div (a (ix3 0 e q)) (d (ix3 0 0 q)) * (g (ix2 q e) * Ideal.logistic (g (ix2 q e))) := by
  pointwise [k0_pay662, k0_pay661, k0_pay660]

end pays

/-- A covered load of a unit rectangle, at an index. -/
theorem readCov_at {s : Shape} {e : EltTy} {sp : Space} (v : View sig .tc sp s e) (L : List (View.Piece (Elt Ideal) s e))
    (off size : Fin s.rank → ℕ) (h) (x : (Rect.unit off size h).shape.Idx) (y : s.Idx) (hy : ∀ a, (y a).val = off a + (x a).val) :
    v.readCov L (Rect.unit off size h).toLoadRect x = v.read (Elt Ideal) (v.writes (Elt Ideal) v.junk L) y := by
  unfold View.readCov
  rw [View.readAt_apply, unit_idx off size h x y hy]

/-- A load of a unit rectangle of given contents, at an index. -/
theorem readAt_at {s : Shape} {e : EltTy} {sp : Space} (w : Memref sig .tc sp s e) (hw : w.IsWhole) (X : s.Idx → Elt Ideal e)
    (off size : Fin s.rank → ℕ) (h) (x : (Rect.unit off size h).shape.Idx) (y : s.Idx) (hy : ∀ a, (y a).val = off a + (x a).val) :
    w.view.readAt (Elt Ideal) (Rect.unit off size h).toLoadRect (hw.unread X) x = X y := by
  rw [View.readAt_apply, unit_idx off size h x y hy, hw.read_unread]

set_option maxHeartbeats 2000000 in
/-- What a grid point stores at an index of its block. -/
theorem out_at (m : (ℓ : Loc nD τ sig) → Buf (Elt Ideal) ℓ) (c : Dev nD) (t : Fin cfg0.N) (hg : Fin 2) (qi : Fin 8)
    (hhg : (grid0.coords t 1).val = hg.val) (hqi : (grid0.coords t 2).val = qi.val) (y : S1024x512.Idx)
    (hh : Fin 4) (q : Fin 1024) (d : Fin 128) (hy0 : (y 0).val = q.val) (hy1 : (y 1).val = 128 * hh.val + d.val) :
    outsAt0 (F := Ideal) m c t y
      = outVal (iblk m c 0 t) (iblk m c 1 t) (iblk m c 2 t) (iblk m c 3 t) (iblk m c 4 t) (iblk m c 5 t) hg qi hh q d := by
  unfold outsAt0 out0_A_6
  rw [View.read_writes_eq_canon _ _ _ (cover0_A_6 c _ _ _ _ _ _ _ _ _ _ _ _ _ _ _ _ _ _ _ _ _ _ _ _ _)]
  unfold kernelRun0_A
  dsimp only
  canon_tiles x h
  case piece0 =>
    obtain rfl : hh = 3 := Fin.ext (by show hh.val = 3; omega)
    have hx : x = ix2 q d := funext fun a => Fin.ext (by
      fin_cases a
      · exact h0.symm.trans hy0
      · show (x 1).val = d.val
        have : ((3 : Fin 4) : ℕ) = 3 := rfl
        omega)
    rw [hx]
    sl_unfold_words
    refine (pay1_at _ _ _ q d).trans ?_
    rw [outVal]
    refine congrArg₂ (· * ·) (congrArg₂ Ideal.div ?_ ?_) (congrArg (fun z => z * Ideal.logistic z) ?_)
    · refine (readCov_at _ _ _ _ _ _ (ix3 3 ⟨d.val, by omega⟩ q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 3 ⟨d.val, by omega⟩ q
    · refine (readCov_at _ _ _ _ _ _ (ix3 3 128 q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 3 128 q
    · exact readAt_at _ _ _ _ _ _ _ _ (by intro a; fin_cases a <;> simp)
  case piece1 =>
    obtain rfl : hh = 2 := Fin.ext (by show hh.val = 2; omega)
    have hx : x = ix2 q d := funext fun a => Fin.ext (by
      fin_cases a
      · exact h0.symm.trans hy0
      · show (x 1).val = d.val
        have : ((2 : Fin 4) : ℕ) = 2 := rfl
        omega)
    rw [hx]
    sl_unfold_words
    refine (pay664_at _ _ _ q d).trans ?_
    rw [outVal]
    refine congrArg₂ (· * ·) (congrArg₂ Ideal.div ?_ ?_) (congrArg (fun z => z * Ideal.logistic z) ?_)
    · refine (readCov_at _ _ _ _ _ _ (ix3 2 ⟨d.val, by omega⟩ q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 2 ⟨d.val, by omega⟩ q
    · refine (readCov_at _ _ _ _ _ _ (ix3 2 128 q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 2 128 q
    · exact readAt_at _ _ _ _ _ _ _ _ (by intro a; fin_cases a <;> simp)
  case piece2 =>
    obtain rfl : hh = 1 := Fin.ext (by show hh.val = 1; omega)
    have hx : x = ix2 q d := funext fun a => Fin.ext (by
      fin_cases a
      · exact h0.symm.trans hy0
      · show (x 1).val = d.val
        have : ((1 : Fin 4) : ℕ) = 1 := rfl
        omega)
    rw [hx]
    sl_unfold_words
    refine (pay663_at _ _ _ q d).trans ?_
    rw [outVal]
    refine congrArg₂ (· * ·) (congrArg₂ Ideal.div ?_ ?_) (congrArg (fun z => z * Ideal.logistic z) ?_)
    · refine (readCov_at _ _ _ _ _ _ (ix3 1 ⟨d.val, by omega⟩ q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 1 ⟨d.val, by omega⟩ q
    · refine (readCov_at _ _ _ _ _ _ (ix3 1 128 q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 1 128 q
    · exact readAt_at _ _ _ _ _ _ _ _ (by intro a; fin_cases a <;> simp)
  case piece3 =>
    obtain rfl : hh = 0 := Fin.ext (by show hh.val = 0; omega)
    have hx : x = ix2 q d := funext fun a => Fin.ext (by
      fin_cases a
      · exact h0.symm.trans hy0
      · show (x 1).val = d.val
        have : ((0 : Fin 4) : ℕ) = 0 := rfl
        omega)
    rw [hx]
    sl_unfold_words
    refine (pay662_at _ _ _ q d).trans ?_
    rw [outVal]
    refine congrArg₂ (· * ·) (congrArg₂ Ideal.div ?_ ?_) (congrArg (fun z => z * Ideal.logistic z) ?_)
    · refine (readCov_at _ _ _ _ _ _ (ix3 0 ⟨d.val, by omega⟩ q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 0 ⟨d.val, by omega⟩ q
    · refine (readCov_at _ _ _ _ _ _ (ix3 0 128 q) (by intro a; fin_cases a <;> simp)).trans ?_
      exact (inv_run (hg := hg) (qi := qi) (hhg := hhg) (hqi := hqi) (el0 := rfl) (em0 := rfl) (el1 := rfl) (el2 := rfl) (el3 := rfl) (em1 := rfl) (em2 := rfl) (em3 := rfl) ..).2 0 128 q
    · exact readAt_at _ _ _ _ _ _ _ _ (by intro a; fin_cases a <;> simp)

end Cert.Proof.Fox

end
-- ==== Proof.FoxRef.lean ====
module

public import proofs.«01_k».proof.Defs
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.Proof.FoxRef

open Cert.ReferenceIdeal Cert.ReferenceIdeal.Gen

/-! ## Where things lie in the arrays -/

/-- The row of a batch's position. -/
abbrev row (b : Fin 2) (s : Fin 8192) : Fin 16384 := ⟨b.val * 8192 + s.val, by omega⟩
/-- The column of a head's coordinate. -/
abbrev lane (h : Fin 8) (d : Fin 128) : Fin 1024 := ⟨h.val * 128 + d.val, by omega⟩
/-- The gate's column for a result's column. -/
abbrev gateLane (n : Fin 1024) : Fin 15872 := ⟨10240 + n.val, by omega⟩
/-- The row of queries' cumulative log-forgets of a batch's query tile. -/
abbrev tileRow (b : Fin 2) (qi : Fin 8) : Fin 16 := ⟨b.val * 8 + qi.val, by omega⟩
/-- The chunk of keys of a batch. -/
abbrev chunk (b : Fin 2) (a : Fin 16) : Fin 32 := ⟨b.val * 16 + a.val, by omega⟩
/-- The position of a query tile's query. -/
abbrev pos (qi : Fin 8) (q : Fin 1024) : Fin 8192 := ⟨1024 * qi.val + q.val, by omega⟩
/-- The chunk of a position. -/
abbrev chunkOf (k : Fin 8192) : Fin 16 := ⟨k.val / 512, by omega⟩
/-- The place of a position in its chunk. -/
abbrev placeOf (k : Fin 8192) : Fin 512 := ⟨k.val % 512, by omega⟩
/-- The query tile of a position. -/
abbrev tileOf (s : Fin 8192) : Fin 8 := ⟨s.val / 1024, by omega⟩
/-- The place of a position in its query tile. -/
abbrev inTile (s : Fin 8192) : Fin 1024 := ⟨s.val % 1024, by omega⟩
/-- A head of a group. -/
abbrev head (hg : Fin 2) (hh : Fin 4) : Fin 8 := ⟨4 * hg.val + hh.val, by omega⟩
/-- The column of a group's column. -/
abbrev wide (hg : Fin 2) (n : Fin 512) : Fin 1024 := ⟨512 * hg.val + n.val, by omega⟩
/-- A coordinate among the values' rows. -/
abbrev valueRow (d : Fin 128) : Fin 144 := ⟨d.val, by omega⟩
/-- A head among the lanes of the keys' cumulative log-forgets. -/
abbrev headLane (h : Fin 8) : Fin 128 := ⟨h.val, by omega⟩

/-! ## The reference, at an index -/

/-- The reference's logits, negative infinity where the key is after the query. -/
def logits (xQ xK : FVec Ideal S16384x1024 .bf16) (xC : FVec Ideal S16384x128 .f32) (xR : FVec Ideal S16x8x1024 .f32) :
    FVec Ideal S2x8x8192x8192 .f32 :=
  select (broadcastInDim S2x8x8192x8192 ![0, 1, 2, 3] bcast_S1x1x8192x8192_S2x8x8192x8192_0_1_2_3
    (broadcastInDim S1x1x8192x8192 ![2, 3] bcast_S8192x8192_S1x1x8192x8192_2_3 (cmpi .sle (broadcastInDim
    S8192x8192 ![0, 1] bcast_S1x8192_S8192x8192_0_1 (broadcastInDim S1x8192 ![1] bcast_S8192_S1x8192_1 (iotaInDim
    S8192 32 0))) (broadcastInDim S8192x8192 ![0, 1] bcast_S8192x1_S8192x8192_0_1 (broadcastInDim S8192x1 ![0]
    bcast_S8192_S8192x1_0 (iotaInDim S8192 32 0)))))) (subf (addf (Host.divf (Host.dotGeneral
    dot_S2x8192x8x128_S2x8192x8x128_S2x8x8192x8192_3_3_1_1_02_02 none (shapeCast _ (extf .f32 xQ bitsLt_bf16_f32)
    shapeCasts_S16384x1024_S2x8192x8x128) (shapeCast _ (extf .f32 xK bitsLt_bf16_f32)
    shapeCasts_S16384x1024_S2x8192x8x128)) (broadcastInDim S2x8x8192x8192 ![] bcast_S_S2x8x8192x8192 (Host.sqrt
    (constant S_ .f32 0x43000000#32)))) (broadcastInDim S2x8x8192x8192 ![0, 1, 2, 3]
    bcast_S2x8x8192x1_S2x8x8192x8192_0_1_2_3 (broadcastInDim S2x8x8192x1 ![0, 1, 2]
    bcast_S2x8x8192_S2x8x8192x1_0_1_2 (transpose S2x8x8192 [0, 2, 1] (shapeCast _ (transpose S16x1024x8 [0, 2, 1]
    xR transposes_S16x8x1024_S16x1024x8_0_2_1) shapeCasts_S16x1024x8_S2x8192x8)
    transposes_S2x8192x8_S2x8x8192_0_2_1)))) (broadcastInDim S2x8x8192x8192 ![0, 1, 2, 3]
    bcast_S2x8x1x8192_S2x8x8192x8192_0_1_2_3 (broadcastInDim S2x8x1x8192 ![0, 1, 3]
    bcast_S2x8x8192_S2x8x1x8192_0_1_3 (transpose S2x8x8192 [0, 2, 1] (shapeCast _ (extractStridedSlice S16384x8
    ![0, 0] xC slices_S16384x128_S16384x8_0_0) shapeCasts_S16384x8_S2x8192x8)
    transposes_S2x8192x8_S2x8x8192_0_2_1)))) (broadcastInDim S2x8x8192x8192 ![] bcast_S_S2x8x8192x8192 (id
    (constant S_ .f32 0xFF800000#32)))

/-- The exponentials of logits less their maximum over the keys. -/
def exps (L : FVec Ideal S2x8x8192x8192 .f32) : FVec Ideal S2x8x8192x8192 .f32 :=
  Host.exp (subf L (broadcastInDim S2x8x8192x8192 ![0, 1, 2, 3] bcast_S2x8x8192x1_S2x8x8192x8192_0_1_2_3
    (broadcastInDim S2x8x8192x1 ![0, 1, 2] bcast_S2x8x8192_S2x8x8192x1_0_1_2 (Host.reduce FloatOps.maximumf L
    (constant S_ .f32 0xFF800000#32) reducesTo_S2x8x8192x8192_S2x8x8192_d3 h_S_))))

/-- The same over their sum. -/
def probs (L : FVec Ideal S2x8x8192x8192 .f32) : FVec Ideal S2x8x8192x8192 .f32 :=
  Host.divf (exps L) (broadcastInDim S2x8x8192x8192 ![0, 1, 2, 3] bcast_S2x8x8192x1_S2x8x8192x8192_0_1_2_3
    (broadcastInDim S2x8x8192x1 ![0, 1, 2] bcast_S2x8x8192_S2x8x8192x1_0_1_2 (Host.reduceAdd (exps L) (constant S_
    .f32 0x00000000#32) reducesTo_S2x8x8192x8192_S2x8x8192_d3 h_S_)))

/-- The gated attention with given logits. -/
def gated (L : FVec Ideal S2x8x8192x8192 .f32) (xV : FVec Ideal S32x8x144x512 .bf16) (xU : FVec Ideal S16384x15872 .f32) :
    FVec Ideal S16384x1024 .bf16 :=
  truncf .bf16 (mulf (shapeCast _ (transpose S2x8192x8x128 [0, 3, 1, 2] (Host.dotGeneral
    dot_S2x8192x8x128_S2x8x8192x8192_S2x8x128x8192_1_3_3_2_02_01 none (shapeCast _ (transpose S32x512x8x128 [0, 3,
    1, 2] (extractStridedSlice S32x8x128x512 ![0, 0, 0, 0] (extf .f32 xV bitsLt_bf16_f32)
    slices_S32x8x144x512_S32x8x128x512_0_0_0_0) transposes_S32x8x128x512_S32x512x8x128_0_3_1_2)
    shapeCasts_S32x512x8x128_S2x8192x8x128) (probs L)) transposes_S2x8x128x8192_S2x8192x8x128_0_3_1_2)
    shapeCasts_S2x8192x8x128_S16384x1024) (mulf (extractStridedSlice S16384x1024 ![0, 10240] xU
    slices_S16384x15872_S16384x1024_0_10240) (Host.divf (broadcastInDim S16384x1024 ![] bcast_S_S16384x1024
    (constant S_ .f32 0x3F800000#32)) (addf (broadcastInDim S16384x1024 ![] bcast_S_S16384x1024 (constant S_ .f32
    0x3F800000#32)) (Host.exp (Host.negf (extractStridedSlice S16384x1024 ![0, 10240] xU
    slices_S16384x15872_S16384x1024_0_10240))))))) bitsLt_bf16_f32

/-- The reference's result over its arguments. -/
def result (xQ xK : FVec Ideal S16384x1024 .bf16) (xV : FVec Ideal S32x8x144x512 .bf16) (xU : FVec Ideal S16384x15872 .f32)
    (xC : FVec Ideal S16384x128 .f32) (xR : FVec Ideal S16x8x1024 .f32) : FVec Ideal S16384x1024 .bf16 :=
  gated (logits xQ xK xC xR) xV xU

/-- The reference's run ends with this result. -/
theorem res_eq (m : (ℓ : Loc nD τ sig) → Buf (Elt Ideal) ℓ) (c : Dev nD) : Value.res_out0 (F := Ideal) m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

variable (xQ xK : FVec Ideal S16384x1024 .bf16) (xV : FVec Ideal S32x8x144x512 .bf16) (xU : FVec Ideal S16384x15872 .f32)
    (xC : FVec Ideal S16384x128 .f32) (xR : FVec Ideal S16x8x1024 .f32) (L : FVec Ideal S2x8x8192x8192 .f32)

/-- The word of 128. -/
theorem headDim_eq : Ideal.sqrt (Ideal.ofBits FTy.f32 0x43000000#32) = ((Real.sqrt 128 : ℝ) : EReal) := by
  have : Ideal.ofBits FTy.f32 0x43000000#32 = ((128 : ℝ) : EReal) := by
    simp [Ideal.ofBits, Ideal.ieee]
    rw [← EReal.coe_mul]
    norm_num
  rw [this]
  simp

/-- Dividing by the root of 128 multiplies by its inverse. -/
theorem div_headDim (x : EReal) : Ideal.div x (Ideal.sqrt (Ideal.ofBits FTy.f32 0x43000000#32)) = x * (((Real.sqrt 128)⁻¹ : ℝ) : EReal) := by
  rw [headDim_eq]
  have h : ((Real.sqrt 128 : ℝ) : EReal) ≠ 0 := by
    rw [Ne, EReal.coe_eq_zero]; positivity
  simp only [Ideal.div, if_neg h, EReal.coe_inv]

/-- The word of negative infinity. -/
theorem negInf_eq : Ideal.ofBits FTy.f32 0xFF800000#32 = ⊥ := by
  simp [Ideal.ofBits, Ideal.ieee]

/-- Comparing the words of two positions compares the positions. -/
theorem sle_words (a b : ℕ) (ha : a < 8192) (hb : b < 8192) :
    IntOp.cmpi CmpIPredicate.sle (BitVec.ofNat 32 a) (BitVec.ofNat 32 b) = if a ≤ b then 1#1 else 0#1 := by
  simp only [IntOp.cmpi]
  have e : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp
    omega
  rw [e]
  by_cases h : a ≤ b <;> simp [h]

/-- An unmasked logit: the product over the root of the head's width, plus the query's cumulative log-forget, less the key's. -/
def logit (b : Fin 2) (h : Fin 8) (s k : Fin 8192) : EReal :=
  (∑ d : Fin 128, xQ (ix2 (row b s) (lane h d)) * xK (ix2 (row b k) (lane h d))) * (((Real.sqrt 128)⁻¹ : ℝ) : EReal)
    + xR (ix3 (tileRow b (tileOf s)) h (inTile s)) - xC (ix2 (row b k) (headLane h))

/-- The masked logits at an index. -/
theorem logits_at (b : Fin 2) (h : Fin 8) (s k : Fin 8192) :
    logits xQ xK xC xR (ix4 b h s k) = if k.val ≤ s.val then logit xQ xK xC xR b h s k else ⊥ := by
  pointwise [logits]
  rw [sle_words _ _ k.isLt s.isLt, div_headDim]
  show Scalar.select _ (logit xQ xK xC xR b h s k) (Ideal.ofBits FTy.f32 0xFF800000#32) = _
  rw [negInf_eq]
  by_cases hk : k.val ≤ s.val
  · rw [if_pos hk, if_pos hk]; rfl
  · rw [if_neg hk, if_neg hk]; rfl

/-- The exponentials at an index. -/
theorem exps_at (b : Fin 2) (h : Fin 8) (s k : Fin 8192) :
    exps L (ix4 b h s k) = Ideal.exp (L (ix4 b h s k) - Finset.univ.sup fun x => L (ix4 b h s x)) := by
  pointwise [exps]
  rw [negInf_eq]
  rfl

/-- The probabilities at an index. -/
theorem probs_at (b : Fin 2) (h : Fin 8) (s k : Fin 8192) :
    probs L (ix4 b h s k) = Ideal.div (exps L (ix4 b h s k)) (∑ x : Fin 8192, exps L (ix4 b h s x)) := by
  pointwise [probs]

set_option maxHeartbeats 1600000 in
/-- The gated attention at a row of the batch and a coordinate of a head. -/
theorem gated_at (b : Fin 2) (s : Fin 8192) (h : Fin 8) (d : Fin 128) :
    gated L xV xU (ix2 (row b s) (lane h d))
      = (∑ k : Fin 8192, xV (ix4 (chunk b (chunkOf k)) h (valueRow d) (placeOf k))
          * Ideal.div (exps L (ix4 b h s k)) (∑ x : Fin 8192, exps L (ix4 b h s x)))
        * (xU (ix2 (row b s) (gateLane (lane h d))) * Ideal.logistic (xU (ix2 (row b s) (gateLane (lane h d))))) := by
  pointwise [gated]
  have e1 : (b.val * 8192 + s.val) / 8192 = b.val := by omega
  have e2 : (b.val * 8192 + s.val) % 8192 = s.val := by omega
  have e3 : (h.val * 128 + d.val) / 128 = h.val := by omega
  have e4 : (h.val * 128 + d.val) % 128 = d.val := by omega
  refine congrArg₂ (· * ·) (Finset.sum_congr rfl fun k _ => ?_) rfl
  rw [probs_at]
  simp only [e1, e2, e3, e4, Fin.eta]

end Cert.Proof.FoxRef

end
-- ==== Proof.FoxIdx.lean ====
module

public import proofs.«01_k».proof.Proof.FoxOut
public import proofs.«01_k».proof.Proof.FoxRef

@[expose] public section

set_option maxRecDepth 16384

noncomputable section

open Idealize.ShloMosaic Idealize.ShloMosaic.TcCoe Idealize.SL.Sem
open Idealize.ShloMosaic.Pipeline (Dat)

namespace Cert.Proof.Fox
open Cert.KernelIdeal Cert.KernelIdeal.Gen FoxRef

/-- The block each window takes at a grid point. -/
theorem idx : ∀ t : Fin cfg0.N,
    win0_0.index t = ![8 * (grid0.coords t 0).val + (grid0.coords t 2).val, (grid0.coords t 1).val]
    ∧ win0_1.index t = ![(grid0.coords t 0).val, (grid0.coords t 1).val]
    ∧ win0_2.index t = ![(grid0.coords t 0).val, (grid0.coords t 1).val, 0, 0]
    ∧ win0_3.index t = ![(grid0.coords t 0).val, 0]
    ∧ win0_4.index t = ![8 * (grid0.coords t 0).val + (grid0.coords t 2).val, 0, 0]
    ∧ win0_5.index t = ![8 * (grid0.coords t 0).val + (grid0.coords t 2).val, 20 + (grid0.coords t 1).val]
    ∧ win0_6.index t = ![8 * (grid0.coords t 0).val + (grid0.coords t 2).val, (grid0.coords t 1).val] :=
  (by decide +kernel : ∀ t : Fin grid0.N, _)

section reads
variable (m : (ℓ : Loc nD τ sig) → Buf (Elt Ideal) ℓ) (c : Dev nD) (t : Fin cfg0.N) (b : Fin 2) (hg : Fin 2) (qi : Fin 8)
  (hb : (grid0.coords t 0).val = b.val) (hhg : (grid0.coords t 1).val = hg.val) (hqi : (grid0.coords t 2).val = qi.val)
include hb hhg hqi

/-- The queries' block, in the array. -/
theorem q_at (q : Fin 1024) (n : Fin 512) : (show EReal from iblk m c 0 t (ix2 q n))
    = m ((c : Thread nD τ).loc main_arg0) (ix2 (row b (pos qi q)) (wide hg n)) := by
  blk_point [iblk, V, idx t]

/-- The keys' block, in the array. -/
theorem k_at (k : Fin 8192) (n : Fin 512) : (show EReal from iblk m c 1 t (ix2 k n))
    = m ((c : Thread nD τ).loc main_arg1) (ix2 (row b k) (wide hg n)) := by
  blk_point [iblk, V, idx t]

/-- The values' block, in the array. -/
theorem v_at (a : Fin 16) (hh : Fin 4) (r : Fin 144) (k : Fin 512) : (show EReal from iblk m c 2 t (ix4 a hh r k))
    = m ((c : Thread nD τ).loc main_arg2) (ix4 (chunk b a) (head hg hh) r k) := by
  blk_point [iblk, V, idx t]

/-- The keys' cumulative log-forgets' block, in the array. -/
theorem c_at (k : Fin 8192) (n : Fin 128) : (show EReal from iblk m c 3 t (ix2 k n))
    = m ((c : Thread nD τ).loc main_arg4) (ix2 (row b k) n) := by
  blk_point [iblk, V, idx t]

/-- The queries' cumulative log-forgets' block, in the array. -/
theorem r_at (n : Fin 8) (q : Fin 1024) : (show EReal from iblk m c 4 t (ix3 0 n q))
    = m ((c : Thread nD τ).loc main_arg5) (ix3 (tileRow b qi) n q) := by
  blk_point [iblk, V, idx t]

/-- The gate's block, in the array. -/
theorem g_at (q : Fin 1024) (n : Fin 512) : (show EReal from iblk m c 5 t (ix2 q n))
    = m ((c : Thread nD τ).loc main_arg3) (ix2 (row b (pos qi q)) (gateLane (wide hg n))) := by
  blk_point [iblk, V, idx t]

end reads

end Cert.Proof.Fox

end
-- ==== Proof.FoxPre.lean ====
module

public import proofs.«01_k».proof.Proof.FoxPoint
public import proofs.«01_k».proof.Proof.FoxRef

@[expose] public section

set_option maxRecDepth 16384

noncomputable section

open Idealize.ShloMosaic Idealize.ShloMosaic.TcCoe Idealize.SL.Sem

namespace Cert.Proof.Fox
open Cert.KernelIdeal Cert.KernelIdeal.Gen

/-! ## The precondition's own side conditions -/

/-- The shapes of the precondition's operations fit. -/
theorem preSides : Cert.Pre_finite_logits.Facts where
  bitsLt_bf16_f32 := by decide
  bcast_S_S16384x1024 := by decide
  reducesTo_S16384x1024_S_d0_1 := by decide
  h_S_ := by decide
  slices_S16384x128_S16384x8_0_0 := by decide
  bcast_S_S16384x8 := by decide
  reducesTo_S16384x8_S_d0_1 := by decide
  bcast_S_S16x8x1024 := by decide
  reducesTo_S16x8x1024_S_d0_1_2 := by decide
  slices_S32x8x144x512_S32x8x1x512_0_0_128_0 := by decide
  shapeCasts_S32x8x1x512_S32x8x512 := by decide
  bcast_S_S32x8x512 := by decide
  reducesTo_S32x8x512_S_d0_1_2 := by decide

/-! ## What the precondition gives -/

/-- A conjunction of two bits holds of both. -/
theorem andi_one : ∀ a b : BitVec 1, IntOp.andi a b = 1#1 → a = 1#1 ∧ b = 1#1 := by decide

/-- A conjunction over a finite set holds of each. -/
theorem fold_andi_one {ι : Type} (s : Finset ι) (p : ι → BitVec 1) (h : s.fold IntOp.andi 1#1 p = 1#1) : ∀ i ∈ s, p i = 1#1 := by
  classical
  induction s using Finset.induction_on with
  | empty => simp
  | insert i s hi ih =>
    rw [Finset.fold_insert hi] at h
    obtain ⟨h1, h2⟩ := andi_one _ _ h
    intro j hj
    rcases Finset.mem_insert.mp hj with rfl | hj
    · exact h1
    · exact ih h2 j hj

/-- A conjunction over everything holds of each. -/
theorem univ_andi_one {ι : Type} {inst : Fintype ι} (p : ι → BitVec 1) (h : (@Finset.univ ι inst).fold IntOp.andi 1#1 p = 1#1) (i : ι) : p i = 1#1 :=
  fold_andi_one _ p h i (Finset.mem_univ i)

/-- A value below infinity in absolute value is a real. -/
theorem real_of_abs_lt (x : EReal) (h : BitVec.ofBool (decide (FloatOps.absf (F := Ideal) (φ := .f32) x < Ideal.ofBits FTy.f32 0x7F800000#32)) = 1#1) :
    ∃ r : ℝ, x = r := by
  have e : Ideal.ofBits FTy.f32 0x7F800000#32 = ⊤ := by simp [Ideal.ofBits, Ideal.ieee]
  rw [e] at h
  induction x with
  | bot => exact absurd h (by simp [FloatOps.absf])
  | top => exact absurd h (by simp [FloatOps.absf])
  | coe r => exact ⟨r, rfl⟩

/-- Under the precondition queries, keys and cumulative log-forgets are reals and the row under the values holds ones. -/
theorem pre_facts [Cert.Pre_finite_logits.Facts] (xQ xK : FVec Ideal S16384x1024 .bf16) (xV : FVec Ideal S32x8x144x512 .bf16) (xU : FVec Ideal S16384x15872 .f32)
    (xC : FVec Ideal S16384x128 .f32) (xR : FVec Ideal S16x8x1024 .f32)
    (h : Cert.Pre_finite_logits.fn (F := Ideal) xQ xK xV xU xC xR ix0 = 1#1) :
    (∀ (a : Fin 16384) (b : Fin 1024), ∃ r : ℝ, xQ (ix2 a b) = (r : EReal)) ∧ (∀ (a : Fin 16384) (b : Fin 1024), ∃ r : ℝ, xK (ix2 a b) = (r : EReal)) ∧ (∀ (a : Fin 16384) (b : Fin 8), ∃ r : ℝ, xC (ix2 a (FoxRef.headLane b)) = (r : EReal))
      ∧ (∀ (a : Fin 16) (b : Fin 8) (d : Fin 1024), ∃ r : ℝ, xR (ix3 a b d) = (r : EReal)) ∧ ∀ (a : Fin 32) (b : Fin 8) (d : Fin 512), xV (ix4 a b 128 d) = (1 : EReal) := by
  pointwise [Cert.Pre_finite_logits.fn, Cert.Pre_finite_logits.fn_part1] at h
  obtain ⟨h, hV⟩ := andi_one _ _ h
  obtain ⟨h, hR⟩ := andi_one _ _ h
  obtain ⟨h, hC⟩ := andi_one _ _ h
  obtain ⟨hQ, hK⟩ := andi_one _ _ h
  refine ⟨fun a b => ?_, fun a b => ?_, fun a b => ?_, fun a b d => ?_, fun a b d => ?_⟩
  · have e := univ_andi_one _ hQ (a, b)
    exact real_of_abs_lt (xQ (ix2 a b)) e
  · have e := univ_andi_one _ hK (a, b)
    exact real_of_abs_lt (xK (ix2 a b)) e
  · have e := univ_andi_one _ hC (a, b)
    exact real_of_abs_lt (xC (ix2 a (FoxRef.headLane b))) e
  · have e := univ_andi_one _ hR (a, b, d)
    exact real_of_abs_lt (xR (ix3 a b d)) e
  · have e := univ_andi_one _ hV (a, b, d)
    by_contra hne
    simp [hne] at e

end Cert.Proof.Fox

end
-- ==== Proof.FoxEq.lean ====
module

public import proofs.«01_k».proof.Proof.FoxScratch
public import proofs.«01_k».proof.Proof.FoxRef

@[expose] public section

set_option maxRecDepth 16384

noncomputable section

open Idealize.ShloMosaic Idealize.ShloMosaic.TcCoe Idealize.SL.Sem

namespace Cert.Proof.Fox
open Cert.KernelIdeal Cert.KernelIdeal.Gen FoxRef

/-! ## The running softmax against the reference's -/

/-- The running sum reads the values of the chunks so far only. -/
theorem runAcc_congr (Y : ℕ → EReal) (c : EReal) (V W : ℕ → EReal) (n : ℕ) (h : ∀ k, k < 512 * n → V k = W k) :
    runAcc Y c V n = runAcc Y c W n := by
  induction n with
  | zero => rfl
  | succ n ih =>
    rw [runAcc, runAcc, ih fun k hk => h k (by omega)]
    exact congrArg (_ + ·) (Finset.sum_congr rfl fun k _ => by rw [h _ (by omega)])

/-- A sum of reals is the sum of their values. -/
theorem coe_sum {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

/-- The maximum over the first numbers. -/
theorem sup_range (K : ℕ) (f : ℕ → EReal) : (Finset.range K).sup f = (Finset.univ : Finset (Fin K)).sup fun x => f x.val := by
  refine le_antisymm (Finset.sup_le fun k hk => ?_) (Finset.sup_le fun k _ => ?_)
  · exact Finset.le_sup (f := fun x : Fin K => f x.val) (Finset.mem_univ ⟨k, Finset.mem_range.mp hk⟩)
  · exact Finset.le_sup (f := f) (Finset.mem_range.mpr k.isLt)

section
variable (Qb : FVec Ideal S1024x512 .bf16) (Kb : FVec Ideal S8192x512 .bf16) (Vb : FVec Ideal S16x4x144x512 .bf16)
    (Cb : FVec Ideal S8192x128 .f32) (Rb : FVec Ideal S1x8x1024 .f32)
    (xQ xK : FVec Ideal S16384x1024 .bf16) (xV : FVec Ideal S32x8x144x512 .bf16)
    (xC : FVec Ideal S16384x128 .f32) (xR : FVec Ideal S16x8x1024 .f32)
    (b : Fin 2) (hg : Fin 2) (qi : Fin 8)
  (hQ : ∀ (q : Fin 1024) (n : Fin 512), Qb (ix2 q n) = xQ (ix2 (row b (pos qi q)) (wide hg n)))
  (hK : ∀ (k : Fin 8192) (n : Fin 512), Kb (ix2 k n) = xK (ix2 (row b k) (wide hg n)))
  (hV : ∀ (a : Fin 16) (hh : Fin 4) (r : Fin 144) (k : Fin 512),
    Vb (ix4 a hh r k) = xV (ix4 (chunk b a) (head hg hh) r k))
  (hC : ∀ (k : Fin 8192) (n : Fin 128), Cb (ix2 k n) = xC (ix2 (row b k) n))
  (hR : ∀ (n : Fin 8) (q : Fin 1024), Rb (ix3 0 n q) = xR (ix3 (tileRow b qi) n q))
  (fQ : ∀ (a : Fin 16384) (b : Fin 1024), ∃ r : ℝ, xQ (ix2 a b) = (r : EReal))
  (fK : ∀ (a : Fin 16384) (b : Fin 1024), ∃ r : ℝ, xK (ix2 a b) = (r : EReal))
  (fC : ∀ (a : Fin 16384) (b : Fin 8), ∃ r : ℝ, xC (ix2 a (headLane b)) = (r : EReal))
  (fR : ∀ (a : Fin 16) (b : Fin 8) (d : Fin 1024), ∃ r : ℝ, xR (ix3 a b d) = (r : EReal))
  (fV : ∀ (a : Fin 32) (b : Fin 8) (d : Fin 512), xV (ix4 a b 128 d) = (1 : EReal))
  (hh : Fin 4) (q : Fin 1024)

include hQ hK hC hR fQ fK fC fR in
/-- With real queries, keys and log-forgets the query's bias is a real, and a key's score with that bias is, in natural units,
the reference's logit. -/
theorem score_logit : ∃ c : ℝ, bias Rb hg hh q = (c : EReal) ∧ ∀ k : Fin 8192, ∃ y l : ℝ, score Qb Kb Cb hg hh q k = (y : EReal)
    ∧ FoxRef.logit xQ xK xC xR b (head hg hh) (pos qi q) k = (l : EReal)
    ∧ Real.log 2 * (y + c) = l := by
  choose rQ eQ using fQ
  choose rK eK using fK
  choose rC eC using fC
  choose rR eR using fR
  have hlog : Real.log 2 ≠ 0 := (Real.log_pos (by norm_num)).ne'
  refine ⟨rR (tileRow b qi) (head hg hh) q * (Real.log 2)⁻¹, ?_, fun k => ?_⟩
  · rw [bias, hR, eR, EReal.coe_mul]
  refine ⟨(∑ d : Fin 128, rK (row b k) ⟨512 * hg.val + (128 * hh.val + d.val), by omega⟩
        * rQ (row b (pos qi q)) ⟨512 * hg.val + (128 * hh.val + d.val), by omega⟩)
      * ((Real.sqrt 128)⁻¹ * (Real.log 2)⁻¹) - rC (row b k) (head hg hh) * (Real.log 2)⁻¹,
    (∑ d : Fin 128, rK (row b k) ⟨512 * hg.val + (128 * hh.val + d.val), by omega⟩
        * rQ (row b (pos qi q)) ⟨512 * hg.val + (128 * hh.val + d.val), by omega⟩)
      * (Real.sqrt 128)⁻¹ + rR (tileRow b qi) (head hg hh) q
      - rC (row b k) (head hg hh), ?_, ?_, ?_⟩
  · rw [score, EReal.coe_sub, EReal.coe_mul, EReal.coe_mul, ← coe_sum, hC, show xC _ = _ from eC (row b k) (head hg hh)]
    refine congrArg (· * _ - _) (Finset.sum_congr rfl fun d _ => ?_)
    rw [hK, hQ, eK, eQ, EReal.coe_mul]
  · rw [FoxRef.logit, EReal.coe_sub, EReal.coe_add, EReal.coe_mul, ← coe_sum, eC]
    have e1 : tileOf (pos qi q) = qi := Fin.ext (by dsimp only; omega)
    have e2 : inTile (pos qi q) = q := Fin.ext (by dsimp only; omega)
    have e3 : xR (ix3 (tileRow b (tileOf (pos qi q))) (head hg hh) (inTile (pos qi q)))
        = ((rR (tileRow b qi) (head hg hh) q : ℝ) : EReal) := by
      rw [e1, e2]; exact eR _ _ _
    refine congrArg₂ (fun x z => x * _ + z - _) (Finset.sum_congr rfl fun d _ => ?_) e3
    have e : lane (head hg hh) d = wide hg ⟨128 * hh.val + d.val, by omega⟩ := Fin.ext (by dsimp only; omega)
    rw [e, eQ, eK, mul_comm, EReal.coe_mul]
  · field_simp
    ring

end

end Cert.Proof.Fox

end
-- ==== Proof.FoxRatio.lean ====
module

public import proofs.«01_k».proof.Proof.FoxEq

@[expose] public section

set_option maxRecDepth 16384

noncomputable section

open Idealize.ShloMosaic Idealize.ShloMosaic.TcCoe Idealize.SL.Sem

namespace Cert.Proof.Fox
open Cert.KernelIdeal Cert.KernelIdeal.Gen FoxRef

/-! ## The running softmax is the softmax -/

section
variable (Qb : FVec Ideal S1024x512 .bf16) (Kb : FVec Ideal S8192x512 .bf16) (Vb : FVec Ideal S16x4x144x512 .bf16)
    (Cb : FVec Ideal S8192x128 .f32) (Rb : FVec Ideal S1x8x1024 .f32)
    (xQ xK : FVec Ideal S16384x1024 .bf16) (xV : FVec Ideal S32x8x144x512 .bf16)
    (xC : FVec Ideal S16384x128 .f32) (xR : FVec Ideal S16x8x1024 .f32)
    (b : Fin 2) (hg : Fin 2) (qi : Fin 8)
  (hQ : ∀ (q : Fin 1024) (n : Fin 512), Qb (ix2 q n) = xQ (ix2 (row b (pos qi q)) (wide hg n)))
  (hK : ∀ (k : Fin 8192) (n : Fin 512), Kb (ix2 k n) = xK (ix2 (row b k) (wide hg n)))
  (hV : ∀ (a : Fin 16) (hh : Fin 4) (r : Fin 144) (k : Fin 512),
    Vb (ix4 a hh r k) = xV (ix4 (chunk b a) (head hg hh) r k))
  (hC : ∀ (k : Fin 8192) (n : Fin 128), Cb (ix2 k n) = xC (ix2 (row b k) n))
  (hR : ∀ (n : Fin 8) (q : Fin 1024), Rb (ix3 0 n q) = xR (ix3 (tileRow b qi) n q))
  (fQ : ∀ (a : Fin 16384) (b : Fin 1024), ∃ r : ℝ, xQ (ix2 a b) = (r : EReal))
  (fK : ∀ (a : Fin 16384) (b : Fin 1024), ∃ r : ℝ, xK (ix2 a b) = (r : EReal))
  (fC : ∀ (a : Fin 16384) (b : Fin 8), ∃ r : ℝ, xC (ix2 a (headLane b)) = (r : EReal))
  (fR : ∀ (a : Fin 16) (b : Fin 8) (d : Fin 1024), ∃ r : ℝ, xR (ix3 a b d) = (r : EReal))
  (fV : ∀ (a : Fin 32) (b : Fin 8) (d : Fin 512), xV (ix4 a b 128 d) = (1 : EReal))
  (hh : Fin 4) (q : Fin 1024)

include hQ hK hV hC hR fQ fK fC fR fV in
/-- The ratio of the running sums is the reference's attention. -/
theorem ratio_eq (d : Fin 128) (L : FVec Ideal Cert.ReferenceIdeal.S2x8x8192x8192 .f32)
    (hL : ∀ k : Fin 8192, L (ix4 b (head hg hh) (pos qi q) k)
      = if k.val ≤ 1024 * qi.val + q.val then
          FoxRef.logit xQ xK xC xR b (head hg hh) (pos qi q) k else ⊥) :
    Ideal.div (runAcc (masked Qb Kb Cb hg qi hh q) (bias Rb hg hh q) (vals Vb hh (valueRow d)) (2 * qi.val + 2))
      (runAcc (masked Qb Kb Cb hg qi hh q) (bias Rb hg hh q) (vals Vb hh 128) (2 * qi.val + 2))
    = ∑ k : Fin 8192, xV (ix4 (chunk b (chunkOf k)) (head hg hh) (valueRow d) (placeOf k))
          * Ideal.div (FoxRef.exps L (ix4 b (head hg hh) (pos qi q) k))
            (∑ x : Fin 8192, FoxRef.exps L (ix4 b (head hg hh) (pos qi q) x)) := by
  obtain ⟨c, hc, hs⟩ := score_logit Qb Kb Cb Rb xQ xK xC xR b hg qi hQ hK hC hR fQ fK fC fR hh q
  have hcut : runAcc (masked Qb Kb Cb hg qi hh q) (c : EReal) (vals Vb hh 128) (2 * qi.val + 2)
      = runAcc (masked Qb Kb Cb hg qi hh q) (c : EReal) (fun _ => 1) (2 * qi.val + 2) :=
    runAcc_congr _ _ _ _ _ fun k hk => by
      rw [vals, dif_pos (by omega), hV]
      exact fV _ _ _
  let l : ℕ → EReal := fun k => if h : k < 8192 then
    L (ix4 b (head hg hh) (pos qi q) ⟨k, h⟩) else ⊥
  have hl : ∀ k : Fin 8192, l k.val = L (ix4 b (head hg hh) (pos qi q) k) := fun k =>
    dif_pos k.isLt
  have hlb : ∀ k, 1024 * qi.val + q.val < k → l k = ⊥ := by
    intro k hk
    by_cases h : k < 8192
    · rw [hl ⟨k, h⟩, hL, if_neg (by show ¬ k ≤ _; omega)]
    · exact dif_neg h
  have hYL : ∀ k, (masked Qb Kb Cb hg qi hh q k = ⊥ ∧ l k = ⊥)
      ∨ ∃ y z : ℝ, masked Qb Kb Cb hg qi hh q k = y ∧ l k = z ∧ Real.log 2 * (y + c) = z := by
    intro k
    by_cases h : k ≤ 1024 * qi.val + q.val
    · obtain ⟨y, z, hy, hz, e⟩ := hs ⟨k, by omega⟩
      refine Or.inr ⟨y, z, (dif_pos h).trans hy, ?_, e⟩
      rw [hl ⟨k, by omega⟩, hL, if_pos h, hz]
    · exact Or.inl ⟨dif_neg h, hlb k (by omega)⟩
  have h0 : ∃ r : ℝ, masked Qb Kb Cb hg qi hh q 0 = r := by
    obtain ⟨y, _, hy, _⟩ := hs 0
    exact ⟨y, (dif_pos (Nat.zero_le _)).trans hy⟩
  rw [hc, hcut, running_softmax _ c l _ _ 8192 (by omega) (by omega) hYL h0 fun k hk => hlb k (by omega)]
  have he : ∀ k : Fin 8192, Ideal.exp (l k.val - (Finset.range 8192).sup l)
      = FoxRef.exps L (ix4 b (head hg hh) (pos qi q) k) := by
    intro k
    rw [FoxRef.exps_at, sup_range, hl]
    exact congrArg (fun z => Ideal.exp (_ - Finset.univ.sup z)) (funext hl)
  rw [Finset.sum_range, Finset.sum_range]
  refine Finset.sum_congr rfl fun k _ => congrArg₂ (· * ·) ?_ (congrArg₂ Ideal.div (he k) (Finset.sum_congr rfl fun x _ => he x))
  rw [vals, dif_pos k.isLt, hV]

end

end Cert.Proof.Fox

end
-- ==== Proof.Fox.lean ====
/- The value of the attention's call. -/
module

public import proofs.«01_k».proof.Proof.FoxOut
public import proofs.«01_k».proof.Proof.FoxIdx
public import proofs.«01_k».proof.Proof.FoxPre
public import proofs.«01_k».proof.Proof.FoxRatio

@[expose] public section

set_option maxRecDepth 16384

noncomputable section

open Idealize.ShloMosaic Idealize.ShloMosaic.TcCoe Idealize.SL.Sem
open Idealize.ShloMosaic.Pipeline (Dat)

namespace Cert.Proof.Fox
open Cert.KernelIdeal Cert.KernelIdeal.Gen FoxRef

variable (m : (ℓ : Loc nD τ sig) → Buf (Elt Ideal) ℓ)

/-- The reference's result over the kernel's arguments. -/
abbrev want (c : Dev nD) : FVec Ideal S16384x1024 .bf16 :=
  FoxRef.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable [Cert.Pre_finite_logits.Facts]

/-- What a point stores at an index of its block is the reference's result at the array index it sits at. -/
theorem point (hpre : Cert.Pre_KernelIdeal_finite_logits m) (c : Dev nD) (t : Fin cfg0.N) (y : S1024x512.Idx) :
    outsAt0 (F := Ideal) m c t y = want m c (((cfg0.win 6).blk t).view.emb y) := by
  have hy1 : (y 1).val < 512 := (y 1).isLt
  obtain ⟨fQ, fK, fC, fR, fV⟩ := pre_facts _ _ _ _ _ _ (congrFun (hpre c) ix0)
  let b : Fin 2 := grid0.coords t 0
  let hg : Fin 2 := grid0.coords t 1
  let qi : Fin 8 := grid0.coords t 2
  let q : Fin 1024 := y 0
  let hh : Fin 4 := ⟨(y 1).val / 128, by omega⟩
  let d : Fin 128 := ⟨(y 1).val % 128, Nat.mod_lt _ (by norm_num)⟩
  have hemb : ((cfg0.win 6).blk t).view.emb y = ix2 (row b (pos qi q)) (wide hg (y 1)) := by
    blk_ext [idx t, b, hg, qi, q]
  have e : wide hg (y 1) = lane (head hg hh) d := Fin.ext (by
    show 512 * hg.val + (y 1).val = (4 * hg.val + (y 1).val / 128) * 128 + (y 1).val % 128
    omega)
  rw [out_at m c t hg qi rfl rfl y hh q d rfl (by show (y 1).val = 128 * ((y 1).val / 128) + (y 1).val % 128; omega), hemb, e, want,
    FoxRef.result, FoxRef.gated_at, outVal]
  refine congrArg₂ (· * ·) ?_ (congrArg (fun z => z * Ideal.logistic z) ?_)
  · exact ratio_eq _ _ _ _ _ _ _ _ _ _ b hg qi (q_at m c t b hg qi rfl rfl rfl) (k_at m c t b hg qi rfl rfl rfl)
      (v_at m c t b hg qi rfl rfl rfl) (c_at m c t b hg qi rfl rfl rfl) (r_at m c t b hg qi rfl rfl rfl) fQ fK fC fR fV hh q d _
      (fun k => FoxRef.logits_at _ _ _ _ b (head hg hh) (pos qi q) k)
  · refine (g_at m c t b hg qi rfl rfl rfl q _).trans (congrArg (fun z => m ((c : Thread nD τ).loc main_arg3) (ix2 (row b (pos qi q)) z)) ?_)
    exact Fin.ext (by
      show 10240 + (512 * hg.val + (128 * hh.val + d.val)) = 10240 + ((4 * hg.val + hh.val) * 128 + d.val)
      omega)

/-- The result array after the run is the reference's. -/
theorem final (hpre : Cert.Pre_KernelIdeal_finite_logits m) (c : Dev nD) : (dats m 0 c).arrAt 6 cfg0.N = want m c := by
  refine (dats m 0 c).arrAt_eq_of_covers 6 _ (by decide +kernel) fun t _ y => ?_
  blk_simp
  rw [after0_6]
  exact point m hpre c t y

/-- Under the precondition the attention's kernel and its reference end with the same result. -/
theorem algebraic : Cert.algebraic_KernelIdeal_ReferenceIdeal_pre_finite_logits := by
  intro m ρ m' ρ' hpre hag
  refine ⟨fun c => want m c, ?_, ?_⟩
  · exact (θ_run Cert.KernelIdeal.defs _ _).mono (fun _ h c => ⟨(h c).1.trans (final m hpre c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    refine (FoxRef.res_eq m' c).trans ?_
    rw [(hag c).1, (hag c).2.1, (hag c).2.2.1, (hag c).2.2.2.1, (hag c).2.2.2.2.1, (hag c).2.2.2.2.2]

end Cert.Proof.Fox

end
-- ==== Proof.Norm.lean ====
/- The value of the layer's norm's call. -/
module

public import proofs.«01_k».proof.Defs
public import proofs.«01_k».proof.Proof.Gen.KernelNormIdeal.Value
public import proofs.«01_k».proof.Proof.Gen.ReferenceNormIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Norm

open Cert.KernelNormIdeal Cert.KernelNormIdeal.Gen

variable (m : (ℓ : Loc nD τ sig) → Buf (Elt Ideal) ℓ)

/-- The rows over the roots of their mean squares, times the weights, as an array. -/
def normed (x : FVec Ideal S16384x4096 .f32) (w : FVec Ideal S4096 .f32) : FVec Ideal S16384x4096 .bf16 := fun i =>
  x (ix2 (i 0) (i 1)) * Ideal.rsqrt (Ideal.div (∑ k : Fin 4096, x (ix2 (i 0) k) * x (ix2 (i 0) k)) (Ideal.ofBits FTy.f32 0x45800000#32)
    + Ideal.ofBits FTy.f32 0x358637BD#32) * w (ix1 (i 1))

/-- The block each window takes at a grid point. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- What a point stores at an index of its block is the normed row at the array index it sits at. -/
theorem point (c : Dev nD) (t : Fin cfg0.N) (y : S256x4096.Idx) :
    k0_pay1 (iblk m c 0 t) (iblk m c 1 t) y
      = normed (m ((c : Thread nD τ).loc main_arg0)) (m ((c : Thread nD τ).loc main_arg1))
          (((cfg0.win 2).blk t).view.emb y) := by
  pointwise [k0_pay1]
  unfold normed
  blk_point [iblk, V, idx t]

/-- The result array after the run. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The layer's norm's call and its reference end with the same result. -/
theorem algebraic : Cert.algebraic_KernelNormIdeal_ReferenceNormIdeal := by
  intro m ρ m' ρ' _ hag
  refine ⟨fun c => normed (m ((c : Thread nD τ).loc main_arg0)) (m ((c : Thread nD τ).loc main_arg1)), ?_, ?_⟩
  · exact (θ_run Cert.KernelNormIdeal.defs _ _).mono (fun _ h c => ⟨(h c).1.trans (final m c), (h c).2⟩)
      (Cert.KernelNormIdeal.Value.run_blocks (F := Ideal) m ρ)
  · refine (θ_run Cert.ReferenceNormIdeal.defs _ _).mono (fun r h c => ⟨(h c).1.trans ?_, (h c).2⟩)
      (Cert.ReferenceNormIdeal.Value.run (F := Ideal) m' ρ')
    rw [(hag c).1, (hag c).2]
    funext i
    pointwise [normed]

end Cert.Proof.Norm

end
-- ==== Proof.Last.lean ====
/- The value of the last norm's call. -/
module

public import proofs.«01_k».proof.Defs
public import proofs.«01_k».proof.Proof.Gen.KernelLastIdeal.Value
public import proofs.«01_k».proof.Proof.Gen.ReferenceLastIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Last

open Cert.KernelLastIdeal Cert.KernelLastIdeal.Gen

variable (m : (ℓ : Loc nD τ sig) → Buf (Elt Ideal) ℓ)

/-- The rows over the roots of their mean squares, times the weights, as an array. -/
def normed (x : FVec Ideal S16384x4096 .f32) (w : FVec Ideal S4096 .f32) : FVec Ideal S16384x4096 .f32 := fun i =>
  x (ix2 (i 0) (i 1)) * Ideal.rsqrt (Ideal.div (∑ k : Fin 4096, x (ix2 (i 0) k) * x (ix2 (i 0) k)) (Ideal.ofBits FTy.f32 0x45800000#32)
    + Ideal.ofBits FTy.f32 0x358637BD#32) * w (ix1 (i 1))

/-- The block each window takes at a grid point. -/
theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- What a point stores at an index of its block is the normed row at the array index it sits at. -/
theorem point (c : Dev nD) (t : Fin cfg0.N) (y : S256x4096.Idx) :
    k0_pay1 (iblk m c 0 t) (iblk m c 1 t) y
      = normed (m ((c : Thread nD τ).loc main_arg0)) (m ((c : Thread nD τ).loc main_arg1))
          (((cfg0.win 2).blk t).view.emb y) := by
  pointwise [k0_pay1]
  unfold normed
  blk_point [iblk, V, idx t]

/-- The result array after the run. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The last norm's call and its reference end with the same result. -/
theorem algebraic : Cert.algebraic_KernelLastIdeal_ReferenceLastIdeal := by
  intro m ρ m' ρ' _ hag
  refine ⟨fun c => normed (m ((c : Thread nD τ).loc main_arg0)) (m ((c : Thread nD τ).loc main_arg1)), ?_, ?_⟩
  · exact (θ_run Cert.KernelLastIdeal.defs _ _).mono (fun _ h c => ⟨(h c).1.trans (final m c), (h c).2⟩)
      (Cert.KernelLastIdeal.Value.run_blocks (F := Ideal) m ρ)
  · refine (θ_run Cert.ReferenceLastIdeal.defs _ _).mono (fun r h c => ⟨(h c).1.trans ?_, (h c).2⟩)
      (Cert.ReferenceLastIdeal.Value.run (F := Ideal) m' ρ')
    rw [(hag c).1, (hag c).2]
    funext i
    pointwise [normed]

end Cert.Proof.Last

end
-- ==== Proof.Conv.lean ====
/- The value of the short convolution's call. -/
module

public import proofs.«01_k».proof.Defs
public import proofs.«01_k».proof.Proof.Gen.KernelConvIdeal.Value
public import proofs.«01_k».proof.Proof.Gen.ReferenceConvIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Conv

open Cert.KernelConvIdeal Cert.KernelConvIdeal.Gen

variable (m : (ℓ : Loc nD τ sig) → Buf (Elt Ideal) ℓ)

/-- The product of the two convolved lanes at a row. -/
def prod (a : FVec Ideal S16384x15872 .f32) (r : Fin 16384) (n : Fin 1024) : EReal :=
  a (ix2 r ⟨4096 + n.val, by omega⟩) * a (ix2 r ⟨5120 + n.val, by omega⟩)

/-- The product at the row `s` rows before, zero where that row is before its sequence. -/
def back (a : FVec Ideal S16384x15872 .f32) (s : ℕ) (r : Fin 16384) (n : Fin 1024) : EReal :=
  if r.val % 8192 < s then 0 else prod a ⟨r.val - s, by omega⟩ n

/-- The convolution's result as an array. -/
def conv (a : FVec Ideal S16384x15872 .f32) (w : FVec Ideal S3x1024 .f32) : FVec Ideal S16384x1024 .bf16 := fun i =>
  a (ix2 (i 0) ⟨3072 + (i 1).val, by have : (i 1).val < 1024 := (i 1).isLt; omega⟩)
    * (w (ix2 0 (i 1)) * back a 2 (i 0) (i 1) + w (ix2 1 (i 1)) * back a 1 (i 0) (i 1) + w (ix2 2 (i 1)) * back a 0 (i 0) (i 1))
    * (a (ix2 (i 0) ⟨6144 + (i 1).val, by have : (i 1).val < 1024 := (i 1).isLt; omega⟩)
      * Ideal.logistic (a (ix2 (i 0) ⟨6144 + (i 1).val, by have : (i 1).val < 1024 := (i 1).isLt; omega⟩)))

/-- The block each window takes at a grid point. -/
theorem idx : ∀ t : Fin cfg0.N, win0_0.index t = ![(grid0.coords t 0).val, 3] ∧ win0_1.index t = ![(grid0.coords t 0).val, 4]
    ∧ win0_2.index t = ![(grid0.coords t 0).val, 5] ∧ win0_3.index t = ![(grid0.coords t 0).val, 6]
    ∧ win0_4.index t = ![64 * (grid0.coords t 0).val - 1, 4] ∧ win0_5.index t = ![64 * (grid0.coords t 0).val - 1, 5]
    ∧ win0_6.index t = ![0, 0] ∧ win0_7.index t = ![(grid0.coords t 0).val, 0] :=
  (by decide +kernel : ∀ t : Fin grid0.N, _)

/-- The convolution's outer factor's block, in the array. -/
theorem x0_at (c : Dev nD) (t : Fin cfg0.N) (q : Fin 512) (n : Fin 1024) (r : Fin 16384) (hr : r.val = 512 * (grid0.coords t 0).val + q.val) :
    (show EReal from X0_0 m c t (ix2 q n)) = m ((c : Thread nD τ).loc main_arg0) (ix2 r ⟨3072 + n.val, by omega⟩) := by
  unfold X0_0 Pipeline.Window.fill
  rw [dif_pos (moved0_0 t _)]
  blk_point [iblk, V, idx t]

/-- The first convolved lanes' block, in the array. -/
theorem x1_at (c : Dev nD) (t : Fin cfg0.N) (q : Fin 512) (n : Fin 1024) (r : Fin 16384) (hr : r.val = 512 * (grid0.coords t 0).val + q.val) :
    (show EReal from X0_1 m c t (ix2 q n)) = m ((c : Thread nD τ).loc main_arg0) (ix2 r ⟨4096 + n.val, by omega⟩) := by
  unfold X0_1 Pipeline.Window.fill
  rw [dif_pos (moved0_1 t _)]
  blk_point [iblk, V, idx t]

/-- The second convolved lanes' block, in the array. -/
theorem x2_at (c : Dev nD) (t : Fin cfg0.N) (q : Fin 512) (n : Fin 1024) (r : Fin 16384) (hr : r.val = 512 * (grid0.coords t 0).val + q.val) :
    (show EReal from X0_2 m c t (ix2 q n)) = m ((c : Thread nD τ).loc main_arg0) (ix2 r ⟨5120 + n.val, by omega⟩) := by
  unfold X0_2 Pipeline.Window.fill
  rw [dif_pos (moved0_2 t _)]
  blk_point [iblk, V, idx t]

/-- The gate's lanes' block, in the array. -/
theorem x3_at (c : Dev nD) (t : Fin cfg0.N) (q : Fin 512) (n : Fin 1024) (r : Fin 16384) (hr : r.val = 512 * (grid0.coords t 0).val + q.val) :
    (show EReal from X0_3 m c t (ix2 q n)) = m ((c : Thread nD τ).loc main_arg0) (ix2 r ⟨6144 + n.val, by omega⟩) := by
  unfold X0_3 Pipeline.Window.fill
  rw [dif_pos (moved0_3 t _)]
  blk_point [iblk, V, idx t]

/-- The eight rows of the first convolved lanes before a block, in the array. -/
theorem x4_at (c : Dev nD) (t : Fin cfg0.N) (q : Fin 8) (n : Fin 1024) (r : Fin 16384) (hr : r.val = 8 * (64 * (grid0.coords t 0).val - 1) + q.val) :
    (show EReal from X0_4 m c t (ix2 q n)) = m ((c : Thread nD τ).loc main_arg0) (ix2 r ⟨4096 + n.val, by omega⟩) := by
  unfold X0_4 Pipeline.Window.fill
  rw [dif_pos (moved0_4 t _)]
  blk_point [iblk, V, idx t]

/-- The eight rows of the second convolved lanes before a block, in the array. -/
theorem x5_at (c : Dev nD) (t : Fin cfg0.N) (q : Fin 8) (n : Fin 1024) (r : Fin 16384) (hr : r.val = 8 * (64 * (grid0.coords t 0).val - 1) + q.val) :
    (show EReal from X0_5 m c t (ix2 q n)) = m ((c : Thread nD τ).loc main_arg0) (ix2 r ⟨5120 + n.val, by omega⟩) := by
  unfold X0_5 Pipeline.Window.fill
  rw [dif_pos (moved0_5 t _)]
  blk_point [iblk, V, idx t]

/-- The weights' block is the weights. -/
theorem w_at (c : Dev nD) (t : Fin cfg0.N) (k : Fin 3) (n : Fin 1024) :
    (show EReal from iblk m c 6 t (ix2 k n)) = m ((c : Thread nD τ).loc main_arg1) (ix2 k n) := by
  blk_point [iblk, V, idx t]

set_option maxHeartbeats 2000000 in
/-- What a grid point stores, as a payload of the blocks it reads. -/
theorem out_at (c : Dev nD) (t : Fin cfg0.N) (y : S512x1024.Idx) :
    outsAt0 (F := Ideal) m c t y
      = k0_pay1 (k0_pay2 (X0_1 m c t) (X0_2 m c t)) (k0_pay4 (grid0.coords t) (X0_1 m c t) (X0_2 m c t) (X0_4 m c t) (X0_5 m c t))
        k0_pay5 (k0_pay6 (grid0.coords t) (X0_1 m c t) (X0_2 m c t) (X0_4 m c t) (X0_5 m c t))
        (k0_pay7 (grid0.coords t) (X0_4 m c t) (X0_5 m c t)) (iblk m c 6 t) (X0_3 m c t) (X0_0 m c t) y := by
  unfold outsAt0
  frame_out

/-- The one-bit word of a condition chooses as the condition does. -/
theorem select_word (p : Prop) [Decidable p] (a b : EReal) : Scalar.select (if p then 1#1 else 0#1) a b = if p then a else b := by
  split_ifs <;> rfl

/-- The word of a row being a block's first. -/
theorem row0 : ∀ q : Fin 512, IntOp.cmpi .eq (BitVec.ofNat 32 q.val) 0#32 = if q.val = 0 then 1#1 else 0#1 := by
  decide +kernel

/-- The word of a row being a block's second. -/
theorem row1 : ∀ q : Fin 512, IntOp.cmpi .eq (BitVec.ofNat 32 q.val) 1#32 = if q.val = 1 then 1#1 else 0#1 := by
  decide +kernel

/-- The word of a tile being its sequence's first. -/
theorem tile0 : ∀ k : Fin 32,
    Scalar.cmpi .eq (Scalar.select
      (Scalar.andi (Scalar.xori
          (Scalar.cmpi .slt (Scalar.remsi (BitVec.ofNat 32 k.val) (Scalar.select (Scalar.cmpi .eq 16#32 0#32) 1#32 16#32)) 0#32)
          (Scalar.cmpi .slt (Scalar.select (Scalar.cmpi .eq 16#32 0#32) 1#32 16#32) 0#32))
        (Scalar.cmpi .ne (Scalar.remsi (BitVec.ofNat 32 k.val) (Scalar.select (Scalar.cmpi .eq 16#32 0#32) 1#32 16#32)) 0#32))
      (Scalar.addi (Scalar.remsi (BitVec.ofNat 32 k.val) (Scalar.select (Scalar.cmpi .eq 16#32 0#32) 1#32 16#32))
        (Scalar.select (Scalar.cmpi .eq 16#32 0#32) 1#32 16#32))
      (Scalar.remsi (BitVec.ofNat 32 k.val) (Scalar.select (Scalar.cmpi .eq 16#32 0#32) 1#32 16#32))) 0#32
      = if k.val % 16 = 0 then 1#1 else 0#1 := by
  decide +kernel

section pays
variable (k : Fin 32) (i : grid0.Coords) (q : Fin 512) (n : Fin 1024)
  (v0 v1 v52 v53 : FVec Ideal S512x1024 .f32) (v3 v4 : FVec Ideal S8x1024 .f32) (w : FVec Ideal S3x1024 .f32)

/-- What a point stores, at an index, from the blocks it reads. -/
theorem pay_at (hi : i 0 = k) : k0_pay1 (F := Ideal) (k0_pay2 (F := Ideal) v0 v1) (k0_pay4 (F := Ideal) i v0 v1 v3 v4)
        k0_pay5 (k0_pay6 (F := Ideal) i v0 v1 v3 v4) (k0_pay7 (F := Ideal) i v3 v4) w v52 v53 (ix2 q n)
    = v53 (ix2 q n) * (w (ix2 0 n) * (if q.val = 0 then (if k.val % 16 = 0 then 0 else v3 (ix2 6 n) * v4 (ix2 6 n))
          else if q.val = 1 then (if k.val % 16 = 0 then 0 else v3 (ix2 7 n) * v4 (ix2 7 n))
          else v0 (ix2 ⟨(q.val + 512 - 2) % 512, by omega⟩ n) * v1 (ix2 ⟨(q.val + 512 - 2) % 512, by omega⟩ n))
        + w (ix2 1 n) * (if q.val = 0 then (if k.val % 16 = 0 then 0 else v3 (ix2 7 n) * v4 (ix2 7 n))
          else v0 (ix2 ⟨(q.val + 512 - 1) % 512, by omega⟩ n) * v1 (ix2 ⟨(q.val + 512 - 1) % 512, by omega⟩ n))
        + w (ix2 2 n) * (v0 (ix2 q n) * v1 (ix2 q n))) * (v52 (ix2 q n) * Ideal.logistic (v52 (ix2 q n))) := by
  subst hi
  pointwise [k0_pay1, k0_pay2, k0_pay4, k0_pay5, k0_pay6, k0_pay7, k0_pay3]
  simp only [row0, row1, tile0 (i 0), select_word]

end pays

/-- The choices two rows back: a tile's first two rows take the rows before the tile, the others the tile's own. -/
theorem back2 (a : FVec Ideal S16384x15872 .f32) (n : Fin 1024) (k : Fin 32) (q : Fin 512) (r : Fin 16384) (hr : r.val = 512 * k.val + q.val)
    (x6 x7 xq : EReal) (h6 : ∀ u : Fin 16384, u.val = 8 * (64 * k.val - 1) + 6 → x6 = prod a u n)
    (h7 : ∀ u : Fin 16384, u.val = 8 * (64 * k.val - 1) + 7 → x7 = prod a u n)
    (hq : ∀ u : Fin 16384, u.val = 512 * k.val + (q.val + 512 - 2) % 512 → xq = prod a u n) :
    (if q.val = 0 then (if k.val % 16 = 0 then 0 else x6) else if q.val = 1 then (if k.val % 16 = 0 then 0 else x7) else xq)
      = back a 2 r n := by
  unfold back
  by_cases hq0 : q.val = 0
  · rw [if_pos hq0]
    by_cases hk : k.val % 16 = 0
    · rw [if_pos hk, if_pos (by omega)]
    · rw [if_neg hk, if_neg (by omega)]
      exact h6 _ (by show r.val - 2 = _; omega)
  · rw [if_neg hq0]
    by_cases hq1 : q.val = 1
    · rw [if_pos hq1]
      by_cases hk : k.val % 16 = 0
      · rw [if_pos hk, if_pos (by omega)]
      · rw [if_neg hk, if_neg (by omega)]
        exact h7 _ (by show r.val - 2 = _; omega)
    · rw [if_neg hq1, if_neg (by omega)]
      exact hq _ (by show r.val - 2 = _; omega)

/-- The choices one row back: a tile's first row takes the row before the tile, the others the tile's own. -/
theorem back1 (a : FVec Ideal S16384x15872 .f32) (n : Fin 1024) (k : Fin 32) (q : Fin 512) (r : Fin 16384) (hr : r.val = 512 * k.val + q.val)
    (x7 xq : EReal) (h7 : ∀ u : Fin 16384, u.val = 8 * (64 * k.val - 1) + 7 → x7 = prod a u n)
    (hq : ∀ u : Fin 16384, u.val = 512 * k.val + (q.val + 512 - 1) % 512 → xq = prod a u n) :
    (if q.val = 0 then (if k.val % 16 = 0 then 0 else x7) else xq) = back a 1 r n := by
  unfold back
  by_cases hq0 : q.val = 0
  · rw [if_pos hq0]
    by_cases hk : k.val % 16 = 0
    · rw [if_pos hk, if_pos (by omega)]
    · rw [if_neg hk, if_neg (by omega)]
      exact h7 _ (by show r.val - 1 = _; omega)
  · rw [if_neg hq0, if_neg (by omega)]
    exact hq _ (by show r.val - 1 = _; omega)

/-- No row back: the product itself. -/
theorem back0 (a : FVec Ideal S16384x15872 .f32) (n : Fin 1024) (r : Fin 16384) (x : EReal) (h : x = prod a r n) : x = back a 0 r n := by
  unfold back
  rw [if_neg (by omega)]
  exact h

/-- A sequence padded by two rows of zeros and read two rows back. -/
theorem padded2 (a : FVec Ideal S16384x15872 .f32) (n : Fin 1024) (r : Fin 16384) (z : EReal) (hz : z = 0) :
    (if h : r.val / 8192 < 2 ∧ 2 ≤ r.val % 8192 ∧ r.val % 8192 - 2 < 8192
      then prod a ⟨r.val / 8192 * 8192 + (r.val % 8192 - 2), by omega⟩ n else z) = back a 2 r n := by
  unfold back
  by_cases hs : r.val % 8192 < 2
  · rw [dif_neg (by omega), if_pos hs, hz]
  · rw [dif_pos (by omega), if_neg hs]
    exact congrArg (fun u => prod a u n) (Fin.ext (by show r.val / 8192 * 8192 + (r.val % 8192 - 2) = r.val - 2; omega))

/-- A sequence padded by two rows of zeros and read one row back. -/
theorem padded1 (a : FVec Ideal S16384x15872 .f32) (n : Fin 1024) (r : Fin 16384) (z : EReal) (hz : z = 0) :
    (if h : r.val / 8192 < 2 ∧ 2 ≤ 1 + r.val % 8192 ∧ 1 + r.val % 8192 - 2 < 8192
      then prod a ⟨r.val / 8192 * 8192 + (1 + r.val % 8192 - 2), by omega⟩ n else z) = back a 1 r n := by
  unfold back
  by_cases hs : r.val % 8192 < 1
  · rw [dif_neg (by omega), if_pos hs, hz]
  · rw [dif_pos (by omega), if_neg hs]
    exact congrArg (fun u => prod a u n) (Fin.ext (by show r.val / 8192 * 8192 + (1 + r.val % 8192 - 2) = r.val - 1; omega))

/-- A sequence padded by two rows of zeros and read at its own row. -/
theorem padded0 (a : FVec Ideal S16384x15872 .f32) (n : Fin 1024) (r : Fin 16384) (z : EReal) :
    (if h : r.val / 8192 < 2 ∧ r.val % 8192 < 8192 then prod a r n else z) = back a 0 r n := by
  unfold back
  rw [dif_pos (by omega), if_neg (by omega)]
  rfl

/-- What a point stores at an index of its block is the convolution at the array index it sits at. -/
theorem point (c : Dev nD) (t : Fin cfg0.N) (y : S512x1024.Idx) :
    outsAt0 (F := Ideal) m c t y = conv (m ((c : Thread nD τ).loc main_arg0)) (m ((c : Thread nD τ).loc main_arg1))
          (((cfg0.win 7).blk t).view.emb y) := by
  obtain ⟨q, n, rfl⟩ : ∃ (q : Fin 512) (n : Fin 1024), y = ix2 q n := ⟨y 0, y 1, (funext fun a => by fin_cases a <;> rfl)⟩
  have hk : (grid0.coords t 0).val < 32 := (grid0.coords t 0).isLt
  let r : Fin 16384 := ⟨512 * (grid0.coords t 0).val + q.val, by omega⟩
  have hemb : ((cfg0.win 7).blk t).view.emb (ix2 q n) = ix2 r n := by
    blk_ext [idx t, r]
  rw [out_at, pay_at _ _ _ _ _ _ _ _ _ _ _ rfl, hemb]
  unfold conv
  have e0 : (show EReal from X0_0 m c t (ix2 q n)) = _ := x0_at m c t q n r rfl
  have e3 : (show EReal from X0_3 m c t (ix2 q n)) = _ := x3_at m c t q n r rfl
  have e1 : ∀ (p : Fin 512) (u : Fin 16384), u.val = 512 * (grid0.coords t 0).val + p.val →
      (show EReal from X0_1 m c t (ix2 p n)) * (show EReal from X0_2 m c t (ix2 p n)) = prod (m ((c : Thread nD τ).loc main_arg0)) u n :=
    fun p u hu => congrArg₂ (· * ·) (x1_at m c t p n u hu) (x2_at m c t p n u hu)
  have e4 : ∀ (p : Fin 8) (u : Fin 16384), u.val = 8 * (64 * (grid0.coords t 0).val - 1) + p.val →
      (show EReal from X0_4 m c t (ix2 p n)) * (show EReal from X0_5 m c t (ix2 p n)) = prod (m ((c : Thread nD τ).loc main_arg0)) u n :=
    fun p u hu => congrArg₂ (· * ·) (x4_at m c t p n u hu) (x5_at m c t p n u hu)
  refine congrArg₂ (· * ·) (congrArg₂ (· * ·) e0 (congrArg₂ (· + ·) (congrArg₂ (· + ·) (congrArg₂ (· * ·) (w_at m c t 0 n) ?_)
    (congrArg₂ (· * ·) (w_at m c t 1 n) ?_)) (congrArg₂ (· * ·) (w_at m c t 2 n) ?_))) (congrArg (fun z => z * Ideal.logistic z) e3)
  · exact back2 _ n (grid0.coords t 0) q r rfl _ _ _ (e4 6) (e4 7) (e1 ⟨(q.val + 512 - 2) % 512, by omega⟩)
  · exact back1 _ n (grid0.coords t 0) q r rfl _ _ (e4 7) (e1 ⟨(q.val + 512 - 1) % 512, by omega⟩)
  · exact back0 _ n r _ (e1 q r rfl)

/-- The result array after the run. -/
theorem final (c : Dev nD) : (dats m 0 c).arrAt 7 cfg0.N
    = conv (m ((c : Thread nD τ).loc main_arg0)) (m ((c : Thread nD τ).loc main_arg1)) := by
  refine (dats m 0 c).arrAt_eq_of_covers 7 _ (by decide +kernel) fun t _ y => ?_
  blk_simp
  rw [after0_7]
  exact point m c t y

/-- The short convolution's call and its reference end with the same result. -/
theorem algebraic : Cert.algebraic_KernelConvIdeal_ReferenceConvIdeal := by
  intro m ρ m' ρ' _ hag
  refine ⟨fun c => conv (m ((c : Thread nD τ).loc main_arg0)) (m ((c : Thread nD τ).loc main_arg1)), ?_, ?_⟩
  · exact (θ_run Cert.KernelConvIdeal.defs _ _).mono (fun _ h c => ⟨(h c).1.trans (final m c), (h c).2⟩)
      (Cert.KernelConvIdeal.Value.run_blocks (F := Ideal) m ρ)
  · refine (θ_run Cert.ReferenceConvIdeal.defs _ _).mono (fun r h c => ⟨(h c).1.trans ?_, (h c).2⟩)
      (Cert.ReferenceConvIdeal.Value.run (F := Ideal) m' ρ')
    rw [(hag c).1, (hag c).2]
    funext i
    pointwise [conv]
    have hz : (show EReal from FloatOps.sitofp (F := Ideal) FTy.f32 (0#32)) = 0 := by
      show (((0#32 : BitVec 32).toInt : ℝ) : EReal) = 0
      simp
    refine congrArg₂ (· * ·) (congrArg₂ (· * ·) rfl (congrArg₂ (· + ·) (congrArg₂ (· + ·) (congrArg₂ (· * ·) rfl ?_)
      (congrArg₂ (· * ·) rfl ?_)) (congrArg₂ (· * ·) rfl ?_))) rfl
    · exact padded2 _ _ _ _ hz
    · exact padded1 _ _ _ _ hz
    · exact padded0 _ _ _ _

end Cert.Proof.Conv

end
-- ==== Proof.Sums.lean ====
/- A running sum, as the host states it, as the sum of the elements up to the index. -/
module

public import proofs.«01_k».proof.Defs
public import Idealize.ShloMosaic.Lib.Routing.OpsOne
public import Idealize.ShloMosaic.Lib.Pointwise.Index

@[expose] public section

noncomputable section

open Idealize.ShloMosaic Idealize.ShloMosaic.Routing

namespace Cert.Proof.Sums

/-- A left fold that adds a term per position is the start plus the sum of the terms. -/
theorem fold_sum {N : ℕ} (g : Fin N → EReal) (z : EReal) : (List.finRange N).foldl (fun r n => r + g n) z = z + ∑ n, g n := by
  rw [Fin.sum_univ_def]
  generalize List.finRange N = l
  induction l generalizing z with
  | nil => simp
  | cons a l ih => rw [List.foldl_cons, ih, List.map_cons, List.sum_cons, add_assoc]

/-- The window of the whole length ending at an index, over zeros before the first element, holds the elements up to it. -/
theorem shift {M : ℕ} (j : Fin (M + 1)) (x : Fin (M + 1) → EReal) :
    (∑ n : Fin (M + 1), if h : M ≤ j.val + n.val ∧ j.val + n.val - M < M + 1 then x ⟨j.val + n.val - M, h.2⟩ else 0)
      = ∑ k : Fin (M + 1), if k ≤ j then x k else 0 := by
  refine Fintype.sum_equiv (Equiv.addRight (Fin.ofNat (M + 1) (j.val + 1))) _ _ fun n => ?_
  have hj := j.isLt
  have hn := n.isLt
  have hv : ((Equiv.addRight (Fin.ofNat (M + 1) (j.val + 1))) n).val = (n.val + (j.val + 1)) % (M + 1) := by
    show (n + Fin.ofNat (M + 1) (j.val + 1)).val = _
    rw [Fin.val_add]
    show (n.val + (j.val + 1) % (M + 1)) % (M + 1) = _
    rw [Nat.add_mod_mod]
  by_cases hc : M ≤ j.val + n.val
  · have hm : (n.val + (j.val + 1)) % (M + 1) = j.val + n.val - M := by
      rw [Nat.mod_eq_sub_mod (by omega), Nat.mod_eq_of_lt (by omega)]; omega
    rw [dif_pos ⟨hc, by omega⟩, if_pos (by rw [Fin.le_def, hv, hm]; omega)]
    exact congrArg x (Fin.ext (hm.symm.trans hv.symm))
  · rw [dif_neg (fun h => hc h.1), if_neg]
    rw [Fin.le_def, hv, Nat.mod_eq_of_lt (by omega)]; omega

/-- A running sum down the columns of a matrix, read at an index. -/
theorem cumsum2 {R M C : ℕ} (hR : M + 1 = R) (x : FVec Ideal (shape2 R C) .f32) (init : FVec Ideal shape0 .f32) (hinit : init ix0 = (0 : EReal))
    (h : (shape2 R C).ReduceWindows (![R, 1] : Fin 2 → Nat) ![1, 1] ![M, 0] ![0, 0] (shape2 R C)) (hu : 0 < shape0.numel) (j : Fin R) (c : Fin C) :
    (show EReal from Host.reduceWindowAdd ![R, 1] ![1, 1] ![M, 0] ![0, 0] x init h hu (ix2 j c))
      = ∑ k : Fin R, if k ≤ j then x (ix2 k c) else (0 : EReal) := by
  subst hR
  have hv : init (Shape.Idx.first hu) = (0 : EReal) := (congrArg init (funext fun a => a.elim0)).trans hinit
  have hj := j.isLt
  have hc := c.isLt
  show Ideal.hostReduceWindowAdd _ _ _ _ h x _ _ = _
  unfold Ideal.hostReduceWindowAdd Host.reduceWindow
  dsimp only
  rw [hv, fold_sum, zero_add, ← shift j fun k => x (ix2 k c)]
  refine (Fintype.sum_equiv (⟨2, ![M + 1, 1]⟩ : Shape).rowMajor.symm _
    (fun p : (⟨2, ![M + 1, 1]⟩ : Shape).Idx => if h : M ≤ j.val + (p 0).val ∧ j.val + (p 0).val - M < M + 1 then (x (ix2 ⟨j.val + (p 0).val - M, h.2⟩ c) : EReal) else 0) fun n => ?_).trans ?_
  · have hp1 : ((⟨2, ![M + 1, 1]⟩ : Shape).rowMajor.symm n 1).val = 0 := by have : ((⟨2, ![M + 1, 1]⟩ : Shape).rowMajor.symm n 1).val < 1 := ((⟨2, ![M + 1, 1]⟩ : Shape).rowMajor.symm n 1).isLt; omega
    by_cases hh : M ≤ j.val + ((⟨2, ![M + 1, 1]⟩ : Shape).rowMajor.symm n 0).val ∧ j.val + ((⟨2, ![M + 1, 1]⟩ : Shape).rowMajor.symm n 0).val - M < M + 1
    · rw [dif_pos hh, dif_pos]
      · refine congrArg x (funext fun a => Fin.ext ?_)
        match a with
        | ⟨0, _⟩ => show j.val * 1 + ((⟨2, ![M + 1, 1]⟩ : Shape).rowMajor.symm n 0).val - M = _; rw [Nat.mul_one]; rfl
        | ⟨1, _⟩ => show c.val * 1 + ((⟨2, ![M + 1, 1]⟩ : Shape).rowMajor.symm n 1).val - 0 = c.val; omega
      · intro a
        match a with
        | ⟨0, _⟩ => show M ≤ j.val * 1 + ((⟨2, ![M + 1, 1]⟩ : Shape).rowMajor.symm n 0).val ∧ j.val * 1 + ((⟨2, ![M + 1, 1]⟩ : Shape).rowMajor.symm n 0).val - M < M + 1; omega
        | ⟨1, _⟩ => show 0 ≤ c.val * 1 + ((⟨2, ![M + 1, 1]⟩ : Shape).rowMajor.symm n 1).val ∧ c.val * 1 + ((⟨2, ![M + 1, 1]⟩ : Shape).rowMajor.symm n 1).val - 0 < C; omega
    · rw [dif_neg hh, dif_neg]
      intro hin
      have h0 := hin 0
      change M ≤ j.val * 1 + ((⟨2, ![M + 1, 1]⟩ : Shape).rowMajor.symm n 0).val ∧ j.val * 1 + ((⟨2, ![M + 1, 1]⟩ : Shape).rowMajor.symm n 0).val - M < M + 1 at h0
      omega
  · refine (Idealize.ShloMosaic.sum_idx2 _).trans (Finset.sum_congr rfl fun a _ => ?_)
    rw [Fin.sum_univ_one]
    rfl

/-- A running sum along the middle axis of an array of matrices, read at an index. -/
theorem cumsum3 {B R M C : ℕ} (hR : M + 1 = R) (x : FVec Ideal (shape3 B R C) .f32) (init : FVec Ideal shape0 .f32) (hinit : init ix0 = (0 : EReal))
    (h : (shape3 B R C).ReduceWindows (![1, R, 1] : Fin 3 → Nat) ![1, 1, 1] ![0, M, 0] ![0, 0, 0] (shape3 B R C)) (hu : 0 < shape0.numel)
    (b : Fin B) (j : Fin R) (c : Fin C) :
    (show EReal from Host.reduceWindowAdd ![1, R, 1] ![1, 1, 1] ![0, M, 0] ![0, 0, 0] x init h hu (ix3 b j c))
      = ∑ k : Fin R, if k ≤ j then x (ix3 b k c) else (0 : EReal) := by
  subst hR
  have hv : init (Shape.Idx.first hu) = (0 : EReal) := (congrArg init (funext fun a => a.elim0)).trans hinit
  have hj := j.isLt
  have hc := c.isLt
  have hb := b.isLt
  show Ideal.hostReduceWindowAdd _ _ _ _ h x _ _ = _
  unfold Ideal.hostReduceWindowAdd Host.reduceWindow
  dsimp only
  rw [hv, fold_sum, zero_add, ← shift j fun k => x (ix3 b k c)]
  refine (Fintype.sum_equiv (⟨3, ![1, M + 1, 1]⟩ : Shape).rowMajor.symm _
    (fun p : (⟨3, ![1, M + 1, 1]⟩ : Shape).Idx => if h : M ≤ j.val + (p 1).val ∧ j.val + (p 1).val - M < M + 1 then (x (ix3 b ⟨j.val + (p 1).val - M, h.2⟩ c) : EReal) else 0) fun n => ?_).trans ?_
  · have hp0 : ((⟨3, ![1, M + 1, 1]⟩ : Shape).rowMajor.symm n 0).val = 0 := by have : ((⟨3, ![1, M + 1, 1]⟩ : Shape).rowMajor.symm n 0).val < 1 := ((⟨3, ![1, M + 1, 1]⟩ : Shape).rowMajor.symm n 0).isLt; omega
    have hp2 : ((⟨3, ![1, M + 1, 1]⟩ : Shape).rowMajor.symm n 2).val = 0 := by have : ((⟨3, ![1, M + 1, 1]⟩ : Shape).rowMajor.symm n 2).val < 1 := ((⟨3, ![1, M + 1, 1]⟩ : Shape).rowMajor.symm n 2).isLt; omega
    by_cases hh : M ≤ j.val + ((⟨3, ![1, M + 1, 1]⟩ : Shape).rowMajor.symm n 1).val ∧ j.val + ((⟨3, ![1, M + 1, 1]⟩ : Shape).rowMajor.symm n 1).val - M < M + 1
    · rw [dif_pos hh, dif_pos]
      · refine congrArg x (funext fun a => Fin.ext ?_)
        match a with
        | ⟨0, _⟩ => show b.val * 1 + ((⟨3, ![1, M + 1, 1]⟩ : Shape).rowMajor.symm n 0).val - 0 = b.val; omega
        | ⟨1, _⟩ => show j.val * 1 + ((⟨3, ![1, M + 1, 1]⟩ : Shape).rowMajor.symm n 1).val - M = _; rw [Nat.mul_one]; rfl
        | ⟨2, _⟩ => show c.val * 1 + ((⟨3, ![1, M + 1, 1]⟩ : Shape).rowMajor.symm n 2).val - 0 = c.val; omega
      · intro a
        match a with
        | ⟨0, _⟩ => show 0 ≤ b.val * 1 + ((⟨3, ![1, M + 1, 1]⟩ : Shape).rowMajor.symm n 0).val ∧ b.val * 1 + ((⟨3, ![1, M + 1, 1]⟩ : Shape).rowMajor.symm n 0).val - 0 < B; omega
        | ⟨1, _⟩ => show M ≤ j.val * 1 + ((⟨3, ![1, M + 1, 1]⟩ : Shape).rowMajor.symm n 1).val ∧ j.val * 1 + ((⟨3, ![1, M + 1, 1]⟩ : Shape).rowMajor.symm n 1).val - M < M + 1; omega
        | ⟨2, _⟩ => show 0 ≤ c.val * 1 + ((⟨3, ![1, M + 1, 1]⟩ : Shape).rowMajor.symm n 2).val ∧ c.val * 1 + ((⟨3, ![1, M + 1, 1]⟩ : Shape).rowMajor.symm n 2).val - 0 < C; omega
    · rw [dif_neg hh, dif_neg]
      intro hin
      have h0 := hin 1
      change M ≤ j.val * 1 + ((⟨3, ![1, M + 1, 1]⟩ : Shape).rowMajor.symm n 1).val ∧ j.val * 1 + ((⟨3, ![1, M + 1, 1]⟩ : Shape).rowMajor.symm n 1).val - M < M + 1 at h0
      omega
  · refine (Idealize.ShloMosaic.sum_idx3 _).trans ?_
    rw [Fin.sum_univ_one]
    refine Finset.sum_congr rfl fun a _ => ?_
    rw [Fin.sum_univ_one]
    rfl

end Cert.Proof.Sums

end
-- ==== Proof.Lower.lean ====
/- The value of the lower bounds' call. -/
module

public import proofs.«01_k».proof.Defs
public import proofs.«01_k».proof.Proof.Sums
public import proofs.«01_k».proof.Proof.Gen.KernelLowerIdeal.Value
public import proofs.«01_k».proof.Proof.Gen.ReferenceLowerIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Lower

/-- The softmax over the layers, at a layer and a coordinate. -/
def sm (x : FVec Ideal Cert.KernelLowerIdeal.S4x1024 .f32) (i : Fin 4) (n : Fin 1024) : EReal :=
  Ideal.div (Ideal.exp (x (ix2 i n) - (Finset.univ : Finset (Fin 4)).fold max (Ideal.ofBits FTy.f32 0xFF800000#32) fun k => x (ix2 k n)))
    (∑ l : Fin 4, Ideal.exp (x (ix2 l n) - (Finset.univ : Finset (Fin 4)).fold max (Ideal.ofBits FTy.f32 0xFF800000#32) fun k => x (ix2 k n)))

/-- The lower bounds as an array: the softmax summed over the layers up to one, less the first layer's. -/
def lower (x : FVec Ideal Cert.KernelLowerIdeal.S4x1024 .f32) : FVec Ideal Cert.KernelLowerIdeal.S4x1024 .f32 := fun i =>
  (∑ k : Fin 4, if k ≤ i 0 then sm x k (i 1) else 0) - sm x 0 (i 1)

section Kernel
open Cert.KernelLowerIdeal Cert.KernelLowerIdeal.Gen

/-- What the kernel stores is the lower bounds. -/
theorem pay (x : FVec Ideal S4x1024 .f32) (i : Fin 4) (n : Fin 1024) : k0_pay1 (F := Ideal) x (ix2 i n) = lower x (ix2 i n) := by
  unfold lower
  simp only [Fin.sum_univ_four]
  fin_cases i
  · pointwise [k0_pay1, sm]
    simp
  · pointwise [k0_pay1, sm]
    simp
  · pointwise [k0_pay1, sm]
    simp
  · pointwise [k0_pay1, sm]
    simp

end Kernel

section Reference
open Cert.ReferenceLowerIdeal Cert.ReferenceLowerIdeal.Gen

/-- The reference's softmax array. -/
def smArr (x : FVec Ideal S4x1024 .f32) : FVec Ideal S4x1024 .f32 :=
  Host.divf (Host.exp (subf x (broadcastInDim S4x1024 ![0, 1] bcast_S1x1024_S4x1024_0_1 (broadcastInDim S1x1024 ![1] bcast_S1024_S1x1024_1 (Host.reduce FloatOps.maximumf x (constant S_ .f32 0xFF800000#32) reducesTo_S4x1024_S1024_d0 h_S_))))) (broadcastInDim S4x1024 ![0, 1] bcast_S1x1024_S4x1024_0_1 (broadcastInDim S1x1024 ![1] bcast_S1024_S1x1024_1 (Host.reduceAdd (Host.exp (subf x (broadcastInDim S4x1024 ![0, 1] bcast_S1x1024_S4x1024_0_1 (broadcastInDim S1x1024 ![1] bcast_S1024_S1x1024_1 (Host.reduce FloatOps.maximumf x (constant S_ .f32 0xFF800000#32) reducesTo_S4x1024_S1024_d0 h_S_))))) (constant S_ .f32 0x00000000#32) reducesTo_S4x1024_S1024_d0 h_S_)))

/-- The reference's softmax array at an index. -/
theorem smArr_at (x : FVec Ideal S4x1024 .f32) (i : Fin 4) (n : Fin 1024) : (smArr x (ix2 i n) : EReal) = sm x i n := by
  pointwise [smArr, sm]

/-- The reference's result is the lower bounds. -/
theorem ref (x : FVec Ideal S4x1024 .f32) :
    subf (Host.reduceWindowAdd ![4, 1] ![1, 1] ![3, 0] ![0, 0] (smArr x) (broadcastInDim S_ ![] bcast_S_S_ (constant S_ .f32 0x00000000#32)) reduceWindows_S4x1024_S4x1024_w4s1p3_0_w1s1p0_0 h_S_) (broadcastInDim S4x1024 ![0, 1] bcast_S1x1024_S4x1024_0_1 (broadcastInDim S1x1024 ![1] bcast_S1024_S1x1024_1 (shapeCast _ (extractStridedSlice S1x1024 ![0, 0] (smArr x) slices_S4x1024_S1x1024_0_0) shapeCasts_S1x1024_S1024)))
      = lower x := by
  funext i
  obtain ⟨a, n, rfl⟩ : ∃ a n, i = ix2 a n := ⟨i 0, i 1, funext fun b => by fin_cases b <;> rfl⟩
  refine congrArg₂ (fun p q : EReal => p - q) ((Sums.cumsum2 (R := 4) (M := 3) (C := 1024) rfl (smArr x) _ ?_ _ _ a n).trans (Finset.sum_congr rfl fun k _ => ?_)) ?_
  · pointwise []
  · rw [smArr_at]; rfl
  · refine Eq.trans ?_ (smArr_at x 0 n)
    generalize smArr x = y
    pointwise []

end Reference

open Cert.KernelLowerIdeal Cert.KernelLowerIdeal.Gen in
/-- The lower bounds' call and its reference end with the same result. -/
theorem algebraic : Cert.algebraic_KernelLowerIdeal_ReferenceLowerIdeal := by
  intro m ρ m' ρ' _ hag
  refine ⟨fun c => lower (m ((c : Thread nD τ).loc main_arg0)), ?_, ?_⟩
  · refine (θ_run Cert.KernelLowerIdeal.defs _ _).mono (fun _ h c => ⟨(h c).1.trans ?_, (h c).2⟩)
      (Cert.KernelLowerIdeal.Value.run (F := Ideal) m ρ)
    funext i
    obtain ⟨a, n, rfl⟩ : ∃ a n, i = ix2 a n := ⟨i 0, i 1, funext fun b => by fin_cases b <;> rfl⟩
    exact pay _ a n
  · refine (θ_run Cert.ReferenceLowerIdeal.defs _ _).mono (fun r h c => ⟨(h c).1.trans ?_, (h c).2⟩)
      (Cert.ReferenceLowerIdeal.Value.run (F := Ideal) m' ρ')
    rw [(hag c)]
    exact ref _

end Cert.Proof.Lower

end
-- ==== Proof.Cum.lean ====
/- The value of the call of the cumulative log-forgets. -/
module

public import proofs.«01_k».proof.Defs
public import proofs.«01_k».proof.Proof.Sums
public import proofs.«01_k».proof.Proof.Gen.KernelCumIdeal.Value
public import proofs.«01_k».proof.Proof.Gen.ReferenceCumIdeal.Run
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.Proof.Cum

/-- The logarithm of the sigmoid. -/
def ls (x : EReal) : EReal := min x 0 - Ideal.log1p (Ideal.exp (0 - max x (-x)))

/-- A sum of the terms up to a position is a sum over a range. -/
theorem tri_sum {R : ℕ} (i : Fin R) (g : ℕ → EReal) :
    (∑ k : Fin R, if k ≤ i then g k.val else 0) = ∑ x ∈ Finset.range (i.val + 1), g x := by
  refine (Finset.sum_congr rfl fun k _ => (if_congr (Fin.le_def) rfl rfl : _ = if k.val ≤ i.val then g k.val else 0)).trans ?_
  rw [Fin.sum_univ_eq_sum_range (fun n => if n ≤ i.val then g n else 0) R, ← Finset.sum_filter]
  refine Finset.sum_congr (Finset.ext fun n => ?_) fun _ _ => rfl
  have := i.isLt
  simp only [Finset.mem_filter, Finset.mem_range]
  omega

section Kernel
open Cert.KernelCumIdeal Cert.KernelCumIdeal.Gen Cert.KernelCumIdeal.Value

/-- The running sums of a block over a carried row, at an index. -/
theorem pay2_at (v3 : FVec Ideal S1024x128 .f32) (v4 v22 : FVec Ideal S1x128 .f32) (i : Fin 1024) (c : Fin 128) :
    (k0_pay2 (F := Ideal) v3 v4 v22 (ix2 i c) : EReal)
      = (∑ k : Fin 1024, if k ≤ i then ls (v3 (ix2 k c) + v4 (ix2 0 c)) else 0) + v22 (ix2 0 c) := by
  pointwise [k0_pay2, ls]
  refine congrArg (· + _) (Finset.sum_congr rfl fun k _ => ?_)
  have hk := k.isLt
  have hi := i.isLt
  rw [WordCmp.cmpi_sle_ofNat (by omega) (by omega)]
  by_cases h : k ≤ i
  · rw [if_pos h, decide_eq_true (Fin.le_def.mp h)]
    exact (congrArg (· * _) (by show (((BitVec.setWidth 32 (BitVec.ofBool true)).toInt : ℝ) : EReal) = 1; simp)).trans (one_mul _)
  · rw [if_neg h, decide_eq_false fun g => h (Fin.le_def.mpr g)]
    exact (congrArg (· * _) (by show (((BitVec.setWidth 32 (BitVec.ofBool false)).toInt : ℝ) : EReal) = 0; simp)).trans (zero_mul _)

/-- The last row of the running sums. -/
theorem pay3_at (v3 : FVec Ideal S1024x128 .f32) (v4 v22 : FVec Ideal S1x128 .f32) (c : Fin 128) :
    (k0_pay3 (F := Ideal) v3 v4 v22 (ix2 0 c) : EReal) = k0_pay2 (F := Ideal) v3 v4 v22 (ix2 1023 c) := by
  pointwise [k0_pay3]

/-- The heads' running sums, transposed. -/
theorem pay4_at (v3 : FVec Ideal S1024x128 .f32) (v4 v22 : FVec Ideal S1x128 .f32) (y : S1x8x1024.Idx) :
    (k0_pay4 (F := Ideal) v3 v4 v22 y : EReal) = k0_pay2 (F := Ideal) v3 v4 v22 (ix2 (y 2) ⟨(y 1).val, by have : (y 1).val < 8 := (y 1).isLt; omega⟩) := by
  pointwise [k0_pay4]

/-- The row of zeros. -/
theorem pay1_at (c : Fin 128) : (k0_pay1 (F := Ideal) (ix2 0 c) : EReal) = 0 := by
  pointwise [k0_pay1]

variable (m : (ℓ : Loc nD τ sig) → Buf (Elt Ideal) ℓ)

/-- Where each update of the bias's row lands. -/
theorem lands : ∀ j : Fin 8, scatter_S1x128_S2_S8_0_0_01_0.resultIdx? (ix1 j) (fun _ : S2.Idx => (0#32 : BitVec 32))
    = some (ix2 (0 : Fin 1) (⟨j.val, by omega⟩ : Fin 128)) := by
  decide +kernel

/-- The bias, zero past the heads. -/
def bp (b : FVec Ideal S8 .f32) (x : Fin 128) : EReal := if h : x.val < 8 then b (ix1 ⟨x.val, h⟩) else 0

/-- The bias's row, scattered into zeros. -/
theorem scat_at (b : FVec Ideal S8 .f32) (z : FVec Ideal S1x128 .f32) (hz : ∀ x, (z x : EReal) = 0) (idx : IVec S2 32) (hi : idx = fun _ => 0#32) (x : Fin 128) :
    (Host.scatter scatter_S1x128_S2_S8_0_0_01_0 (fun _ b => b) z idx b (ix2 0 x) : EReal) = bp b x := by
  subst hi
  unfold bp
  have key : ∀ k : S8.Idx, scatter_S1x128_S2_S8_0_0_01_0.resultIdx? k (fun _ : S2.Idx => (0#32 : BitVec 32)) = some (ix2 (0 : Fin 1) x) → (k 0).val = x.val := by
    intro k hk
    obtain ⟨j, rfl⟩ : ∃ j, k = ix1 j := ⟨k 0, funext fun a => by fin_cases a; rfl⟩
    rw [lands j] at hk
    exact congrArg (fun i : S1x128.Idx => (i 1).val) (Option.some.inj hk)
  by_cases h : x.val < 8
  · rw [dif_pos h]
    refine Routing.scatter_set_hit _ z _ b _ (b (ix1 ⟨x.val, h⟩)) (fun k hk => congrArg b (funext fun a => ?_)) (ix1 ⟨x.val, h⟩) (lands ⟨x.val, h⟩)
    fin_cases a
    exact Fin.ext (key k hk)
  · rw [dif_neg h]
    refine (Routing.scatter_set_miss _ z _ b _ fun k hk => h ?_).trans (hz _)
    rw [← key k hk]
    exact (k 0).isLt

/-- The bias's row as the kernel is given it. -/
theorem bias_at (c : Dev nD) (x : Fin 128) : (show EReal from V m c main_v4 (ix2 0 x)) = bp (m ((c : Thread nD τ).loc main_arg1)) x := by
  refine (?_ : _ = Host.scatter scatter_S1x128_S2_S8_0_0_01_0 (fun _ b => b) (broadcastInDim S1x128 ![] bcast_S_S1x128 (constant (F := Ideal) S_ FTy.f32 0#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (m ((c : Thread nD τ).loc main_arg1)) (ix2 0 x)).trans (scat_at _ _ ?_ _ ?_ x)
  · unfold V
    simp only [hostOps0]
    after_results_simp
    rfl
  · intro x
    pointwise []
  · funext i
    pointwise []
    exact ite_self _

/-- The block each window takes at a grid point. -/
theorem idx : ∀ t : Fin cfg0.N, win0_0.index t = ![t.val, 123] ∧ win0_1.index t = ![0, 0]
    ∧ win0_2.index t = ![t.val, 0] ∧ win0_3.index t = ![t.val, 0, 0] :=
  (by decide +kernel : ∀ t : Fin grid0.N, _)

/-- The forget gates' block, in the array. -/
theorem x0_at (c : Dev nD) (t : Fin cfg0.N) (q : Fin 1024) (n : Fin 128) (r : Fin 16384) (hr : r.val = 1024 * t.val + q.val) :
    (show EReal from iblk m c 0 t (ix2 q n)) = m ((c : Thread nD τ).loc main_arg0) (ix2 r ⟨15744 + n.val, by omega⟩) := by
  blk_point [iblk, V, idx t]

/-- The bias's block. -/
theorem x1_at (c : Dev nD) (t : Fin cfg0.N) (n : Fin 128) :
    (show EReal from iblk m c 1 t (ix2 0 n)) = bp (m ((c : Thread nD τ).loc main_arg1)) n := by
  refine Eq.trans ?_ (bias_at m c n)
  blk_point [iblk, idx t]

/-- What a sequence's first point leaves. -/
theorem out_A (c : Dev nD) (t : Fin cfg0.N) (h0 : t.val % 8 = 0) :
    outsAt0 (F := Ideal) m c t.val t.isLt = (k0_pay2 (iblk m c 0 t) (iblk m c 1 t) (k0_pay1 (F := Ideal)), k0_pay4 (iblk m c 0 t) (iblk m c 1 t) (k0_pay1 (F := Ideal)), k0_pay3 (iblk m c 0 t) (iblk m c 1 t) (k0_pay1 (F := Ideal))) := by
  rw [outsAt0_A m c t h0]
  refine Prod.ext ?_ (Prod.ext ?_ ?_)
  · frame_out
  · frame_out
  · frame_out

/-- What a later point leaves. -/
theorem out_B (c : Dev nD) (t : Fin cfg0.N) (h0 : ¬ t.val % 8 = 0) (C : FVec Ideal S1x128 .f32)
    (hC : (outsAt0 (F := Ideal) m c (t.val - 1) (Nat.lt_of_le_of_lt (Nat.sub_le _ _) t.isLt)).2.2 = C) :
    outsAt0 (F := Ideal) m c t.val t.isLt = (k0_pay2 (iblk m c 0 t) (iblk m c 1 t) C, k0_pay4 (iblk m c 0 t) (iblk m c 1 t) C, k0_pay3 (iblk m c 0 t) (iblk m c 1 t) C) := by
  rw [outsAt0_B m c t h0, hC]
  have hr := (Memref.isWhole_whole cc0_scratch0).read_unread (Val := Elt Ideal) C
  refine Prod.ext ?_ (Prod.ext ?_ ?_)
  · frame_out
    exact congrArg (k0_pay2 _ _) hr
  · frame_out
    exact congrArg (k0_pay4 _ _) hr
  · frame_out
    exact congrArg (k0_pay3 _ _) hr

/-- A row's log-forget, in a lane. -/
def rowls (u : FVec Ideal S16384x15872 .f32) (b : FVec Ideal S8 .f32) (x : Fin 128) (r : ℕ) : EReal :=
  if h : r < 16384 then ls (u (ix2 ⟨r, h⟩ ⟨15744 + x.val, by omega⟩) + bp b x) else 0

/-- The cumulative log-forget of a sequence's first rows, in a lane. -/
def pre (u : FVec Ideal S16384x15872 .f32) (b : FVec Ideal S8 .f32) (x : Fin 128) (s n : ℕ) : EReal :=
  ∑ k ∈ Finset.range n, rowls u b x (8192 * s + k)

/-- A block's running sums over a carried prefix. -/
theorem block_at (c : Dev nD) (t : Fin cfg0.N) (C : FVec Ideal S1x128 .f32)
    (hC : ∀ x, (C (ix2 0 x) : EReal) = pre (m ((c : Thread nD τ).loc main_arg0)) (m ((c : Thread nD τ).loc main_arg1)) x (t.val / 8) (1024 * (t.val % 8)))
    (i : Fin 1024) (x : Fin 128) :
    (k0_pay2 (F := Ideal) (iblk m c 0 t) (iblk m c 1 t) C (ix2 i x) : EReal)
      = pre (m ((c : Thread nD τ).loc main_arg0)) (m ((c : Thread nD τ).loc main_arg1)) x (t.val / 8) (1024 * (t.val % 8) + (i.val + 1)) := by
  have ht : t.val < 16 := t.isLt
  have hi := i.isLt
  rw [pay2_at, hC, pre, pre, Finset.sum_range_add, add_comm]
  refine congrArg (_ + ·) ?_
  rw [← tri_sum i fun k => rowls (m ((c : Thread nD τ).loc main_arg0)) (m ((c : Thread nD τ).loc main_arg1)) x (8192 * (t.val / 8) + (1024 * (t.val % 8) + k))]
  refine Finset.sum_congr rfl fun k _ => ?_
  have hk := k.isLt
  refine congrArg (fun z : EReal => if k ≤ i then z else 0) ?_
  rw [rowls, dif_pos (by omega)]
  exact congrArg ls (congrArg₂ (· + ·) (x0_at m c t k x _ (by show 8192 * (t.val / 8) + (1024 * (t.val % 8) + k.val) = _; omega)) (x1_at m c t x))

/-- What each point leaves, over the prefix the points before it carry. -/
theorem points (c : Dev nD) : ∀ (n : ℕ) (hn : n < cfg0.N), ∃ C : FVec Ideal S1x128 .f32,
    outsAt0 (F := Ideal) m c n hn = (k0_pay2 (iblk m c 0 ⟨n, hn⟩) (iblk m c 1 ⟨n, hn⟩) C, k0_pay4 (iblk m c 0 ⟨n, hn⟩) (iblk m c 1 ⟨n, hn⟩) C,
      k0_pay3 (iblk m c 0 ⟨n, hn⟩) (iblk m c 1 ⟨n, hn⟩) C)
    ∧ ∀ x, (C (ix2 0 x) : EReal) = pre (m ((c : Thread nD τ).loc main_arg0)) (m ((c : Thread nD τ).loc main_arg1)) x (n / 8) (1024 * (n % 8)) := by
  intro n
  induction n with
  | zero =>
    intro hn
    refine ⟨k0_pay1 (F := Ideal), out_A m c ⟨0, hn⟩ rfl, fun x => (pay1_at x).trans ?_⟩
    rfl
  | succ n ih =>
    intro hn
    by_cases h0 : (n + 1) % 8 = 0
    · refine ⟨k0_pay1 (F := Ideal), out_A m c ⟨n + 1, hn⟩ h0, fun x => (pay1_at x).trans ?_⟩
      rw [h0]
      rfl
    · obtain ⟨C, hC, hx⟩ := ih (Nat.lt_of_succ_lt hn)
      refine ⟨_, out_B m c ⟨n + 1, hn⟩ h0 _ (congrArg (fun o => o.2.2) hC), fun x => ?_⟩
      refine (pay3_at _ _ _ x).trans ((block_at m c ⟨n, Nat.lt_of_succ_lt hn⟩ C hx 1023 x).trans ?_)
      show pre _ _ x (n / 8) (1024 * (n % 8) + (1023 + 1)) = _
      have e1 : n / 8 = (n + 1) / 8 := by omega
      have e2 : 1024 * (n % 8) + (1023 + 1) = 1024 * ((n + 1) % 8) := by omega
      rw [e1, e2]

/-- The cumulative log-forgets by rows, as an array. -/
def cols (u : FVec Ideal S16384x15872 .f32) (b : FVec Ideal S8 .f32) : FVec Ideal S16384x128 .f32 := fun i =>
  pre u b (i 1) ((i 0).val / 8192) ((i 0).val % 8192 + 1)

/-- The heads' cumulative log-forgets by columns, as an array. -/
def rows (u : FVec Ideal S16384x15872 .f32) (b : FVec Ideal S8 .f32) : FVec Ideal S16x8x1024 .f32 := fun i =>
  pre u b ⟨(i 1).val, by have : (i 1).val < 8 := (i 1).isLt; omega⟩ ((i 0).val / 8) (1024 * ((i 0).val % 8) + ((i 2).val + 1))

/-- What a grid point stores by rows is the array's block. -/
theorem point_c (c : Dev nD) (t : Fin cfg0.N) (y : S1024x128.Idx) (q : S16384x128.Idx) (h0 : (q 0).val = 1024 * t.val + (y 0).val)
    (h1 : (q 1).val = (y 1).val) :
    ((outsAt0 (F := Ideal) m c t.val t.isLt).1 y : EReal) = cols (m ((c : Thread nD τ).loc main_arg0)) (m ((c : Thread nD τ).loc main_arg1)) q := by
  obtain ⟨a, n, rfl⟩ : ∃ a n, y = ix2 a n := ⟨y 0, y 1, funext fun b => by fin_cases b <;> rfl⟩
  obtain ⟨C, hC, hx⟩ := points m c t.val t.isLt
  rw [hC]
  refine (block_at m c t C hx a n).trans ?_
  have ht : t.val < 16 := t.isLt
  have ha : a.val < 1024 := a.isLt
  have h0' : (q 0).val = 1024 * t.val + a.val := h0
  have e0 : n = q 1 := Fin.ext h1.symm
  have e1 : t.val / 8 = (q 0).val / 8192 := by omega
  have e2 : 1024 * (t.val % 8) + (a.val + 1) = (q 0).val % 8192 + 1 := by omega
  unfold cols
  rw [e0, e1, e2]

/-- What a grid point stores by columns is the array's block. -/
theorem point_r (c : Dev nD) (t : Fin cfg0.N) (y : S1x8x1024.Idx) (q : S16x8x1024.Idx) (h0 : (q 0).val = t.val)
    (h1 : (q 1).val = (y 1).val) (h2 : (q 2).val = (y 2).val) :
    ((outsAt0 (F := Ideal) m c t.val t.isLt).2.1 y : EReal) = rows (m ((c : Thread nD τ).loc main_arg0)) (m ((c : Thread nD τ).loc main_arg1)) q := by
  obtain ⟨C, hC, hx⟩ := points m c t.val t.isLt
  rw [hC]
  refine (pay4_at _ _ _ y).trans ((block_at m c t C hx _ _).trans ?_)
  unfold rows
  simp only [h0, h1, h2]

/-- The first result of the kernel. -/
theorem final2 (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t _ y => ?_
  blk_simp
  rw [after0_2]
  refine point_c m c t y _ ?_ ?_ <;> blk_simp [idx t]
  exact congrArg (· + _) (Nat.mul_comm _ _)

/-- The second result of the kernel. -/
theorem final3 (c : Dev nD) : (dats m 0 c).arrAt 3 cfg0.N = rows (m ((c : Thread nD τ).loc main_arg0)) (m ((c : Thread nD τ).loc main_arg1)) := by
  refine (dats m 0 c).arrAt_eq_of_covers 3 _ (by decide +kernel) fun t _ y => ?_
  have hy : (y 0).val < 1 := (y 0).isLt
  blk_simp
  rw [after0_3]
  refine point_r m c t y _ ?_ ?_ ?_ <;> blk_simp [idx t]

end Kernel

/-- The logarithm of the sigmoid, by way of the softplus of the negation. -/
theorem ls_eq (x : EReal) : -(max (-x) 0 + Ideal.log1p (Ideal.exp (-(max (-x - 0) (-(-x - 0)))))) = ls x := by
  unfold ls
  rw [sub_zero, neg_neg, zero_sub, max_comm (-x) x]
  have h0 : Ideal.log1p 0 = 0 := by
    rw [Ideal.log1p, add_zero, ← EReal.coe_one]
    show (if (1 : ℝ) ≤ 0 then (⊥ : EReal) else ((Real.log 1 : ℝ) : EReal)) = 0
    simp
  induction x with
  | bot => simp [h0]
  | top => simp [h0]
  | coe r =>
    have hm : max (r : EReal) (-(r : EReal)) = ((max r (-r) : ℝ) : EReal) := by
      rw [← EReal.coe_neg]; exact (EReal.coe_strictMono.monotone.map_max).symm
    have hp : (0 : ℝ) < 1 + Real.exp (-(max r (-r))) := by positivity
    have hl : Ideal.log1p (Ideal.exp (-(((max r (-r) : ℝ)) : EReal))) = ((Real.log (1 + Real.exp (-(max r (-r)))) : ℝ) : EReal) := by
      rw [← EReal.coe_neg, Ideal.exp_coe, Ideal.log1p, ← EReal.coe_one, ← EReal.coe_add]
      exact if_neg (not_le.mpr hp)
    rw [hm, hl]
    generalize Real.log (1 + Real.exp (-(max r (-r)))) = L
    have h1 : max (-(r : EReal)) 0 = ((max (-r) 0 : ℝ) : EReal) := by
      rw [← EReal.coe_neg, ← EReal.coe_zero]; exact (EReal.coe_strictMono.monotone.map_max).symm
    have h2 : min (r : EReal) 0 = ((min r 0 : ℝ) : EReal) := by
      rw [← EReal.coe_zero]; exact (EReal.coe_strictMono.monotone.map_min).symm
    rw [h1, h2, ← EReal.coe_add, ← EReal.coe_neg, ← EReal.coe_sub]
    refine congrArg _ ?_
    have : min r 0 = -max (-r) 0 := by
      rw [← min_neg_neg, neg_neg, neg_zero]
    rw [this]; ring

section Reference
open Cert.ReferenceCumIdeal Cert.ReferenceCumIdeal.Gen

/-- The gates with the bias. -/
def gates (u : FVec Ideal S16384x15872 .f32) (b : FVec Ideal S8 .f32) : FVec Ideal S16384x128 .f32 :=
  addf (extractStridedSlice S16384x128 ![0, 15744] u slices_S16384x15872_S16384x128_0_15744) (broadcastInDim S16384x128 ![0, 1] bcast_S1x128_S16384x128_0_1 (broadcastInDim S1x128 ![1] bcast_S128_S1x128_1 (pad S128 ![0] ![120] ![0] b (sitofp .f32 (constantI S_ 32 0#32)) pads_S8_S128_01200 h_S_)))

/-- The gates with the bias, at an index. -/
theorem gates_at (u : FVec Ideal S16384x15872 .f32) (b : FVec Ideal S8 .f32) (r : Fin 16384) (x : Fin 128) :
    (gates u b (ix2 r x) : EReal) = u (ix2 r ⟨15744 + x.val, by omega⟩) + bp b x := by
  pointwise [gates, bp]
  refine congrArg (_ + ·) (dite_congr rfl (fun _ => rfl) fun _ => ?_)
  show (((0#32 : BitVec 32).toInt : ℝ) : EReal) = 0
  simp

/-- The log-forgets. -/
def logs (x : FVec Ideal S16384x128 .f32) : FVec Ideal S16384x128 .f32 :=
  Host.negf (select (cmpf .une (subf (Host.negf x) (broadcastInDim S16384x128 ![] bcast_S_S16384x128 (constant S_ .f32 0x00000000#32))) (subf (Host.negf x) (broadcastInDim S16384x128 ![] bcast_S_S16384x128 (constant S_ .f32 0x00000000#32)))) (addf (Host.negf x) (broadcastInDim S16384x128 ![] bcast_S_S16384x128 (constant S_ .f32 0x00000000#32))) (addf (maximumf (Host.negf x) (broadcastInDim S16384x128 ![] bcast_S_S16384x128 (constant S_ .f32 0x00000000#32))) (Host.log1p (Host.exp (Host.negf (Host.absf (subf (Host.negf x) (broadcastInDim S16384x128 ![] bcast_S_S16384x128 (constant S_ .f32 0x00000000#32)))))))))

/-- The log-forgets, at an index. -/
theorem logs_at (x : FVec Ideal S16384x128 .f32) (i : S16384x128.Idx) : (logs x i : EReal) = ls (x i) := by
  refine Eq.trans ?_ (ls_eq (x i))
  pointwise [logs]
  exact congrArg (fun z : EReal => -z) ((if_neg (not_not.mpr rfl)).trans rfl)

/-- The running sums over each sequence. -/
def sums (y : FVec Ideal S16384x128 .f32) : FVec Ideal S16384x128 .f32 :=
  shapeCast _ (Host.reduceWindowAdd ![1, 8192, 1] ![1, 1, 1] ![0, 8191, 0] ![0, 0, 0] (shapeCast _ y shapeCasts_S16384x128_S2x8192x128) (broadcastInDim S_ ![] bcast_S_S_ (constant S_ .f32 0x00000000#32)) reduceWindows_S2x8192x128_S2x8192x128_w1s1p0_0_w8192s1p8191_0_w1s1p0_0 h_S_) shapeCasts_S2x8192x128_S16384x128

/-- The running sums over each sequence, at an index. -/
theorem sums_at (y : FVec Ideal S16384x128 .f32) (r : Fin 16384) (x : Fin 128) (g : ℕ → EReal) (hg : ∀ q : Fin 16384, (y (ix2 q x) : EReal) = g q.val) :
    (sums y (ix2 r x) : EReal) = ∑ k ∈ Finset.range (r.val % 8192 + 1), g (8192 * (r.val / 8192) + k) := by
  have hr := r.isLt
  have key := Sums.cumsum3 (B := 2) (R := 8192) (M := 8191) (C := 128) rfl (shapeCast S2x8192x128 y shapeCasts_S16384x128_S2x8192x128)
    (broadcastInDim S_ ![] bcast_S_S_ (constant S_ .f32 0x00000000#32)) (by pointwise []) reduceWindows_S2x8192x128_S2x8192x128_w1s1p0_0_w8192s1p8191_0_w1s1p0_0 h_S_
    ⟨r.val / 8192, by omega⟩ ⟨r.val % 8192, by omega⟩ x
  rw [← tri_sum (⟨r.val % 8192, by omega⟩ : Fin 8192) fun k => g (8192 * (r.val / 8192) + k)]
  refine Eq.trans ?_ (key.trans (Finset.sum_congr rfl fun k _ => ?_))
  · unfold sums
    have cast_at : ∀ z : FVec Ideal S2x8192x128 .f32, (shapeCast S16384x128 z shapeCasts_S2x8192x128_S16384x128 (ix2 r x) : EReal)
        = z (ix3 ⟨r.val / 8192, by omega⟩ ⟨r.val % 8192, by omega⟩ x) := by
      intro z
      pointwise []
    exact cast_at _
  · refine congrArg (fun z : EReal => if k ≤ (⟨r.val % 8192, by omega⟩ : Fin 8192) then z else 0) ?_
    have hk := k.isLt
    refine Eq.trans ?_ (hg ⟨8192 * (r.val / 8192) + k.val, by omega⟩)
    pointwise []
    exact congrArg y (congrArg₂ ix2 (Fin.ext (congrArg (· + _) (Nat.mul_comm _ _))) rfl)

/-- The reference's first result. -/
theorem ref_c (u : FVec Ideal S16384x15872 .f32) (b : FVec Ideal S8 .f32) : sums (logs (gates u b)) = cols u b := by
  funext i
  obtain ⟨r, x, rfl⟩ : ∃ r x, i = ix2 r x := ⟨i 0, i 1, funext fun b => by fin_cases b <;> rfl⟩
  refine (sums_at _ r x (rowls u b x) fun q => ?_).trans rfl
  rw [logs_at, gates_at, rowls, dif_pos q.isLt]

/-- The reference's second result. -/
theorem ref_r (u : FVec Ideal S16384x15872 .f32) (b : FVec Ideal S8 .f32) :
    transpose S16x8x1024 [0, 2, 1] (shapeCast _ (extractStridedSlice S16384x8 ![0, 0] (sums (logs (gates u b))) slices_S16384x128_S16384x8_0_0) shapeCasts_S16384x8_S16x1024x8) transposes_S16x1024x8_S16x8x1024_0_2_1
      = rows u b := by
  rw [ref_c]
  funext i
  refine (?_ : _ = cols u b (ix2 ⟨1024 * (i 0).val + (i 2).val, by have : (i 0).val < 16 := (i 0).isLt; have : (i 2).val < 1024 := (i 2).isLt; omega⟩
    ⟨(i 1).val, by have : (i 1).val < 8 := (i 1).isLt; omega⟩)).trans ?_
  · generalize cols u b = z
    pointwise []
    exact congrArg z (congrArg₂ ix2 (Fin.ext (congrArg (· + _) (Nat.mul_comm _ _))) rfl)
  · have h0 : (i 0).val < 16 := (i 0).isLt
    have h2 : (i 2).val < 1024 := (i 2).isLt
    unfold cols rows
    refine congrArg₂ (pre u b _) ?_ ?_
    · show (1024 * (i 0).val + (i 2).val) / 8192 = (i 0).val / 8
      omega
    · show (1024 * (i 0).val + (i 2).val) % 8192 + 1 = 1024 * ((i 0).val % 8) + ((i 2).val + 1)
      omega

end Reference

open Cert.KernelCumIdeal Cert.KernelCumIdeal.Gen Cert.KernelCumIdeal.Value in
/-- The cumulative log-forgets' call and its reference end with the same results. -/
theorem algebraic : Cert.algebraic_KernelCumIdeal_ReferenceCumIdeal := by
  intro m ρ m' ρ' _ hag
  refine ⟨fun c => cols (m ((c : Thread nD τ).loc main_arg0)) (m ((c : Thread nD τ).loc main_arg1)),
    fun c => rows (m ((c : Thread nD τ).loc main_arg0)) (m ((c : Thread nD τ).loc main_arg1)), ?_, ?_⟩
  · exact (θ_run Cert.KernelCumIdeal.defs _ _).mono
      (fun _ h c => ⟨(h c).1.trans (final2 m c), (h c).2.1.trans (final3 m c), (h c).2.2⟩)
      (Cert.KernelCumIdeal.Value.run_blocks (F := Ideal) m ρ)
  · refine (θ_run Cert.ReferenceCumIdeal.defs _ _).mono
      (fun r h c => ⟨(h c).1.trans ?_, (h c).2.1.trans ?_, (h c).2.2⟩)
      (Cert.ReferenceCumIdeal.Value.run (F := Ideal) m' ρ')
    · rw [(hag c).1, (hag c).2]
      exact ref_c _ _
    · rw [(hag c).1, (hag c).2]
      exact ref_r _ _

end Cert.Proof.Cum

end
-- ==== Proof.Prep.lean ====
/- The value of the call that prepares the attention's inputs. -/
module

public import proofs.«01_k».proof.Defs
public import proofs.«01_k».proof.Proof.Gen.KernelPrepIdeal.Value
public import proofs.«01_k».proof.Proof.Gen.ReferencePrepIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Prep

section Kernel
open Cert.KernelPrepIdeal Cert.KernelPrepIdeal.Gen Cert.KernelPrepIdeal.Value

variable (m : (ℓ : Loc nD τ sig) → Buf (Elt Ideal) ℓ)

/-- The queries as an array. -/
def qs (a : FVec Ideal S16384x15872 .f32) : FVec Ideal S16384x1024 .bf16 := fun i =>
  a (ix2 (i 0) ⟨7168 + (i 1).val, by have : (i 1).val < 1024 := (i 1).isLt; omega⟩)

/-- The keys as an array. -/
def ks (a : FVec Ideal S16384x15872 .f32) : FVec Ideal S16384x1024 .bf16 := fun i =>
  a (ix2 (i 0) ⟨8192 + (i 1).val, by have : (i 1).val < 1024 := (i 1).isLt; omega⟩)

/-- The transposed values with ones under them, as an array. -/
def vs (a : FVec Ideal S16384x15872 .f32) : FVec Ideal S32x8x144x512 .bf16 := fun i =>
  if h : (i 2).val < 128 then
    a (ix2 ⟨512 * (i 0).val + (i 3).val, by have : (i 0).val < 32 := (i 0).isLt; have : (i 3).val < 512 := (i 3).isLt; omega⟩
      ⟨9216 + 128 * (i 1).val + (i 2).val, by have : (i 1).val < 8 := (i 1).isLt; omega⟩)
  else Ideal.ofBits FTy.bf16 0x3F80#16

/-- The block each window takes at a grid point. -/
theorem idx : ∀ t : Fin cfg0.N, win0_0.index t = ![(grid0.coords t 0).val, 7] ∧ win0_1.index t = ![(grid0.coords t 0).val, 8]
    ∧ win0_2.index t = ![(grid0.coords t 0).val, 9] ∧ win0_3.index t = ![(grid0.coords t 0).val, 0]
    ∧ win0_4.index t = ![(grid0.coords t 0).val, 0] ∧ win0_5.index t = ![(grid0.coords t 0).val, 0, 0, 0] :=
  (by decide +kernel : ∀ t : Fin grid0.N, _)

/-- The queries' block, in the array. -/
theorem x0_at (c : Dev nD) (t : Fin cfg0.N) (q : Fin 512) (n : Fin 1024) (r : Fin 16384) (hr : r.val = 512 * (grid0.coords t 0).val + q.val) :
    (show EReal from X0_0 m c t (ix2 q n)) = m ((c : Thread nD τ).loc main_arg0) (ix2 r ⟨7168 + n.val, by omega⟩) := by
  unfold X0_0 Pipeline.Window.fill
  rw [dif_pos (moved0_0 t _)]
  blk_point [iblk, V, idx t]

/-- The keys' block, in the array. -/
theorem x1_at (c : Dev nD) (t : Fin cfg0.N) (q : Fin 512) (n : Fin 1024) (r : Fin 16384) (hr : r.val = 512 * (grid0.coords t 0).val + q.val) :
    (show EReal from X0_1 m c t (ix2 q n)) = m ((c : Thread nD τ).loc main_arg0) (ix2 r ⟨8192 + n.val, by omega⟩) := by
  unfold X0_1 Pipeline.Window.fill
  rw [dif_pos (moved0_1 t _)]
  blk_point [iblk, V, idx t]

/-- The values' block, in the array. -/
theorem x2_at (c : Dev nD) (t : Fin cfg0.N) (q : Fin 512) (n : Fin 1024) (r : Fin 16384) (hr : r.val = 512 * (grid0.coords t 0).val + q.val) :
    (show EReal from X0_2 m c t (ix2 q n)) = m ((c : Thread nD τ).loc main_arg0) (ix2 r ⟨9216 + n.val, by omega⟩) := by
  unfold X0_2 Pipeline.Window.fill
  rw [dif_pos (moved0_2 t _)]
  blk_point [iblk, V, idx t]

/-- A unit rectangle's index, by its coordinates. -/
theorem unit_idx {s : Shape} (off size : Fin s.rank → ℕ) (h) (x : (Rect.unit off size h).shape.Idx) (y : s.Idx)
    (hy : ∀ a, (y a).val = off a + (x a).val) : (Rect.unit off size h).idx x = y := by
  funext a
  refine Fin.ext ?_
  rw [hy a]
  simp [Rect.unit]

/-- A unit rectangle's index's coordinate. -/
theorem unit_val {s : Shape} (off size : Fin s.rank → ℕ) (h) (x : (Rect.unit off size h).shape.Idx) (a : Fin s.rank) :
    ((Rect.unit off size h).emb x a).val = off a + (x a).val := by
  show off a + 1 * (x a).val = _
  rw [one_mul]

/-- A load of a unit rectangle of given contents, at an index. -/
theorem readAt_at {s : Shape} {e : EltTy} {sp : Space} (w : Memref sig .tc sp s e) (hw : w.IsWhole) (X : s.Idx → Elt Ideal e)
    (off size : Fin s.rank → ℕ) (h) (x : (Rect.unit off size h).shape.Idx) (y : s.Idx) (hy : ∀ a, (y a).val = off a + (x a).val) :
    w.view.readAt (Elt Ideal) (Rect.unit off size h).toLoadRect (hw.unread X) x = X y := by
  rw [View.readAt_apply, unit_idx off size h x y hy, hw.read_unread]

/-- What a grid point stores of the queries. -/
theorem out_q (c : Dev nD) (t : Fin cfg0.N) (y : S512x1024.Idx) : (outsAt0 (F := Ideal) m c t).1 y = X0_0 m c t y := by
  unfold outsAt0
  frame_out
  pointwise [k0_pay3]

/-- What a grid point stores of the keys. -/
theorem out_k (c : Dev nD) (t : Fin cfg0.N) (y : S512x1024.Idx) : (outsAt0 (F := Ideal) m c t).2.1 y = X0_1 m c t y := by
  unfold outsAt0
  frame_out
  pointwise [k0_pay4]

/-- A block of transposed values with ones under them, over the block of the values' lanes. -/
def blockV (X : FVec Ideal S512x1024 .f32) : FVec Ideal S1x8x144x512 .bf16 := fun y =>
  if h : (y 2).val < 128 then X (ix2 (y 3) ⟨128 * (y 1).val + (y 2).val, by have : (y 1).val < 8 := (y 1).isLt; omega⟩)
  else Ideal.ofBits FTy.bf16 0x3F80#16

/-- The transposed rows' piece of a head, at an index. -/
theorem val_at (v : FVec Ideal S512x128 .f32) (x : S1x1x128x512.Idx) :
    (k0_pay1 (F := Ideal) v x : EReal) = v (ix2 (x 3) (x 2)) := by
  pointwise [k0_pay1]

/-- The ones' piece of a head, at an index. -/
theorem one_at (x : S1x1x16x512.Idx) : (k0_pay2 (F := Ideal) x : EReal) = Ideal.ofBits FTy.bf16 0x3F80#16 := by
  pointwise [k0_pay2]

/-- The block at an index of the transposed rows. -/
theorem block_val (X : FVec Ideal S512x1024 .f32) (y : S1x8x144x512.Idx) (x : S1x1x128x512.Idx) (h : ℕ) (h1 : (y 1).val = h)
    (h2 : (y 2).val = (x 2).val) (h3 : (y 3).val = (x 3).val) (hh : h < 8) :
    blockV X y = X (ix2 (x 3) ⟨128 * h + (x 2).val, by have : (x 2).val < 128 := (x 2).isLt; omega⟩) := by
  have hx : (x 2).val < 128 := (x 2).isLt
  unfold blockV
  rw [dif_pos (by omega)]
  refine congrArg X (funext fun a => Fin.ext ?_)
  fin_cases a
  · exact h3
  · show 128 * (y 1).val + (y 2).val = 128 * h + (x 2).val
    omega

/-- The block at an index of the ones. -/
theorem block_one (X : FVec Ideal S512x1024 .f32) (y : S1x8x144x512.Idx) (h2 : 128 ≤ (y 2).val) :
    blockV X y = Ideal.ofBits FTy.bf16 0x3F80#16 := dif_neg (by omega)

/-- A head's ones are the block's. -/
theorem piece_one (X : FVec Ideal S512x1024 .f32) (h : ℕ) (inb) (x : S1x1x16x512.Idx) :
    (k0_pay2 (F := Ideal) x : EReal) = blockV X ((Rect.unit (s := S1x8x144x512) ![0, h, 128, 0] ![1, 1, 16, 512] inb).emb x) :=
  (one_at x).trans (block_one _ _ (le_of_le_of_eq (Nat.le_add_right 128 _)
    (unit_val (s := S1x8x144x512) ![0, h, 128, 0] ![1, 1, 16, 512] inb x 2).symm)).symm

/-- A head's transposed rows are the block's. -/
theorem piece_val {sp : Space} (w : Memref sig .tc sp S512x1024 .f32) (hw : w.IsWhole) (X : FVec Ideal S512x1024 .f32) (h o : ℕ) (hh : h < 8)
    (ho : o = 128 * h) (inb inb') (x : S1x1x128x512.Idx) :
    (k0_pay1 (F := Ideal) (w.view.readAt (Elt Ideal) (Rect.unit (s := S512x1024) ![0, o] ![512, 128] inb').toLoadRect (hw.unread X)) x : EReal)
      = blockV X ((Rect.unit (s := S1x8x144x512) ![0, h, 0, 0] ![1, 1, 128, 512] inb).emb x) := by
  subst ho
  have h1 : (x 1).val < 1 := (x 1).isLt
  have h2 : (x 2).val < 128 := (x 2).isLt
  refine (val_at _ x).trans ((readAt_at w hw X _ _ _ _ (ix2 (x 3) ⟨128 * h + (x 2).val, by omega⟩) ?_).trans (block_val X _ x h ?_ ?_ ?_ hh).symm)
  · intro a
    fin_cases a
    · exact (Nat.zero_add _).symm
    · rfl
  · refine (unit_val (s := S1x8x144x512) ![0, h, 0, 0] ![1, 1, 128, 512] inb x 1).trans ?_
    show h + (x 1).val = h
    omega
  · exact (unit_val (s := S1x8x144x512) ![0, h, 0, 0] ![1, 1, 128, 512] inb x 2).trans (Nat.zero_add _)
  · exact (unit_val (s := S1x8x144x512) ![0, h, 0, 0] ![1, 1, 128, 512] inb x 3).trans (Nat.zero_add _)

set_option maxHeartbeats 4000000 in
/-- What a grid point stores of the values. -/
theorem out_v (c : Dev nD) (t : Fin cfg0.N) (y : S1x8x144x512.Idx) :
    ((outsAt0 (F := Ideal) m c t).2.2 y : EReal) = blockV (X0_2 m c t) y := by
  unfold outsAt0 out0_A_5
  dsimp only
  rw [View.read_writes_eq_canon _ _ _ (cover0_A_5 c _ _ _ _ _ _ _ _ _ _ _ _ _ _ _ _)]
  refine View.canon_apply_of_pieces (e := .bf16) (Val := Elt Ideal) (blockV (X0_2 m c t)) _ ?_ y (cover0_A_5 c _ _ _ _ _ _ _ _ _ _ _ _ _ _ _ _ y)
  unfold kernelRun0_A
  dsimp only
  sl_unfold_words
  intro pc hpc
  rcases List.mem_cons.mp hpc with rfl | hpc
  · exact fun x => piece_one _ 7 inb_S1x8x144x512_S1x1x16x512_0_7_128_0 x
  rcases List.mem_cons.mp hpc with rfl | hpc
  · exact fun x => piece_val _ _ _ 7 896 (by decide) rfl inb_S1x8x144x512_S1x1x128x512_0_7_0_0 inb_S512x1024_S512x128_0_896 x
  rcases List.mem_cons.mp hpc with rfl | hpc
  · exact fun x => piece_one _ 6 inb_S1x8x144x512_S1x1x16x512_0_6_128_0 x
  rcases List.mem_cons.mp hpc with rfl | hpc
  · exact fun x => piece_val _ _ _ 6 768 (by decide) rfl inb_S1x8x144x512_S1x1x128x512_0_6_0_0 inb_S512x1024_S512x128_0_768 x
  rcases List.mem_cons.mp hpc with rfl | hpc
  · exact fun x => piece_one _ 5 inb_S1x8x144x512_S1x1x16x512_0_5_128_0 x
  rcases List.mem_cons.mp hpc with rfl | hpc
  · exact fun x => piece_val _ _ _ 5 640 (by decide) rfl inb_S1x8x144x512_S1x1x128x512_0_5_0_0 inb_S512x1024_S512x128_0_640 x
  rcases List.mem_cons.mp hpc with rfl | hpc
  · exact fun x => piece_one _ 4 inb_S1x8x144x512_S1x1x16x512_0_4_128_0 x
  rcases List.mem_cons.mp hpc with rfl | hpc
  · exact fun x => piece_val _ _ _ 4 512 (by decide) rfl inb_S1x8x144x512_S1x1x128x512_0_4_0_0 inb_S512x1024_S512x128_0_512 x
  rcases List.mem_cons.mp hpc with rfl | hpc
  · exact fun x => piece_one _ 3 inb_S1x8x144x512_S1x1x16x512_0_3_128_0 x
  rcases List.mem_cons.mp hpc with rfl | hpc
  · exact fun x => piece_val _ _ _ 3 384 (by decide) rfl inb_S1x8x144x512_S1x1x128x512_0_3_0_0 inb_S512x1024_S512x128_0_384 x
  rcases List.mem_cons.mp hpc with rfl | hpc
  · exact fun x => piece_one _ 2 inb_S1x8x144x512_S1x1x16x512_0_2_128_0 x
  rcases List.mem_cons.mp hpc with rfl | hpc
  · exact fun x => piece_val _ _ _ 2 256 (by decide) rfl inb_S1x8x144x512_S1x1x128x512_0_2_0_0 inb_S512x1024_S512x128_0_256 x
  rcases List.mem_cons.mp hpc with rfl | hpc
  · exact fun x => piece_one _ 1 inb_S1x8x144x512_S1x1x16x512_0_1_128_0 x
  rcases List.mem_cons.mp hpc with rfl | hpc
  · exact fun x => piece_val _ _ _ 1 128 (by decide) rfl inb_S1x8x144x512_S1x1x128x512_0_1_0_0 inb_S512x1024_S512x128_0_128 x
  rcases List.mem_cons.mp hpc with rfl | hpc
  · exact fun x => piece_one _ 0 inb_S1x8x144x512_S1x1x16x512_0_0_128_0 x
  rcases List.mem_cons.mp hpc with rfl | hpc
  · exact fun x => piece_val _ _ _ 0 0 (by decide) rfl inb_S1x8x144x512_S1x1x128x512_0_0_0_0 inb_S512x1024_S512x128_0_0 x
  nomatch hpc

/-- A row's block. -/
theorem row_of (t : Fin cfg0.N) (q : Fin 512) : 512 * (grid0.coords t 0).val + q.val < 16384 := by
  have : (grid0.coords t 0).val < 32 := (grid0.coords t 0).isLt
  omega

/-- What a grid point stores of the queries is the array's block. -/
theorem point_q (c : Dev nD) (t : Fin cfg0.N) (y : S512x1024.Idx) (q : S16384x1024.Idx) (h0 : (q 0).val = 512 * (grid0.coords t 0).val + (y 0).val)
    (h1 : (q 1).val = (y 1).val) :
    ((outsAt0 (F := Ideal) m c t).1 y : EReal) = qs (m ((c : Thread nD τ).loc main_arg0)) q := by
  obtain ⟨a, n, rfl⟩ : ∃ a n, y = ix2 a n := ⟨y 0, y 1, funext fun b => by fin_cases b <;> rfl⟩
  refine (out_q m c t _).trans ((x0_at m c t a n (q 0) h0).trans ?_)
  refine congrArg (m ((c : Thread nD τ).loc main_arg0)) (congrArg (ix2 (q 0)) (Fin.ext ?_))
  show 7168 + n.val = 7168 + (q 1).val
  exact congrArg (_ + ·) h1.symm

/-- What a grid point stores of the keys is the array's block. -/
theorem point_k (c : Dev nD) (t : Fin cfg0.N) (y : S512x1024.Idx) (q : S16384x1024.Idx) (h0 : (q 0).val = 512 * (grid0.coords t 0).val + (y 0).val)
    (h1 : (q 1).val = (y 1).val) :
    ((outsAt0 (F := Ideal) m c t).2.1 y : EReal) = ks (m ((c : Thread nD τ).loc main_arg0)) q := by
  obtain ⟨a, n, rfl⟩ : ∃ a n, y = ix2 a n := ⟨y 0, y 1, funext fun b => by fin_cases b <;> rfl⟩
  refine (out_k m c t _).trans ((x1_at m c t a n (q 0) h0).trans ?_)
  refine congrArg (m ((c : Thread nD τ).loc main_arg0)) (congrArg (ix2 (q 0)) (Fin.ext ?_))
  show 8192 + n.val = 8192 + (q 1).val
  exact congrArg (_ + ·) h1.symm

/-- What a grid point stores of the values is the array's block. -/
theorem point_v (c : Dev nD) (t : Fin cfg0.N) (y : S1x8x144x512.Idx) (q : S32x8x144x512.Idx) (h0 : (q 0).val = (grid0.coords t 0).val)
    (h1 : (q 1).val = (y 1).val) (h2 : (q 2).val = (y 2).val) (h3 : (q 3).val = (y 3).val) :
    ((outsAt0 (F := Ideal) m c t).2.2 y : EReal) = vs (m ((c : Thread nD τ).loc main_arg0)) q := by
  refine (out_v m c t y).trans ?_
  unfold blockV vs
  by_cases h : (y 2).val < 128
  · rw [dif_pos h, dif_pos (h2.trans_lt h)]
    have hy : (y 1).val < 8 := (y 1).isLt
    refine (x2_at m c t (y 3) ⟨128 * (y 1).val + (y 2).val, by omega⟩ ⟨512 * (grid0.coords t 0).val + (y 3).val, row_of t (y 3)⟩ rfl).trans ?_
    refine congrArg (m ((c : Thread nD τ).loc main_arg0)) (congrArg₂ ix2 (Fin.ext ?_) (Fin.ext ?_))
    · show 512 * (grid0.coords t 0).val + (y 3).val = 512 * (q 0).val + (q 3).val
      rw [h0, h3]
    · show 9216 + (128 * (y 1).val + (y 2).val) = 9216 + 128 * (q 1).val + (q 2).val
      rw [h1, h2, Nat.add_assoc]
  · rw [dif_neg h, dif_neg (fun g => h (h2.symm.trans_lt g))]

/-- The queries' result of the kernel. -/
theorem final3 (c : Dev nD) : (dats m 0 c).arrAt 3 cfg0.N = qs (m ((c : Thread nD τ).loc main_arg0)) := by
  refine (dats m 0 c).arrAt_eq_of_covers 3 _ (by decide +kernel) fun t _ y => ?_
  blk_simp
  rw [after0_3]
  refine point_q m c t y _ ?_ ?_ <;> blk_simp [idx t]
  exact congrArg (· + _) (Nat.mul_comm _ _)

/-- The keys' result of the kernel. -/
theorem final4 (c : Dev nD) : (dats m 0 c).arrAt 4 cfg0.N = ks (m ((c : Thread nD τ).loc main_arg0)) := by
  refine (dats m 0 c).arrAt_eq_of_covers 4 _ (by decide +kernel) fun t _ y => ?_
  blk_simp
  rw [after0_4]
  refine point_k m c t y _ ?_ ?_ <;> blk_simp [idx t]
  exact congrArg (· + _) (Nat.mul_comm _ _)

/-- The values' result of the kernel. -/
theorem final5 (c : Dev nD) : (dats m 0 c).arrAt 5 cfg0.N = vs (m ((c : Thread nD τ).loc main_arg0)) := by
  refine (dats m 0 c).arrAt_eq_of_covers 5 _ (by decide +kernel) fun t _ y => ?_
  have hy : (y 0).val < 1 := (y 0).isLt
  blk_simp
  rw [after0_5]
  refine point_v m c t y _ ?_ ?_ ?_ ?_ <;> blk_simp [idx t]

end Kernel

section Reference
open Cert.ReferencePrepIdeal Cert.ReferencePrepIdeal.Gen

/-- The reference's queries. -/
theorem ref_q (a : FVec Ideal S16384x15872 .f32) :
    truncf .bf16 (extractStridedSlice S16384x1024 ![0, 7168] a slices_S16384x15872_S16384x1024_0_7168) bitsLt_bf16_f32 = qs a := by
  funext i
  pointwise [qs]

/-- The reference's keys. -/
theorem ref_k (a : FVec Ideal S16384x15872 .f32) :
    truncf .bf16 (extractStridedSlice S16384x1024 ![0, 8192] a slices_S16384x15872_S16384x1024_0_8192) bitsLt_bf16_f32 = ks a := by
  funext i
  pointwise [ks]

/-- The reference's values. -/
theorem ref_v (a : FVec Ideal S16384x15872 .f32) :
    concatenate S32x8x144x512 2 [⟨S32x8x128x512, (transpose S32x8x128x512 [0, 2, 3, 1] (shapeCast _ (truncf .bf16 (extractStridedSlice S16384x1024 ![0, 9216] a slices_S16384x15872_S16384x1024_0_9216) bitsLt_bf16_f32) shapeCasts_S16384x1024_S32x512x8x128) transposes_S32x512x8x128_S32x8x128x512_0_2_3_1)⟩, ⟨S32x8x16x512, (broadcastInDim S32x8x16x512 ![] bcast_S_S32x8x16x512 (constant S_ .bf16 0x3F80#16))⟩] concatenates_S32x8x128x512_S32x8x16x512_S32x8x144x512_d2
      = vs a := by
  funext i
  pointwise [vs]
  refine dite_congr rfl (fun h => congrArg a (congrArg₂ ix2 (Fin.ext ?_) (Fin.ext ?_))) fun _ => rfl
  · exact congrArg (· + _) (Nat.mul_comm _ _)
  · show 9216 + ((i 1).val * 128 + (i 2).val) = 9216 + 128 * (i 1).val + (i 2).val
    omega

end Reference

open Cert.KernelPrepIdeal Cert.KernelPrepIdeal.Gen Cert.KernelPrepIdeal.Value in
/-- The preparation's call and its reference end with the same results. -/
theorem algebraic : Cert.algebraic_KernelPrepIdeal_ReferencePrepIdeal := by
  intro m ρ m' ρ' _ hag
  refine ⟨fun c => qs (m ((c : Thread nD τ).loc main_arg0)), fun c => ks (m ((c : Thread nD τ).loc main_arg0)),
    fun c => vs (m ((c : Thread nD τ).loc main_arg0)), ?_, ?_⟩
  · exact (θ_run Cert.KernelPrepIdeal.defs _ _).mono
      (fun _ h c => ⟨(h c).1.trans (final3 m c), (h c).2.1.trans (final4 m c), (h c).2.2.1.trans (final5 m c), (h c).2.2.2⟩)
      (Cert.KernelPrepIdeal.Value.run_blocks (F := Ideal) m ρ)
  · refine (θ_run Cert.ReferencePrepIdeal.defs _ _).mono
      (fun r h c => ⟨(h c).1.trans ?_, (h c).2.1.trans ?_, (h c).2.2.1.trans ?_, (h c).2.2.2⟩)
      (Cert.ReferencePrepIdeal.Value.run (F := Ideal) m' ρ')
    · rw [(hag c)]
      exact ref_q _
    · rw [(hag c)]
      exact ref_k _
    · rw [(hag c)]
      exact ref_v _

end Cert.Proof.Prep

end
-- ==== Proof.Rope.lean ====
/- The value of the call of the rotary turns. -/
module

public import proofs.«01_k».proof.Defs
public import proofs.«01_k».proof.Proof.Gen.KernelRopeIdeal.Value
public import proofs.«01_k».proof.Proof.Gen.ReferenceRopeIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Rope

/-- The lane that a turn by halves of 64 pairs with a lane. -/
def p64 (n : ℕ) : ℕ := if n < 64 then 64 + n else n - 64

/-- The lane that a turn by halves of 32 pairs with a lane. -/
def p32 (n : ℕ) : ℕ := if n < 32 then 32 + n else n - 32

/-- A lane's pair of a turn by halves of 64 is a lane. -/
theorem p64_lt (n : ℕ) (h : n < 128) : p64 n < 128 := by
  unfold p64
  split <;> omega

/-- A lane's pair of a turn by halves of 32 is a lane. -/
theorem p32_lt (n : ℕ) (h : n < 64) : p32 n < 64 := by
  unfold p32
  split <;> omega

section Kernel
open Cert.KernelRopeIdeal Cert.KernelRopeIdeal.Gen Cert.KernelRopeIdeal.Value

variable (m : (ℓ : Loc nD τ sig) → Buf (Elt Ideal) ℓ)

/-- A row's position in its sequence. -/
def pos (r : Fin 16384) : Fin 8192 := ⟨r.val % 8192, Nat.mod_lt _ (by decide)⟩

/-- The turned queries, as an array. -/
def turnQ (u : FVec Ideal S16384x15872 .f32) (c s : FVec Ideal S8192x128 .f32) : FVec Ideal S16384x1024 .bf16 := fun i =>
  have hi : (i 1).val < 1024 := (i 1).isLt
  have hl : (i 1).val % 128 < 128 := Nat.mod_lt _ (by decide)
  u (ix2 (i 0) ⟨(i 1).val, by omega⟩) * c (ix2 (pos (i 0)) ⟨(i 1).val % 128, hl⟩)
    + u (ix2 (i 0) ⟨(i 1).val / 128 * 128 + p64 ((i 1).val % 128), by have := p64_lt _ hl; omega⟩) * s (ix2 (pos (i 0)) ⟨(i 1).val % 128, hl⟩)

/-- The turned key, as an array. -/
def turnK (u : FVec Ideal S16384x15872 .f32) (c s : FVec Ideal S8192x128 .f32) : FVec Ideal S16384x128 .bf16 := fun i =>
  have hi : (i 1).val < 128 := (i 1).isLt
  u (ix2 (i 0) ⟨15360 + (i 1).val, by omega⟩) * c (ix2 (pos (i 0)) (i 1))
    + u (ix2 (i 0) ⟨15360 + p64 (i 1).val, by have := p64_lt _ hi; omega⟩) * s (ix2 (pos (i 0)) (i 1))

/-- The transposed values with ones under them, as an array. -/
def valT (u : FVec Ideal S16384x15872 .f32) : FVec Ideal S64x144x256 .bf16 := fun i =>
  if h : (i 1).val < 128 then
    u (ix2 ⟨(i 0).val * 256 + (i 2).val, by have : (i 0).val < 64 := (i 0).isLt; have : (i 2).val < 256 := (i 2).isLt; omega⟩ ⟨15488 + (i 1).val, by omega⟩)
  else Ideal.ofBits FTy.bf16 0x3F80#16

/-- The indexer's turned queries, as an array. -/
def turnI (u : FVec Ideal S16384x15872 .f32) (c s : FVec Ideal S8192x128 .f32) : FVec Ideal S16x16384x64 .bf16 := fun i =>
  have hi : (i 0).val < 16 := (i 0).isLt
  have hj : (i 2).val < 64 := (i 2).isLt
  u (ix2 (i 1) ⟨1024 + ((i 0).val / 2 * 128 + (i 0).val % 2 * 64 + (i 2).val), by omega⟩) * c (ix2 (pos (i 1)) ⟨(i 0).val % 2 * 64 + (i 2).val, by omega⟩)
    + u (ix2 (i 1) ⟨1024 + ((i 0).val / 2 * 128 + (i 0).val % 2 * 64 + p32 (i 2).val), by have := p32_lt _ hj; omega⟩)
      * s (ix2 (pos (i 1)) ⟨(i 0).val % 2 * 64 + (i 2).val, by omega⟩)

/-- The indexer's turned key, as an array. -/
def turnJ (u : FVec Ideal S16384x15872 .f32) (c s : FVec Ideal S8192x128 .f32) : FVec Ideal S16384x64 .bf16 := fun i =>
  have hj : (i 1).val < 64 := (i 1).isLt
  u (ix2 (i 0) ⟨15616 + (i 1).val, by omega⟩) * c (ix2 (pos (i 0)) ⟨(i 1).val, by omega⟩)
    + u (ix2 (i 0) ⟨15616 + p32 (i 1).val, by have := p32_lt _ hj; omega⟩) * s (ix2 (pos (i 0)) ⟨(i 1).val, by omega⟩)

/-- The indexer's scaled weights, as an array. -/
def scaleW (u : FVec Ideal S16384x15872 .f32) : FVec Ideal S16x16384 .f32 := fun i =>
  u (ix2 (i 1) ⟨15680 + (i 0).val, by have : (i 0).val < 16 := (i 0).isLt; omega⟩) * Ideal.ofBits FTy.f32 0x3D000000#32

/-- The block each window takes at a grid point. -/
theorem idx : ∀ t : Fin cfg0.N, win0_0.index t = ![(grid0.coords t 0).val, 0] ∧ win0_1.index t = ![(grid0.coords t 0).val, 1]
    ∧ win0_2.index t = ![(grid0.coords t 0).val, 120] ∧ win0_3.index t = ![(grid0.coords t 0).val, 121]
    ∧ win0_4.index t = ![(grid0.coords t 0).val, 122] ∧ win0_5.index t = ![(grid0.coords t 0).val % 32, 0]
    ∧ win0_6.index t = ![(grid0.coords t 0).val % 32, 0] ∧ win0_7.index t = ![(grid0.coords t 0).val % 32, 0]
    ∧ win0_8.index t = ![(grid0.coords t 0).val % 32, 0] ∧ win0_9.index t = ![(grid0.coords t 0).val, 0]
    ∧ win0_10.index t = ![(grid0.coords t 0).val, 0] ∧ win0_11.index t = ![(grid0.coords t 0).val, 0, 0]
    ∧ win0_12.index t = ![0, (grid0.coords t 0).val, 0] ∧ win0_13.index t = ![(grid0.coords t 0).val, 0]
    ∧ win0_14.index t = ![0, (grid0.coords t 0).val] :=
  (by decide +kernel : ∀ t : Fin grid0.N, _)

/-- The queries' block, in the array. -/
theorem x0_at (c : Dev nD) (t : Fin cfg0.N) (q : Fin 256) (n : Fin 1024) (r : Fin 16384) (hr : r.val = 256 * (grid0.coords t 0).val + q.val)
    (k : Fin 15872) (hk : k.val = n.val) :
    (show EReal from X0_0 m c t (ix2 q n)) = m ((c : Thread nD τ).loc main_arg0) (ix2 r k) := by
  obtain ⟨k, hk'⟩ := k
  replace hk : k = n.val := hk
  subst hk
  unfold X0_0 Pipeline.Window.fill
  rw [dif_pos (moved0_0 t _)]
  blk_point [iblk, V, idx t]

/-- The indexer's queries' block, in the array. -/
theorem x1_at (c : Dev nD) (t : Fin cfg0.N) (q : Fin 256) (n : Fin 1024) (r : Fin 16384) (hr : r.val = 256 * (grid0.coords t 0).val + q.val)
    (k : Fin 15872) (hk : k.val = 1024 + n.val) :
    (show EReal from X0_1 m c t (ix2 q n)) = m ((c : Thread nD τ).loc main_arg0) (ix2 r k) := by
  obtain ⟨k, hk'⟩ := k
  replace hk : k = 1024 + n.val := hk
  subst hk
  unfold X0_1 Pipeline.Window.fill
  rw [dif_pos (moved0_1 t _)]
  blk_point [iblk, V, idx t]

/-- The key's block, in the array. -/
theorem x2_at (c : Dev nD) (t : Fin cfg0.N) (q : Fin 256) (n : Fin 128) (r : Fin 16384) (hr : r.val = 256 * (grid0.coords t 0).val + q.val)
    (k : Fin 15872) (hk : k.val = 15360 + n.val) :
    (show EReal from iblk m c 2 t (ix2 q n)) = m ((c : Thread nD τ).loc main_arg0) (ix2 r k) := by
  obtain ⟨k, hk'⟩ := k
  replace hk : k = 15360 + n.val := hk
  subst hk
  blk_point [iblk, V, idx t]

/-- The values' block, in the array. -/
theorem x3_at (c : Dev nD) (t : Fin cfg0.N) (q : Fin 256) (n : Fin 128) (r : Fin 16384) (hr : r.val = 256 * (grid0.coords t 0).val + q.val)
    (k : Fin 15872) (hk : k.val = 15488 + n.val) :
    (show EReal from iblk m c 3 t (ix2 q n)) = m ((c : Thread nD τ).loc main_arg0) (ix2 r k) := by
  obtain ⟨k, hk'⟩ := k
  replace hk : k = 15488 + n.val := hk
  subst hk
  blk_point [iblk, V, idx t]

/-- The indexer's key's and weights' block, in the array. -/
theorem x4_at (c : Dev nD) (t : Fin cfg0.N) (q : Fin 256) (n : Fin 128) (r : Fin 16384) (hr : r.val = 256 * (grid0.coords t 0).val + q.val)
    (k : Fin 15872) (hk : k.val = 15616 + n.val) :
    (show EReal from iblk m c 4 t (ix2 q n)) = m ((c : Thread nD τ).loc main_arg0) (ix2 r k) := by
  obtain ⟨k, hk'⟩ := k
  replace hk : k = 15616 + n.val := hk
  subst hk
  blk_point [iblk, V, idx t]

/-- The cosines' block, in the table. -/
theorem x5_at (c : Dev nD) (t : Fin cfg0.N) (q : Fin 256) (n : Fin 128) (p : Fin 8192) (hp : p.val = 256 * ((grid0.coords t 0).val % 32) + q.val)
    (k : Fin 128) (hk : k.val = n.val) :
    (show EReal from iblk m c 5 t (ix2 q n)) = m ((c : Thread nD τ).loc main_arg1) (ix2 p k) := by
  obtain rfl : k = n := Fin.ext hk
  blk_point [iblk, V, idx t]

/-- The sines' block, in the table. -/
theorem x6_at (c : Dev nD) (t : Fin cfg0.N) (q : Fin 256) (n : Fin 128) (p : Fin 8192) (hp : p.val = 256 * ((grid0.coords t 0).val % 32) + q.val)
    (k : Fin 128) (hk : k.val = n.val) :
    (show EReal from iblk m c 6 t (ix2 q n)) = m ((c : Thread nD τ).loc main_arg2) (ix2 p k) := by
  obtain rfl : k = n := Fin.ext hk
  blk_point [iblk, V, idx t]

/-- The indexer's cosines' block, in the table. -/
theorem x7_at (c : Dev nD) (t : Fin cfg0.N) (q : Fin 256) (n : Fin 128) (p : Fin 8192) (hp : p.val = 256 * ((grid0.coords t 0).val % 32) + q.val)
    (k : Fin 128) (hk : k.val = n.val) :
    (show EReal from iblk m c 7 t (ix2 q n)) = m ((c : Thread nD τ).loc main_arg3) (ix2 p k) := by
  obtain rfl : k = n := Fin.ext hk
  blk_point [iblk, V, idx t]

/-- The indexer's sines' block, in the table. -/
theorem x8_at (c : Dev nD) (t : Fin cfg0.N) (q : Fin 256) (n : Fin 128) (p : Fin 8192) (hp : p.val = 256 * ((grid0.coords t 0).val % 32) + q.val)
    (k : Fin 128) (hk : k.val = n.val) :
    (show EReal from iblk m c 8 t (ix2 q n)) = m ((c : Thread nD τ).loc main_arg4) (ix2 p k) := by
  obtain rfl : k = n := Fin.ext hk
  blk_point [iblk, V, idx t]

/-- A unit rectangle's index, by its coordinates. -/
theorem unit_idx {s : Shape} (off size : Fin s.rank → ℕ) (h) (x : (Rect.unit off size h).shape.Idx) (y : s.Idx)
    (hy : ∀ a, (y a).val = off a + (x a).val) : (Rect.unit off size h).idx x = y := by
  funext a
  refine Fin.ext ?_
  rw [hy a]
  simp [Rect.unit]

/-- A unit rectangle's index's coordinate. -/
theorem unit_val {s : Shape} (off size : Fin s.rank → ℕ) (h) (x : (Rect.unit off size h).shape.Idx) (a : Fin s.rank) :
    ((Rect.unit off size h).emb x a).val = off a + (x a).val := by
  show off a + 1 * (x a).val = _
  rw [one_mul]

/-- A load of a unit rectangle of given contents, at an index. -/
theorem readAt_at {s : Shape} {e : EltTy} {sp : Space} (w : Memref sig .tc sp s e) (hw : w.IsWhole) (X : s.Idx → Elt Ideal e)
    (off size : Fin s.rank → ℕ) (h) (x : (Rect.unit off size h).shape.Idx) (y : s.Idx) (hy : ∀ a, (y a).val = off a + (x a).val) :
    w.view.readAt (Elt Ideal) (Rect.unit off size h).toLoadRect (hw.unread X) x = X y := by
  rw [View.readAt_apply, unit_idx off size h x y hy, hw.read_unread]

/-- A load of a whole block of lanes is its contents. -/
theorem full_at {sp : Space} (w : Memref sig .tc sp S256x128 .f32) (hw : w.IsWhole) (X : FVec Ideal S256x128 .f32) :
    w.view.readAt (Elt Ideal) (Rect.unit (s := S256x128) ![0, 0] S256x128.size inb_S256x128_S256x128_0_0).toLoadRect (hw.unread X) = X :=
  funext fun x => readAt_at w hw X _ _ _ x x fun a => by fin_cases a <;> exact (Nat.zero_add _).symm

/-- A load of a head's lanes, at a row and a lane. -/
theorem head_at {sp : Space} (w : Memref sig .tc sp S256x1024 .f32) (hw : w.IsWhole) (X : FVec Ideal S256x1024 .f32) (o : ℕ) (inb)
    (q : Fin 256) (n : Fin 128) (k : Fin 1024) (hk : k.val = o + n.val) :
    (show EReal from w.view.readAt (Elt Ideal) (Rect.unit (s := S256x1024) ![0, o] ![256, 128] inb).toLoadRect (hw.unread X) (ix2 q n)) = X (ix2 q k) :=
  readAt_at w hw X _ _ _ _ _ fun a => by
    fin_cases a
    · exact (Nat.zero_add _).symm
    · exact hk

/-- A head's turn, at a row and a lane. -/
theorem turn_at (c s x : FVec Ideal S256x128 .f32) (q : Fin 256) (n : Fin 128) :
    (k0_pay3 (F := Ideal) c s x (ix2 q n) : EReal) = x (ix2 q n) * c (ix2 q n) + x (ix2 q ⟨p64 n.val, p64_lt _ n.isLt⟩) * s (ix2 q n) := by
  pointwise [k0_pay3]
  refine congrArg (fun z => x (ix2 q n) * c (ix2 q n) + x (ix2 q z) * s (ix2 q n)) (Fin.ext ?_)
  show (n.val + 128 - 64) % 128 = p64 n.val
  unfold p64
  split <;> omega

/-- The mask of a lane, by the lane. -/
theorem mask_lane : ∀ n : Fin 128, (k0_pay2 (ix2 (0 : Fin 256) n) = 1#1) ↔ n.val % 64 < 32 := by
  intro n
  pointwise [k0_pay2]
  revert n
  decide +kernel

/-- The mask does not depend on the row. -/
theorem mask_row (q : Fin 256) (n : Fin 128) : k0_pay2 (ix2 q n) = k0_pay2 (ix2 (0 : Fin 256) n) := by
  pointwise [k0_pay2]

/-- The mask where it is set. -/
theorem mask_on (q : Fin 256) (n : Fin 128) (h : n.val % 64 < 32) : k0_pay2 (ix2 q n) = 1#1 := (mask_row q n).trans ((mask_lane n).2 h)

/-- The mask where it is not set. -/
theorem mask_off (q : Fin 256) (n : Fin 128) (h : ¬ n.val % 64 < 32) : k0_pay2 (ix2 q n) = 0#1 := by
  have : k0_pay2 (ix2 q n) ≠ 1#1 := fun g => h ((mask_lane n).1 ((mask_row q n).symm.trans g))
  generalize k0_pay2 (ix2 q n) = b at this
  revert b
  decide

/-- The masked choice of two turned lanes is the lane's pair. -/
theorem choose_at (x : FVec Ideal S256x128 .f32) (q : Fin 256) (n a b : Fin 128) (d : ℕ) (hd : d = 0 ∨ d = 64) (k : ℕ) (hk : k < 64) (hn : n.val = d + k)
    (ha : a.val = (n.val + 128 - 96) % 128) (hb : b.val = (n.val + 128 - 32) % 128) (z : Fin 128) (hz : z.val = d + p32 k) :
    (Scalar.select (k0_pay2 (ix2 q n)) (x (ix2 q a)) (x (ix2 q b)) : EReal) = x (ix2 q z) := by
  by_cases h : k < 32
  · rw [mask_on q n (by omega)]
    refine congrArg (fun v => x (ix2 q v)) (Fin.ext ?_)
    have : p32 k = 32 + k := if_pos h
    omega
  · rw [mask_off q n (by omega)]
    refine congrArg (fun v => x (ix2 q v)) (Fin.ext ?_)
    have : p32 k = k - 32 := if_neg h
    omega

/-- The first head of a pair's turn, at a row and a lane. -/
theorem pair0_at (c s x : FVec Ideal S256x128 .f32) (q : Fin 256) (n : Fin 64) :
    (k0_pay16 (F := Ideal) c s k0_pay2 x (ix3 0 q n) : EReal) = x (ix2 q ⟨n.val, by omega⟩) * c (ix2 q ⟨n.val, by omega⟩)
      + x (ix2 q ⟨p32 n.val, (p32_lt _ n.isLt).trans (by decide)⟩) * s (ix2 q ⟨n.val, by omega⟩) := by
  pointwise [k0_pay16, k0_pay15]
  exact congrArg (fun v => x (ix2 q ⟨n.val, by omega⟩) * c (ix2 q ⟨n.val, by omega⟩) + v * s (ix2 q ⟨n.val, by omega⟩))
    (choose_at x q _ _ _ 0 (.inl rfl) n.val n.isLt (Nat.zero_add _).symm rfl rfl _ (Nat.zero_add _).symm)

/-- The second head of a pair's turn, at a row and a lane. -/
theorem pair1_at (c s x : FVec Ideal S256x128 .f32) (q : Fin 256) (n : Fin 64) :
    (k0_pay17 (F := Ideal) c s k0_pay2 x (ix3 0 q n) : EReal) = x (ix2 q ⟨64 + n.val, by omega⟩) * c (ix2 q ⟨64 + n.val, by omega⟩)
      + x (ix2 q ⟨64 + p32 n.val, by have := p32_lt _ n.isLt; omega⟩) * s (ix2 q ⟨64 + n.val, by omega⟩) := by
  pointwise [k0_pay17, k0_pay15]
  exact congrArg (fun v => x (ix2 q ⟨64 + n.val, by omega⟩) * c (ix2 q ⟨64 + n.val, by omega⟩) + v * s (ix2 q ⟨64 + n.val, by omega⟩))
    (choose_at x q _ _ _ 64 (.inr rfl) n.val n.isLt rfl rfl rfl _ rfl)

/-- The indexer's key's turn, at a row and a lane. -/
theorem one_turn_at (c s x : FVec Ideal S256x128 .f32) (q : Fin 256) (n : Fin 64) :
    (k0_pay43 (F := Ideal) c s k0_pay2 x (ix2 q n) : EReal) = x (ix2 q ⟨n.val, by omega⟩) * c (ix2 q ⟨n.val, by omega⟩)
      + x (ix2 q ⟨p32 n.val, (p32_lt _ n.isLt).trans (by decide)⟩) * s (ix2 q ⟨n.val, by omega⟩) := by
  pointwise [k0_pay43]
  exact congrArg (fun v => x (ix2 q ⟨n.val, by omega⟩) * c (ix2 q ⟨n.val, by omega⟩) + v * s (ix2 q ⟨n.val, by omega⟩))
    (choose_at x q _ _ _ 0 (.inl rfl) n.val n.isLt (Nat.zero_add _).symm rfl rfl _ (Nat.zero_add _).symm)

/-- The transposed rows' piece, at an index. -/
theorem val_at (v : FVec Ideal S256x128 .f32) (x : S1x128x256.Idx) :
    (k0_pay13 (F := Ideal) v x : EReal) = v (ix2 (x 2) (x 1)) := by
  pointwise [k0_pay13]

/-- The ones' piece, at an index. -/
theorem one_at (x : S1x16x256.Idx) : (k0_pay14 (F := Ideal) x : EReal) = Ideal.ofBits FTy.bf16 0x3F80#16 := by
  pointwise [k0_pay14]

/-- The scaled weights, at a head and a row. -/
theorem scale_at (v : FVec Ideal S256x128 .f32) (h : Fin 16) (q : Fin 256) :
    (k0_pay1 (F := Ideal) (k0_pay44 (F := Ideal) v) (ix2 h q) : EReal) = v (ix2 q ⟨64 + h.val, by omega⟩) * Ideal.ofBits FTy.f32 0x3D000000#32 := by
  pointwise [k0_pay1, k0_pay44]

/-- A block of turned queries. -/
def blockQ (X : FVec Ideal S256x1024 .f32) (c s : FVec Ideal S256x128 .f32) : FVec Ideal S256x1024 .bf16 := fun y =>
  have hi : (y 1).val < 1024 := (y 1).isLt
  have hl : (y 1).val % 128 < 128 := Nat.mod_lt _ (by decide)
  X (ix2 (y 0) (y 1)) * c (ix2 (y 0) ⟨(y 1).val % 128, hl⟩)
    + X (ix2 (y 0) ⟨(y 1).val / 128 * 128 + p64 ((y 1).val % 128), by have := p64_lt _ hl; omega⟩) * s (ix2 (y 0) ⟨(y 1).val % 128, hl⟩)

/-- A block of the indexer's turned queries. -/
def blockI (X : FVec Ideal S256x1024 .f32) (c s : FVec Ideal S256x128 .f32) : FVec Ideal S16x256x64 .bf16 := fun y =>
  have hi : (y 0).val < 16 := (y 0).isLt
  have hj : (y 2).val < 64 := (y 2).isLt
  X (ix2 (y 1) ⟨(y 0).val / 2 * 128 + (y 0).val % 2 * 64 + (y 2).val, by omega⟩) * c (ix2 (y 1) ⟨(y 0).val % 2 * 64 + (y 2).val, by omega⟩)
    + X (ix2 (y 1) ⟨(y 0).val / 2 * 128 + (y 0).val % 2 * 64 + p32 (y 2).val, by have := p32_lt _ hj; omega⟩)
      * s (ix2 (y 1) ⟨(y 0).val % 2 * 64 + (y 2).val, by omega⟩)

/-- A block of transposed values with ones under them. -/
def blockV (X : FVec Ideal S256x128 .f32) : FVec Ideal S1x144x256 .bf16 := fun y =>
  if h : (y 1).val < 128 then X (ix2 (y 2) ⟨(y 1).val, h⟩) else Ideal.ofBits FTy.bf16 0x3F80#16

/-- A head's turn is the block's. -/
theorem piece_q {sp : Space} (w : Memref sig .tc sp S256x1024 .f32) (hw : w.IsWhole) (X : FVec Ideal S256x1024 .f32)
    (wc : Memref sig .tc sp S256x128 .f32) (hwc : wc.IsWhole) (C : FVec Ideal S256x128 .f32)
    (ws : Memref sig .tc sp S256x128 .f32) (hws : ws.IsWhole) (S : FVec Ideal S256x128 .f32)
    (h o : ℕ) (hh : h < 8) (ho : o = 128 * h) (inb) (x : S256x128.Idx) :
    (k0_pay3 (F := Ideal)
      (wc.view.readAt (Elt Ideal) (Rect.unit (s := S256x128) ![0, 0] S256x128.size inb_S256x128_S256x128_0_0).toLoadRect (hwc.unread C))
      (ws.view.readAt (Elt Ideal) (Rect.unit (s := S256x128) ![0, 0] S256x128.size inb_S256x128_S256x128_0_0).toLoadRect (hws.unread S))
      (w.view.readAt (Elt Ideal) (Rect.unit (s := S256x1024) ![0, o] ![256, 128] inb).toLoadRect (hw.unread X)) x : EReal)
      = blockQ X C S ((Rect.unit (s := S256x1024) ![0, o] ![256, 128] inb).emb x) := by
  subst ho
  rw [full_at wc hwc C, full_at ws hws S]
  have e0 := unit_val (s := S256x1024) ![0, 128 * h] ![256, 128] inb x 0
  have e1 := unit_val (s := S256x1024) ![0, 128 * h] ![256, 128] inb x 1
  generalize hy : (Rect.unit (s := S256x1024) ![0, 128 * h] ![256, 128] inb).emb x = y at e0 e1 ⊢
  obtain ⟨q, n, rfl⟩ : ∃ (q : Fin 256) (n : Fin 128), x = ix2 q n := ⟨x 0, x 1, funext fun b => by fin_cases b <;> rfl⟩
  have g0 : (y 0).val = q.val := e0.trans (Nat.zero_add _)
  have g1 : (y 1).val = 128 * h + n.val := e1
  have hn := n.isLt
  have hp := p64_lt n.val hn
  have gm : (y 1).val % 128 = n.val := by omega
  refine (turn_at _ _ _ q n).trans ?_
  unfold blockQ
  refine congrArg₂ (· + ·) (congrArg₂ (· * ·) (head_at w hw X _ inb q n ⟨128 * h + n.val, by omega⟩ rfl |>.trans ?_) ?_)
    (congrArg₂ (· * ·) (head_at w hw X _ inb q _ ⟨128 * h + p64 n.val, by omega⟩ rfl |>.trans ?_) ?_)
  · exact congrArg X (congrArg₂ ix2 (Fin.ext g0.symm) (Fin.ext g1.symm))
  · exact congrArg C (congrArg₂ ix2 (Fin.ext g0.symm) (Fin.ext gm.symm))
  · refine congrArg X (congrArg₂ ix2 (Fin.ext g0.symm) (Fin.ext ?_))
    show 128 * h + p64 n.val = (y 1).val / 128 * 128 + p64 ((y 1).val % 128)
    rw [gm]
    omega
  · exact congrArg S (congrArg₂ ix2 (Fin.ext g0.symm) (Fin.ext gm.symm))

/-- The first head of a pair's turn is the block's. -/
theorem piece_i0 {sp : Space} (w : Memref sig .tc sp S256x1024 .f32) (hw : w.IsWhole) (X : FVec Ideal S256x1024 .f32)
    (wc : Memref sig .tc sp S256x128 .f32) (hwc : wc.IsWhole) (C : FVec Ideal S256x128 .f32)
    (ws : Memref sig .tc sp S256x128 .f32) (hws : ws.IsWhole) (S : FVec Ideal S256x128 .f32)
    (p h o : ℕ) (hh : p < 8) (ho : o = 128 * p) (hp : h = 2 * p) (inb inb') (x : S1x256x64.Idx) :
    (k0_pay16 (F := Ideal)
      (wc.view.readAt (Elt Ideal) (Rect.unit (s := S256x128) ![0, 0] S256x128.size inb_S256x128_S256x128_0_0).toLoadRect (hwc.unread C))
      (ws.view.readAt (Elt Ideal) (Rect.unit (s := S256x128) ![0, 0] S256x128.size inb_S256x128_S256x128_0_0).toLoadRect (hws.unread S))
      k0_pay2
      (w.view.readAt (Elt Ideal) (Rect.unit (s := S256x1024) ![0, o] ![256, 128] inb').toLoadRect (hw.unread X)) x : EReal)
      = blockI X C S ((Rect.unit (s := S16x256x64) ![h, 0, 0] ![1, 256, 64] inb).emb x) := by
  subst ho
  rw [full_at wc hwc C, full_at ws hws S]
  have e0 := unit_val (s := S16x256x64) ![h, 0, 0] ![1, 256, 64] inb x 0
  have e1 := unit_val (s := S16x256x64) ![h, 0, 0] ![1, 256, 64] inb x 1
  have e2 := unit_val (s := S16x256x64) ![h, 0, 0] ![1, 256, 64] inb x 2
  generalize hy : (Rect.unit (s := S16x256x64) ![h, 0, 0] ![1, 256, 64] inb).emb x = y at e0 e1 e2 ⊢
  obtain ⟨z, q, n, rfl⟩ : ∃ (z : Fin 1) (q : Fin 256) (n : Fin 64), x = ix3 z q n := ⟨x 0, x 1, x 2, funext fun b => by fin_cases b <;> rfl⟩
  obtain rfl : z = 0 := Subsingleton.elim _ _
  have g0 : (y 0).val = h := e0
  have g1 : (y 1).val = q.val := e1.trans (Nat.zero_add _)
  have g2 : (y 2).val = n.val := e2.trans (Nat.zero_add _)
  have hn := n.isLt
  have hq := p32_lt n.val hn
  have gd : (y 0).val / 2 * 128 + (y 0).val % 2 * 64 = 128 * p + 0 := by omega
  have gm : (y 0).val % 2 * 64 = 0 := by omega
  refine (pair0_at _ _ _ q n).trans ?_
  unfold blockI
  refine congrArg₂ (· + ·) (congrArg₂ (· * ·) (head_at w hw X _ inb' q _ ⟨128 * p + (n.val), by omega⟩ rfl |>.trans ?_) ?_)
    (congrArg₂ (· * ·) (head_at w hw X _ inb' q _ ⟨128 * p + (p32 n.val), by omega⟩ rfl |>.trans ?_) ?_)
  · refine congrArg X (congrArg₂ ix2 (Fin.ext g1.symm) (Fin.ext ?_))
    show 128 * p + (n.val) = (y 0).val / 2 * 128 + (y 0).val % 2 * 64 + (y 2).val
    omega
  · refine congrArg C (congrArg₂ ix2 (Fin.ext g1.symm) (Fin.ext ?_))
    show n.val = (y 0).val % 2 * 64 + (y 2).val
    omega
  · refine congrArg X (congrArg₂ ix2 (Fin.ext g1.symm) (Fin.ext ?_))
    show 128 * p + (p32 n.val) = (y 0).val / 2 * 128 + (y 0).val % 2 * 64 + p32 (y 2).val
    rw [g2]
    omega
  · refine congrArg S (congrArg₂ ix2 (Fin.ext g1.symm) (Fin.ext ?_))
    show n.val = (y 0).val % 2 * 64 + (y 2).val
    omega

/-- The second head of a pair's turn is the block's. -/
theorem piece_i1 {sp : Space} (w : Memref sig .tc sp S256x1024 .f32) (hw : w.IsWhole) (X : FVec Ideal S256x1024 .f32)
    (wc : Memref sig .tc sp S256x128 .f32) (hwc : wc.IsWhole) (C : FVec Ideal S256x128 .f32)
    (ws : Memref sig .tc sp S256x128 .f32) (hws : ws.IsWhole) (S : FVec Ideal S256x128 .f32)
    (p h o : ℕ) (hh : p < 8) (ho : o = 128 * p) (hp : h = 2 * p + 1) (inb inb') (x : S1x256x64.Idx) :
    (k0_pay17 (F := Ideal)
      (wc.view.readAt (Elt Ideal) (Rect.unit (s := S256x128) ![0, 0] S256x128.size inb_S256x128_S256x128_0_0).toLoadRect (hwc.unread C))
      (ws.view.readAt (Elt Ideal) (Rect.unit (s := S256x128) ![0, 0] S256x128.size inb_S256x128_S256x128_0_0).toLoadRect (hws.unread S))
      k0_pay2
      (w.view.readAt (Elt Ideal) (Rect.unit (s := S256x1024) ![0, o] ![256, 128] inb').toLoadRect (hw.unread X)) x : EReal)
      = blockI X C S ((Rect.unit (s := S16x256x64) ![h, 0, 0] ![1, 256, 64] inb).emb x) := by
  subst ho
  rw [full_at wc hwc C, full_at ws hws S]
  have e0 := unit_val (s := S16x256x64) ![h, 0, 0] ![1, 256, 64] inb x 0
  have e1 := unit_val (s := S16x256x64) ![h, 0, 0] ![1, 256, 64] inb x 1
  have e2 := unit_val (s := S16x256x64) ![h, 0, 0] ![1, 256, 64] inb x 2
  generalize hy : (Rect.unit (s := S16x256x64) ![h, 0, 0] ![1, 256, 64] inb).emb x = y at e0 e1 e2 ⊢
  obtain ⟨z, q, n, rfl⟩ : ∃ (z : Fin 1) (q : Fin 256) (n : Fin 64), x = ix3 z q n := ⟨x 0, x 1, x 2, funext fun b => by fin_cases b <;> rfl⟩
  obtain rfl : z = 0 := Subsingleton.elim _ _
  have g0 : (y 0).val = h := e0
  have g1 : (y 1).val = q.val := e1.trans (Nat.zero_add _)
  have g2 : (y 2).val = n.val := e2.trans (Nat.zero_add _)
  have hn := n.isLt
  have hq := p32_lt n.val hn
  have gd : (y 0).val / 2 * 128 + (y 0).val % 2 * 64 = 128 * p + 64 := by omega
  have gm : (y 0).val % 2 * 64 = 64 := by omega
  refine (pair1_at _ _ _ q n).trans ?_
  unfold blockI
  refine congrArg₂ (· + ·) (congrArg₂ (· * ·) (head_at w hw X _ inb' q _ ⟨128 * p + (64 + n.val), by omega⟩ rfl |>.trans ?_) ?_)
    (congrArg₂ (· * ·) (head_at w hw X _ inb' q _ ⟨128 * p + (64 + p32 n.val), by omega⟩ rfl |>.trans ?_) ?_)
  · refine congrArg X (congrArg₂ ix2 (Fin.ext g1.symm) (Fin.ext ?_))
    show 128 * p + (64 + n.val) = (y 0).val / 2 * 128 + (y 0).val % 2 * 64 + (y 2).val
    omega
  · refine congrArg C (congrArg₂ ix2 (Fin.ext g1.symm) (Fin.ext ?_))
    show 64 + n.val = (y 0).val % 2 * 64 + (y 2).val
    omega
  · refine congrArg X (congrArg₂ ix2 (Fin.ext g1.symm) (Fin.ext ?_))
    show 128 * p + (64 + p32 n.val) = (y 0).val / 2 * 128 + (y 0).val % 2 * 64 + p32 (y 2).val
    rw [g2]
    omega
  · refine congrArg S (congrArg₂ ix2 (Fin.ext g1.symm) (Fin.ext ?_))
    show 64 + n.val = (y 0).val % 2 * 64 + (y 2).val
    omega

/-- The block at an index of the ones. -/
theorem block_one (X : FVec Ideal S256x128 .f32) (y : S1x144x256.Idx) (h : 128 ≤ (y 1).val) :
    blockV X y = Ideal.ofBits FTy.bf16 0x3F80#16 := dif_neg (by omega)

/-- The ones are the block's. -/
theorem piece_one (X : FVec Ideal S256x128 .f32) (x : S1x16x256.Idx) :
    (k0_pay14 (F := Ideal) x : EReal)
      = blockV X ((Rect.unit (s := S1x144x256) ![0, 128, 0] ![1, 16, 256] inb_S1x144x256_S1x16x256_0_128_0).emb x) :=
  (one_at x).trans (block_one X _ (le_of_le_of_eq (Nat.le_add_right 128 _)
    (unit_val (s := S1x144x256) ![0, 128, 0] ![1, 16, 256] inb_S1x144x256_S1x16x256_0_128_0 x 1).symm)).symm

/-- The transposed rows are the block's. -/
theorem piece_val {sp : Space} (w : Memref sig .tc sp S256x128 .f32) (hw : w.IsWhole) (X : FVec Ideal S256x128 .f32) (x : S1x128x256.Idx) :
    (k0_pay13 (F := Ideal) (w.view.readAt (Elt Ideal) (Rect.unit (s := S256x128) ![0, 0] S256x128.size inb_S256x128_S256x128_0_0).toLoadRect (hw.unread X)) x : EReal)
      = blockV X ((Rect.unit (s := S1x144x256) ![0, 0, 0] ![1, 128, 256] inb_S1x144x256_S1x128x256_0_0_0).emb x) := by
  rw [full_at w hw X]
  have h1 : (x 1).val < 128 := (x 1).isLt
  have e1 := (unit_val (s := S1x144x256) ![0, 0, 0] ![1, 128, 256] inb_S1x144x256_S1x128x256_0_0_0 x 1).trans (Nat.zero_add _)
  have e2 := (unit_val (s := S1x144x256) ![0, 0, 0] ![1, 128, 256] inb_S1x144x256_S1x128x256_0_0_0 x 2).trans (Nat.zero_add _)
  refine (val_at _ x).trans ?_
  unfold blockV
  rw [dif_pos (e1.trans_lt h1)]
  exact congrArg X (congrArg₂ ix2 (Fin.ext e2.symm) (Fin.ext e1.symm))

set_option maxHeartbeats 4000000 in
/-- What a grid point stores of the queries. -/
theorem out_q (c : Dev nD) (t : Fin cfg0.N) (y : S256x1024.Idx) :
    ((outsAt0 (F := Ideal) m c t).1 y : EReal) = blockQ (X0_0 m c t) (iblk m c 5 t) (iblk m c 6 t) y := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ _ _ _)]
  refine View.canon_apply_of_pieces (e := .bf16) (Val := Elt Ideal) (blockQ (X0_0 m c t) (iblk m c 5 t) (iblk m c 6 t)) _ ?_ y (cover0_A_9 c _ _ _ _ _ _ _ _ _ _ _ _ _ _ _ _ _ _ _ _ _ _ _ _ _ _ _ _ _ _ _ _ _ _ _ _ _ _ _ _ y)
  unfold kernelRun0_A
  dsimp only
  sl_unfold_words
  intro pc hpc
  rcases List.mem_cons.mp hpc with rfl | hpc
  · exact fun x => piece_q _ _ _ _ _ _ _ _ _ 7 896 (by decide) rfl inb_S256x1024_S256x128_0_896 x
  rcases List.mem_cons.mp hpc with rfl | hpc
  · exact fun x => piece_q _ _ _ _ _ _ _ _ _ 6 768 (by decide) rfl inb_S256x1024_S256x128_0_768 x
  rcases List.mem_cons.mp hpc with rfl | hpc
  · exact fun x => piece_q _ _ _ _ _ _ _ _ _ 5 640 (by decide) rfl inb_S256x1024_S256x128_0_640 x
  rcases List.mem_cons.mp hpc with rfl | hpc
  · exact fun x => piece_q _ _ _ _ _ _ _ _ _ 4 512 (by decide) rfl inb_S256x1024_S256x128_0_512 x
  rcases List.mem_cons.mp hpc with rfl | hpc
  · exact fun x => piece_q _ _ _ _ _ _ _ _ _ 3 384 (by decide) rfl inb_S256x1024_S256x128_0_384 x
  rcases List.mem_cons.mp hpc with rfl | hpc
  · exact fun x => piece_q _ _ _ _ _ _ _ _ _ 2 256 (by decide) rfl inb_S256x1024_S256x128_0_256 x
  rcases List.mem_cons.mp hpc with rfl | hpc
  · exact fun x => piece_q _ _ _ _ _ _ _ _ _ 1 128 (by decide) rfl inb_S256x1024_S256x128_0_128 x
  rcases List.mem_cons.mp hpc with rfl | hpc
  · exact fun x => piece_q _ _ _ _ _ _ _ _ _ 0 0 (by decide) rfl inb_S256x1024_S256x128_0_0 x
  nomatch hpc

set_option maxHeartbeats 4000000 in
/-- What a grid point stores of the values. -/
theorem out_v (c : Dev nD) (t : Fin cfg0.N) (y : S1x144x256.Idx) :
    ((outsAt0 (F := Ideal) m c t).2.2.1 y : EReal) = blockV (iblk m c 3 t) y := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ _)]
  refine View.canon_apply_of_pieces (e := .bf16) (Val := Elt Ideal) (blockV (iblk m c 3 t)) _ ?_ y (cover0_A_11 c _ _ _ _ _ _ _ _ _ _ _ _ _ _ _ _ _ _ _ _ _ _ _ _ _ _ _ _ _ _ _ _ _ _ _ _ _ _ _ _ y)
  unfold kernelRun0_A
  dsimp only
  sl_unfold_words
  intro pc hpc
  rcases List.mem_cons.mp hpc with rfl | hpc
  · exact fun x => piece_one _ x
  rcases List.mem_cons.mp hpc with rfl | hpc
  · exact fun x => piece_val _ _ _ x
  nomatch hpc

set_option maxHeartbeats 4000000 in
/-- What a grid point stores of the indexer's queries. -/
theorem out_i (c : Dev nD) (t : Fin cfg0.N) (y : S16x256x64.Idx) :
    ((outsAt0 (F := Ideal) m c t).2.2.2.1 y : EReal) = blockI (X0_1 m c t) (iblk m c 7 t) (iblk m c 8 t) y := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ _)]
  refine View.canon_apply_of_pieces (e := .bf16) (Val := Elt Ideal) (blockI (X0_1 m c t) (iblk m c 7 t) (iblk m c 8 t)) _ ?_ y (cover0_A_12 c _ _ _ _ _ _ _ _ _ _ _ _ _ _ _ _ _ _ _ _ _ _ _ _ _ _ _ _ _ _ _ _ _ _ _ _ _ _ _ _ y)
  unfold kernelRun0_A
  dsimp only
  sl_unfold_words
  intro pc hpc
  rcases List.mem_cons.mp hpc with rfl | hpc
  · exact fun x => piece_i1 _ _ _ _ _ _ _ _ _ 7 15 896 (by decide) rfl rfl inb_S16x256x64_S1x256x64_15_0_0 inb_S256x1024_S256x128_0_896 x
  rcases List.mem_cons.mp hpc with rfl | hpc
  · exact fun x => piece_i0 _ _ _ _ _ _ _ _ _ 7 14 896 (by decide) rfl rfl inb_S16x256x64_S1x256x64_14_0_0 inb_S256x1024_S256x128_0_896 x
  rcases List.mem_cons.mp hpc with rfl | hpc
  · exact fun x => piece_i1 _ _ _ _ _ _ _ _ _ 6 13 768 (by decide) rfl rfl inb_S16x256x64_S1x256x64_13_0_0 inb_S256x1024_S256x128_0_768 x
  rcases List.mem_cons.mp hpc with rfl | hpc
  · exact fun x => piece_i0 _ _ _ _ _ _ _ _ _ 6 12 768 (by decide) rfl rfl inb_S16x256x64_S1x256x64_12_0_0 inb_S256x1024_S256x128_0_768 x
  rcases List.mem_cons.mp hpc with rfl | hpc
  · exact fun x => piece_i1 _ _ _ _ _ _ _ _ _ 5 11 640 (by decide) rfl rfl inb_S16x256x64_S1x256x64_11_0_0 inb_S256x1024_S256x128_0_640 x
  rcases List.mem_cons.mp hpc with rfl | hpc
  · exact fun x => piece_i0 _ _ _ _ _ _ _ _ _ 5 10 640 (by decide) rfl rfl inb_S16x256x64_S1x256x64_10_0_0 inb_S256x1024_S256x128_0_640 x
  rcases List.mem_cons.mp hpc with rfl | hpc
  · exact fun x => piece_i1 _ _ _ _ _ _ _ _ _ 4 9 512 (by decide) rfl rfl inb_S16x256x64_S1x256x64_9_0_0 inb_S256x1024_S256x128_0_512 x
  rcases List.mem_cons.mp hpc with rfl | hpc
  · exact fun x => piece_i0 _ _ _ _ _ _ _ _ _ 4 8 512 (by decide) rfl rfl inb_S16x256x64_S1x256x64_8_0_0 inb_S256x1024_S256x128_0_512 x
  rcases List.mem_cons.mp hpc with rfl | hpc
  · exact fun x => piece_i1 _ _ _ _ _ _ _ _ _ 3 7 384 (by decide) rfl rfl inb_S16x256x64_S1x256x64_7_0_0 inb_S256x1024_S256x128_0_384 x
  rcases List.mem_cons.mp hpc with rfl | hpc
  · exact fun x => piece_i0 _ _ _ _ _ _ _ _ _ 3 6 384 (by decide) rfl rfl inb_S16x256x64_S1x256x64_6_0_0 inb_S256x1024_S256x128_0_384 x
  rcases List.mem_cons.mp hpc with rfl | hpc
  · exact fun x => piece_i1 _ _ _ _ _ _ _ _ _ 2 5 256 (by decide) rfl rfl inb_S16x256x64_S1x256x64_5_0_0 inb_S256x1024_S256x128_0_256 x
  rcases List.mem_cons.mp hpc with rfl | hpc
  · exact fun x => piece_i0 _ _ _ _ _ _ _ _ _ 2 4 256 (by decide) rfl rfl inb_S16x256x64_S1x256x64_4_0_0 inb_S256x1024_S256x128_0_256 x
  rcases List.mem_cons.mp hpc with rfl | hpc
  · exact fun x => piece_i1 _ _ _ _ _ _ _ _ _ 1 3 128 (by decide) rfl rfl inb_S16x256x64_S1x256x64_3_0_0 inb_S256x1024_S256x128_0_128 x
  rcases List.mem_cons.mp hpc with rfl | hpc
  · exact fun x => piece_i0 _ _ _ _ _ _ _ _ _ 1 2 128 (by decide) rfl rfl inb_S16x256x64_S1x256x64_2_0_0 inb_S256x1024_S256x128_0_128 x
  rcases List.mem_cons.mp hpc with rfl | hpc
  · exact fun x => piece_i1 _ _ _ _ _ _ _ _ _ 0 1 0 (by decide) rfl rfl inb_S16x256x64_S1x256x64_1_0_0 inb_S256x1024_S256x128_0_0 x
  rcases List.mem_cons.mp hpc with rfl | hpc
  · exact fun x => piece_i0 _ _ _ _ _ _ _ _ _ 0 0 0 (by decide) rfl rfl inb_S16x256x64_S1x256x64_0_0_0 inb_S256x1024_S256x128_0_0 x
  nomatch hpc

/-- What a grid point stores of the key. -/
theorem out_k (c : Dev nD) (t : Fin cfg0.N) (q : Fin 256) (n : Fin 128) : ((outsAt0 (F := Ideal) m c t).2.1 (ix2 q n) : EReal)
    = k0_pay3 (F := Ideal) (iblk m c 5 t) (iblk m c 6 t) (iblk m c 2 t) (ix2 q n) := by
  unfold outsAt0
  frame_out
  rfl

/-- What a grid point stores of the indexer's key. -/
theorem out_j (c : Dev nD) (t : Fin cfg0.N) (q : Fin 256) (n : Fin 64) : ((outsAt0 (F := Ideal) m c t).2.2.2.2.1 (ix2 q n) : EReal)
    = k0_pay43 (F := Ideal) (iblk m c 7 t) (iblk m c 8 t) k0_pay2 (iblk m c 4 t) (ix2 q n) := by
  unfold outsAt0
  frame_out

/-- What a grid point stores of the indexer's weights. -/
theorem out_w (c : Dev nD) (t : Fin cfg0.N) (h : Fin 16) (q : Fin 256) : ((outsAt0 (F := Ideal) m c t).2.2.2.2.2 (ix2 h q) : EReal)
    = k0_pay1 (F := Ideal) (k0_pay44 (F := Ideal) (iblk m c 4 t)) (ix2 h q) := by
  unfold outsAt0
  frame_out

/-- A row's block. -/
theorem row_of (t : Fin cfg0.N) (q : Fin 256) : 256 * (grid0.coords t 0).val + q.val < 16384 := by
  have : (grid0.coords t 0).val < 64 := (grid0.coords t 0).isLt
  omega

/-- A row's position, in the block of the tables. -/
theorem pos_of (t : Fin cfg0.N) (q : Fin 256) (r : Fin 16384) (h : r.val = 256 * (grid0.coords t 0).val + q.val) :
    (pos r).val = 256 * ((grid0.coords t 0).val % 32) + q.val := by
  show r.val % 8192 = _
  have := q.isLt
  omega

/-- What a grid point stores of the queries is the array's block. -/
theorem point_q (c : Dev nD) (t : Fin cfg0.N) (y : S256x1024.Idx) (q : S16384x1024.Idx) (h0 : (q 0).val = 256 * (grid0.coords t 0).val + (y 0).val)
    (h1 : (q 1).val = (y 1).val) :
    ((outsAt0 (F := Ideal) m c t).1 y : EReal)
      = turnQ (m ((c : Thread nD τ).loc main_arg0)) (m ((c : Thread nD τ).loc main_arg1)) (m ((c : Thread nD τ).loc main_arg2)) q := by
  refine (out_q m c t y).trans ?_
  unfold blockQ turnQ
  have g : (q 1).val % 128 = (y 1).val % 128 := congrArg (· % 128) h1
  refine congrArg₂ (· + ·) (congrArg₂ (· * ·) (x0_at m c t _ _ _ h0 _ h1) (x5_at m c t _ _ _ (pos_of t _ _ h0) _ g))
    (congrArg₂ (· * ·) (x0_at m c t _ _ _ h0 _ ?_) (x6_at m c t _ _ _ (pos_of t _ _ h0) _ g))
  exact congrArg (fun k => k / 128 * 128 + p64 (k % 128)) h1

/-- What a grid point stores of the key is the array's block. -/
theorem point_k (c : Dev nD) (t : Fin cfg0.N) (y : S256x128.Idx) (q : S16384x128.Idx) (h0 : (q 0).val = 256 * (grid0.coords t 0).val + (y 0).val)
    (h1 : (q 1).val = (y 1).val) :
    ((outsAt0 (F := Ideal) m c t).2.1 y : EReal)
      = turnK (m ((c : Thread nD τ).loc main_arg0)) (m ((c : Thread nD τ).loc main_arg1)) (m ((c : Thread nD τ).loc main_arg2)) q := by
  obtain ⟨a, n, rfl⟩ : ∃ (a : Fin 256) (n : Fin 128), y = ix2 a n := ⟨y 0, y 1, funext fun b => by fin_cases b <;> rfl⟩
  refine (out_k m c t a n).trans ((turn_at _ _ _ a n).trans ?_)
  unfold turnK
  exact congrArg₂ (· + ·) (congrArg₂ (· * ·) (x2_at m c t _ _ _ h0 _ (congrArg (15360 + ·) h1)) (x5_at m c t _ _ _ (pos_of t _ _ h0) _ h1))
    (congrArg₂ (· * ·) (x2_at m c t _ _ _ h0 _ (congrArg (fun k => 15360 + p64 k) h1)) (x6_at m c t _ _ _ (pos_of t _ _ h0) _ h1))

/-- What a grid point stores of the values is the array's block. -/
theorem point_v (c : Dev nD) (t : Fin cfg0.N) (y : S1x144x256.Idx) (q : S64x144x256.Idx) (h0 : (q 0).val = (grid0.coords t 0).val)
    (h1 : (q 1).val = (y 1).val) (h2 : (q 2).val = (y 2).val) :
    ((outsAt0 (F := Ideal) m c t).2.2.1 y : EReal) = valT (m ((c : Thread nD τ).loc main_arg0)) q := by
  refine (out_v m c t y).trans ?_
  unfold blockV valT
  by_cases h : (y 1).val < 128
  · rw [dif_pos h, dif_pos (h1.trans_lt h)]
    refine x3_at m c t _ _ _ ?_ _ (congrArg (15488 + ·) h1)
    show (q 0).val * 256 + (q 2).val = 256 * (grid0.coords t 0).val + (y 2).val
    rw [h0, h2, Nat.mul_comm]
  · rw [dif_neg h, dif_neg (fun g => h (h1.symm.trans_lt g))]

/-- What a grid point stores of the indexer's queries is the array's block. -/
theorem point_i (c : Dev nD) (t : Fin cfg0.N) (y : S16x256x64.Idx) (q : S16x16384x64.Idx) (h0 : (q 0).val = (y 0).val)
    (h1 : (q 1).val = 256 * (grid0.coords t 0).val + (y 1).val) (h2 : (q 2).val = (y 2).val) :
    ((outsAt0 (F := Ideal) m c t).2.2.2.1 y : EReal)
      = turnI (m ((c : Thread nD τ).loc main_arg0)) (m ((c : Thread nD τ).loc main_arg3)) (m ((c : Thread nD τ).loc main_arg4)) q := by
  refine (out_i m c t y).trans ?_
  unfold blockI turnI
  refine congrArg₂ (· + ·) (congrArg₂ (· * ·) (x1_at m c t _ _ _ h1 _ ?_) (x7_at m c t _ _ _ (pos_of t _ _ h1) _ ?_))
    (congrArg₂ (· * ·) (x1_at m c t _ _ _ h1 _ ?_) (x8_at m c t _ _ _ (pos_of t _ _ h1) _ ?_))
  · exact congrArg₂ (fun a b => 1024 + (a / 2 * 128 + a % 2 * 64 + b)) h0 h2
  · exact congrArg₂ (fun a b => a % 2 * 64 + b) h0 h2
  · exact congrArg₂ (fun a b => 1024 + (a / 2 * 128 + a % 2 * 64 + p32 b)) h0 h2
  · exact congrArg₂ (fun a b => a % 2 * 64 + b) h0 h2

/-- What a grid point stores of the indexer's key is the array's block. -/
theorem point_j (c : Dev nD) (t : Fin cfg0.N) (y : S256x64.Idx) (q : S16384x64.Idx) (h0 : (q 0).val = 256 * (grid0.coords t 0).val + (y 0).val)
    (h1 : (q 1).val = (y 1).val) :
    ((outsAt0 (F := Ideal) m c t).2.2.2.2.1 y : EReal)
      = turnJ (m ((c : Thread nD τ).loc main_arg0)) (m ((c : Thread nD τ).loc main_arg3)) (m ((c : Thread nD τ).loc main_arg4)) q := by
  obtain ⟨a, n, rfl⟩ : ∃ (a : Fin 256) (n : Fin 64), y = ix2 a n := ⟨y 0, y 1, funext fun b => by fin_cases b <;> rfl⟩
  refine (out_j m c t a n).trans ((one_turn_at _ _ _ a n).trans ?_)
  unfold turnJ
  exact congrArg₂ (· + ·) (congrArg₂ (· * ·) (x4_at m c t _ _ _ h0 _ (congrArg (15616 + ·) h1)) (x7_at m c t _ _ _ (pos_of t _ _ h0) _ h1))
    (congrArg₂ (· * ·) (x4_at m c t _ _ _ h0 _ (congrArg (fun k => 15616 + p32 k) h1)) (x8_at m c t _ _ _ (pos_of t _ _ h0) _ h1))

/-- What a grid point stores of the indexer's weights is the array's block. -/
theorem point_w (c : Dev nD) (t : Fin cfg0.N) (y : S16x256.Idx) (q : S16x16384.Idx) (h0 : (q 0).val = (y 0).val)
    (h1 : (q 1).val = 256 * (grid0.coords t 0).val + (y 1).val) :
    ((outsAt0 (F := Ideal) m c t).2.2.2.2.2 y : EReal) = scaleW (m ((c : Thread nD τ).loc main_arg0)) q := by
  obtain ⟨a, n, rfl⟩ : ∃ (a : Fin 16) (n : Fin 256), y = ix2 a n := ⟨y 0, y 1, funext fun b => by fin_cases b <;> rfl⟩
  refine (out_w m c t a n).trans ((scale_at _ a n).trans ?_)
  unfold scaleW
  refine congrArg (· * Ideal.ofBits FTy.f32 0x3D000000#32) (x4_at m c t _ _ _ h1 _ ?_)
  show 15680 + (q 0).val = 15616 + (64 + a.val)
  have : (q 0).val = a.val := h0
  omega

/-- The queries' result of the kernel. -/
theorem final9 (c : Dev nD) : (dats m 0 c).arrAt 9 cfg0.N = turnQ (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  refine point_q m c t y _ ?_ ?_ <;> blk_simp [idx t]
  exact congrArg (· + _) (Nat.mul_comm _ _)

/-- The key's result of the kernel. -/
theorem final10 (c : Dev nD) : (dats m 0 c).arrAt 10 cfg0.N = turnK (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  refine point_k m c t y _ ?_ ?_ <;> blk_simp [idx t]
  exact congrArg (· + _) (Nat.mul_comm _ _)

/-- The values' result of the kernel. -/
theorem final11 (c : Dev nD) : (dats m 0 c).arrAt 11 cfg0.N = valT (m ((c : Thread nD τ).loc main_arg0)) := by
  refine (dats m 0 c).arrAt_eq_of_covers 11 _ (by decide +kernel) fun t _ y => ?_
  have hy : (y 0).val < 1 := (y 0).isLt
  blk_simp
  rw [after0_11]
  refine point_v m c t y _ ?_ ?_ ?_ <;> blk_simp [idx t]

/-- The indexer's queries' result of the kernel. -/
theorem final12 (c : Dev nD) : (dats m 0 c).arrAt 12 cfg0.N = turnI (m ((c : Thread nD τ).loc main_arg0)) (m ((c : Thread nD τ).loc main_arg3)) (m ((c : Thread nD τ).loc main_arg4)) := by
  refine (dats m 0 c).arrAt_eq_of_covers 12 _ (by decide +kernel) fun t _ y => ?_
  blk_simp
  rw [after0_12]
  refine point_i m c t y _ ?_ ?_ ?_ <;> blk_simp [idx t]
  exact congrArg (· + _) (Nat.mul_comm _ _)

/-- The indexer's key's result of the kernel. -/
theorem final13 (c : Dev nD) : (dats m 0 c).arrAt 13 cfg0.N = turnJ (m ((c : Thread nD τ).loc main_arg0)) (m ((c : Thread nD τ).loc main_arg3)) (m ((c : Thread nD τ).loc main_arg4)) := by
  refine (dats m 0 c).arrAt_eq_of_covers 13 _ (by decide +kernel) fun t _ y => ?_
  blk_simp
  rw [after0_13]
  refine point_j m c t y _ ?_ ?_ <;> blk_simp [idx t]
  exact congrArg (· + _) (Nat.mul_comm _ _)

/-- The indexer's weights' result of the kernel. -/
theorem final14 (c : Dev nD) : (dats m 0 c).arrAt 14 cfg0.N = scaleW (m ((c : Thread nD τ).loc main_arg0)) := by
  refine (dats m 0 c).arrAt_eq_of_covers 14 _ (by decide +kernel) fun t _ y => ?_
  blk_simp
  rw [after0_14]
  refine point_w m c t y _ ?_ ?_ <;> blk_simp [idx t]
  exact congrArg (· + _) (Nat.mul_comm _ _)

end Kernel

section Reference
open Cert.ReferenceRopeIdeal Cert.ReferenceRopeIdeal.Gen

/-- The reference's result of the queries. -/
theorem ref_qa (u : FVec Ideal S16384x15872 .f32) (c s : FVec Ideal S8192x128 .f32) :
    truncf .bf16 (shapeCast _ (addf (mulf (shapeCast _ (shapeCast _ (extractStridedSlice S16384x1024 ![0, 0] u slices_S16384x15872_S16384x1024_0_0) shapeCasts_S16384x1024_S2x8192x1024) shapeCasts_S2x8192x1024_S2x8192x8x128) (broadcastInDim S2x8192x8x128 ![0, 1, 2, 3] bcast_S1x8192x1x128_S2x8192x8x128_0_1_2_3 (broadcastInDim S1x8192x1x128 ![1, 2, 3] bcast_S8192x1x128_S1x8192x1x128_1_2_3 (broadcastInDim S8192x1x128 ![0, 2] bcast_S8192x128_S8192x1x128_0_2 c)))) (mulf (concatenate S2x8192x8x128 3 [⟨S2x8192x8x64, (extractStridedSlice S2x8192x8x64 ![0, 0, 0, 64] (shapeCast _ (shapeCast _ (extractStridedSlice S16384x1024 ![0, 0] u slices_S16384x15872_S16384x1024_0_0) shapeCasts_S16384x1024_S2x8192x1024) shapeCasts_S2x8192x1024_S2x8192x8x128) slices_S2x8192x8x128_S2x8192x8x64_0_0_0_64)⟩, ⟨S2x8192x8x64, (extractStridedSlice S2x8192x8x64 ![0, 0, 0, 0] (shapeCast _ (shapeCast _ (extractStridedSlice S16384x1024 ![0, 0] u slices_S16384x15872_S16384x1024_0_0) shapeCasts_S16384x1024_S2x8192x1024) shapeCasts_S2x8192x1024_S2x8192x8x128) slices_S2x8192x8x128_S2x8192x8x64_0_0_0_0)⟩] concatenates_S2x8192x8x64_S2x8192x8x64_S2x8192x8x128_d3) (broadcastInDim S2x8192x8x128 ![0, 1, 2, 3] bcast_S1x8192x1x128_S2x8192x8x128_0_1_2_3 (broadcastInDim S1x8192x1x128 ![1, 2, 3] bcast_S8192x1x128_S1x8192x1x128_1_2_3 (broadcastInDim S8192x1x128 ![0, 2] bcast_S8192x128_S8192x1x128_0_2 s))))) shapeCasts_S2x8192x8x128_S16384x1024) bitsLt_bf16_f32
      = turnQ u c s := by
  funext i
  pointwise []
  refine congrArg₂ (· + ·) rfl (congrArg (· * _) ?_)
  split
  · rename_i h
    exact congrArg u (congrArg (ix2 _) (Fin.ext (congrArg ((i 1).val / 128 * 128 + ·) (if_pos h).symm)))
  · rename_i h
    exact congrArg u (congrArg (ix2 _) (Fin.ext (congrArg ((i 1).val / 128 * 128 + ·) (if_neg h).symm)))

/-- The reference's result of the key. -/
theorem ref_ka (u : FVec Ideal S16384x15872 .f32) (c s : FVec Ideal S8192x128 .f32) :
    truncf .bf16 (shapeCast _ (addf (mulf (shapeCast _ (extractStridedSlice S16384x128 ![0, 15360] u slices_S16384x15872_S16384x128_0_15360) shapeCasts_S16384x128_S2x8192x128) (broadcastInDim S2x8192x128 ![0, 1, 2] bcast_S1x8192x128_S2x8192x128_0_1_2 (broadcastInDim S1x8192x128 ![1, 2] bcast_S8192x128_S1x8192x128_1_2 c))) (mulf (concatenate S2x8192x128 2 [⟨S2x8192x64, (extractStridedSlice S2x8192x64 ![0, 0, 64] (shapeCast _ (extractStridedSlice S16384x128 ![0, 15360] u slices_S16384x15872_S16384x128_0_15360) shapeCasts_S16384x128_S2x8192x128) slices_S2x8192x128_S2x8192x64_0_0_64)⟩, ⟨S2x8192x64, (extractStridedSlice S2x8192x64 ![0, 0, 0] (shapeCast _ (extractStridedSlice S16384x128 ![0, 15360] u slices_S16384x15872_S16384x128_0_15360) shapeCasts_S16384x128_S2x8192x128) slices_S2x8192x128_S2x8192x64_0_0_0)⟩] concatenates_S2x8192x64_S2x8192x64_S2x8192x128_d2) (broadcastInDim S2x8192x128 ![0, 1, 2] bcast_S1x8192x128_S2x8192x128_0_1_2 (broadcastInDim S1x8192x128 ![1, 2] bcast_S8192x128_S1x8192x128_1_2 s)))) shapeCasts_S2x8192x128_S16384x128) bitsLt_bf16_f32
      = turnK u c s := by
  funext i
  pointwise []
  refine congrArg₂ (· + ·) rfl (congrArg (· * _) ?_)
  split
  · rename_i h
    exact congrArg u (congrArg (ix2 _) (Fin.ext (congrArg (15360 + ·) (if_pos h).symm)))
  · rename_i h
    exact congrArg u (congrArg (ix2 _) (Fin.ext (congrArg (15360 + ·) (if_neg h).symm)))

/-- The reference's result of the transposed values. -/
theorem ref_va (u : FVec Ideal S16384x15872 .f32) :
    concatenate S64x144x256 1 [⟨S64x128x256, (truncf .bf16 (transpose S64x128x256 [0, 2, 1] (shapeCast _ (extractStridedSlice S16384x128 ![0, 15488] u slices_S16384x15872_S16384x128_0_15488) shapeCasts_S16384x128_S64x256x128) transposes_S64x256x128_S64x128x256_0_2_1) bitsLt_bf16_f32)⟩, ⟨S64x16x256, (broadcastInDim S64x16x256 ![] bcast_S_S64x16x256 (constant S_ .bf16 0x3F80#16))⟩] concatenates_S64x128x256_S64x16x256_S64x144x256_d1
      = valT u := by
  funext i
  pointwise [valT]

/-- The reference's result of the indexer's queries. -/
theorem ref_iq (u : FVec Ideal S16384x15872 .f32) (c s : FVec Ideal S8192x128 .f32) :
    truncf .bf16 (transpose S16x16384x64 [1, 0, 2] (shapeCast _ (addf (mulf (shapeCast _ (shapeCast _ (extractStridedSlice S16384x1024 ![0, 1024] u slices_S16384x15872_S16384x1024_0_1024) shapeCasts_S16384x1024_S2x8192x1024) shapeCasts_S2x8192x1024_S2x8192x8x2x64) (broadcastInDim S2x8192x8x2x64 ![0, 1, 2, 3, 4] bcast_S1x8192x1x2x64_S2x8192x8x2x64_0_1_2_3_4 (broadcastInDim S1x8192x1x2x64 ![1, 2, 3, 4] bcast_S8192x1x2x64_S1x8192x1x2x64_1_2_3_4 (shapeCast _ c shapeCasts_S8192x128_S8192x1x2x64)))) (mulf (concatenate S2x8192x8x2x64 4 [⟨S2x8192x8x2x32, (extractStridedSlice S2x8192x8x2x32 ![0, 0, 0, 0, 32] (shapeCast _ (shapeCast _ (extractStridedSlice S16384x1024 ![0, 1024] u slices_S16384x15872_S16384x1024_0_1024) shapeCasts_S16384x1024_S2x8192x1024) shapeCasts_S2x8192x1024_S2x8192x8x2x64) slices_S2x8192x8x2x64_S2x8192x8x2x32_0_0_0_0_32)⟩, ⟨S2x8192x8x2x32, (extractStridedSlice S2x8192x8x2x32 ![0, 0, 0, 0, 0] (shapeCast _ (shapeCast _ (extractStridedSlice S16384x1024 ![0, 1024] u slices_S16384x15872_S16384x1024_0_1024) shapeCasts_S16384x1024_S2x8192x1024) shapeCasts_S2x8192x1024_S2x8192x8x2x64) slices_S2x8192x8x2x64_S2x8192x8x2x32_0_0_0_0_0)⟩] concatenates_S2x8192x8x2x32_S2x8192x8x2x32_S2x8192x8x2x64_d4) (broadcastInDim S2x8192x8x2x64 ![0, 1, 2, 3, 4] bcast_S1x8192x1x2x64_S2x8192x8x2x64_0_1_2_3_4 (broadcastInDim S1x8192x1x2x64 ![1, 2, 3, 4] bcast_S8192x1x2x64_S1x8192x1x2x64_1_2_3_4 (shapeCast _ s shapeCasts_S8192x128_S8192x1x2x64))))) shapeCasts_S2x8192x8x2x64_S16384x16x64) transposes_S16384x16x64_S16x16384x64_1_0_2) bitsLt_bf16_f32
      = turnI u c s := by
  funext i
  pointwise []
  refine congrArg₂ (· + ·) rfl (congrArg (· * _) ?_)
  split
  · rename_i h
    exact congrArg u (congrArg (ix2 _) (Fin.ext (congrArg (fun k => 1024 + ((i 0).val / 2 * 128 + (i 0).val % 2 * 64 + k)) (if_pos h).symm)))
  · rename_i h
    exact congrArg u (congrArg (ix2 _) (Fin.ext (congrArg (fun k => 1024 + ((i 0).val / 2 * 128 + (i 0).val % 2 * 64 + k)) (if_neg h).symm)))

/-- The reference's result of the indexer's key. -/
theorem ref_ik (u : FVec Ideal S16384x15872 .f32) (c s : FVec Ideal S8192x128 .f32) :
    truncf .bf16 (shapeCast _ (addf (mulf (shapeCast _ (extractStridedSlice S16384x64 ![0, 15616] u slices_S16384x15872_S16384x64_0_15616) shapeCasts_S16384x64_S2x8192x64) (broadcastInDim S2x8192x64 ![0, 1, 2] bcast_S1x8192x64_S2x8192x64_0_1_2 (broadcastInDim S1x8192x64 ![1, 2] bcast_S8192x64_S1x8192x64_1_2 (extractStridedSlice S8192x64 ![0, 0] c slices_S8192x128_S8192x64_0_0)))) (mulf (concatenate S2x8192x64 2 [⟨S2x8192x32, (extractStridedSlice S2x8192x32 ![0, 0, 32] (shapeCast _ (extractStridedSlice S16384x64 ![0, 15616] u slices_S16384x15872_S16384x64_0_15616) shapeCasts_S16384x64_S2x8192x64) slices_S2x8192x64_S2x8192x32_0_0_32)⟩, ⟨S2x8192x32, (extractStridedSlice S2x8192x32 ![0, 0, 0] (shapeCast _ (extractStridedSlice S16384x64 ![0, 15616] u slices_S16384x15872_S16384x64_0_15616) shapeCasts_S16384x64_S2x8192x64) slices_S2x8192x64_S2x8192x32_0_0_0)⟩] concatenates_S2x8192x32_S2x8192x32_S2x8192x64_d2) (broadcastInDim S2x8192x64 ![0, 1, 2] bcast_S1x8192x64_S2x8192x64_0_1_2 (broadcastInDim S1x8192x64 ![1, 2] bcast_S8192x64_S1x8192x64_1_2 (extractStridedSlice S8192x64 ![0, 0] s slices_S8192x128_S8192x64_0_0))))) shapeCasts_S2x8192x64_S16384x64) bitsLt_bf16_f32
      = turnJ u c s := by
  funext i
  pointwise []
  refine congrArg₂ (· + ·) rfl (congrArg (· * _) ?_)
  split
  · rename_i h
    exact congrArg u (congrArg (ix2 _) (Fin.ext (congrArg (15616 + ·) (if_pos h).symm)))
  · rename_i h
    exact congrArg u (congrArg (ix2 _) (Fin.ext (congrArg (15616 + ·) (if_neg h).symm)))

/-- The reference's result of the indexer's weights. -/
theorem ref_iw (u : FVec Ideal S16384x15872 .f32) :
    mulf (transpose S16x16384 [1, 0] (extractStridedSlice S16384x16 ![0, 15680] u slices_S16384x15872_S16384x16_0_15680) transposes_S16384x16_S16x16384_1_0) (broadcastInDim S16x16384 ![] bcast_S_S16x16384 (constant S_ .f32 0x3D000000#32))
      = scaleW u := by
  funext i
  pointwise [scaleW]

end Reference

open Cert.KernelRopeIdeal Cert.KernelRopeIdeal.Gen Cert.KernelRopeIdeal.Value in
/-- The rotary turns' call and its reference end with the same results. -/
theorem algebraic : Cert.algebraic_KernelRopeIdeal_ReferenceRopeIdeal := by
  intro m ρ m' ρ' _ hag
  refine ⟨fun c => turnQ (m ((c : Thread nD τ).loc main_arg0)) (m ((c : Thread nD τ).loc main_arg1)) (m ((c : Thread nD τ).loc main_arg2)),
    fun c => turnK (m ((c : Thread nD τ).loc main_arg0)) (m ((c : Thread nD τ).loc main_arg1)) (m ((c : Thread nD τ).loc main_arg2)),
    fun c => valT (m ((c : Thread nD τ).loc main_arg0)),
    fun c => turnI (m ((c : Thread nD τ).loc main_arg0)) (m ((c : Thread nD τ).loc main_arg3)) (m ((c : Thread nD τ).loc main_arg4)),
    fun c => turnJ (m ((c : Thread nD τ).loc main_arg0)) (m ((c : Thread nD τ).loc main_arg3)) (m ((c : Thread nD τ).loc main_arg4)),
    fun c => scaleW (m ((c : Thread nD τ).loc main_arg0)), ?_, ?_⟩
  · exact (θ_run Cert.KernelRopeIdeal.defs _ _).mono
      (fun _ h c => ⟨(h c).1.trans (final9 m c), (h c).2.1.trans (final10 m c), (h c).2.2.1.trans (final11 m c), (h c).2.2.2.1.trans (final12 m c), (h c).2.2.2.2.1.trans (final13 m c), (h c).2.2.2.2.2.1.trans (final14 m c), (h c).2.2.2.2.2.2⟩)
      (Cert.KernelRopeIdeal.Value.run_blocks (F := Ideal) m ρ)
  · refine (θ_run Cert.ReferenceRopeIdeal.defs _ _).mono
      (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
      (Cert.ReferenceRopeIdeal.Value.run (F := Ideal) m' ρ')
    · rw [(hag c).1, (hag c).2.1, (hag c).2.2.1]
      exact ref_qa _ _ _
    · rw [(hag c).1, (hag c).2.1, (hag c).2.2.1]
      exact ref_ka _ _ _
    · rw [(hag c).1]
      exact ref_va _
    · rw [(hag c).1, (hag c).2.2.2.1, (hag c).2.2.2.2]
      exact ref_iq _ _ _
    · rw [(hag c).1, (hag c).2.2.2.1, (hag c).2.2.2.2]
      exact ref_ik _ _ _
    · rw [(hag c).1]
      exact ref_iw _

end Cert.Proof.Rope

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelMergeIdeal.Value
public import proofs.«01_k».proof.Proof.Gen.ReferenceMergeIdeal
public import proofs.«01_k».proof.Proof.Gen.ReferenceMergeIdeal.Run
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.KernelNormIdeal.Value
public import proofs.«01_k».proof.Proof.Gen.ReferenceNormIdeal
public import proofs.«01_k».proof.Proof.Gen.ReferenceNormIdeal.Run
public import proofs.«01_k».proof.Proof.Gen.KernelLast
public import proofs.«01_k».proof.Proof.Gen.KernelLast.Skeleton
public import proofs.«01_k».proof.Proof.Gen.KernelLast.Launch
public import proofs.«01_k».proof.Proof.Gen.KernelLast.Points
public import proofs.«01_k».proof.Proof.Gen.KernelLast.Frame
public import proofs.«01_k».proof.Proof.Gen.KernelLastIdeal
public import proofs.«01_k».proof.Proof.Gen.KernelLastIdeal.Skeleton
public import proofs.«01_k».proof.Proof.Gen.KernelLastIdeal.Launch
public import proofs.«01_k».proof.Proof.Gen.KernelLastIdeal.Points
public import proofs.«01_k».proof.Proof.Gen.KernelLastIdeal.Frame
public import proofs.«01_k».proof.Proof.Gen.KernelLastIdeal.Value
public import proofs.«01_k».proof.Proof.Gen.ReferenceLastIdeal
public import proofs.«01_k».proof.Proof.Gen.ReferenceLastIdeal.Run
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.KernelConvIdeal.Value
public import proofs.«01_k».proof.Proof.Gen.ReferenceConvIdeal
public import proofs.«01_k».proof.Proof.Gen.ReferenceConvIdeal.Run
public import proofs.«01_k».proof.Proof.Gen.KernelLower
public import proofs.«01_k».proof.Proof.Gen.KernelLower.Skeleton
public import proofs.«01_k».proof.Proof.Gen.KernelLower.Launch
public import proofs.«01_k».proof.Proof.Gen.KernelLower.Points
public import proofs.«01_k».proof.Proof.Gen.KernelLower.Frame
public import proofs.«01_k».proof.Proof.Gen.KernelLowerIdeal
public import proofs.«01_k».proof.Proof.Gen.KernelLowerIdeal.Skeleton
public import proofs.«01_k».proof.Proof.Gen.KernelLowerIdeal.Launch
public import proofs.«01_k».proof.Proof.Gen.KernelLowerIdeal.Points
public import proofs.«01_k».proof.Proof.Gen.KernelLowerIdeal.Frame
public import proofs.«01_k».proof.Proof.Gen.KernelLowerIdeal.Value
public import proofs.«01_k».proof.Proof.Gen.ReferenceLowerIdeal
public import proofs.«01_k».proof.Proof.Gen.ReferenceLowerIdeal.Run
public import proofs.«01_k».proof.Proof.Gen.KernelPrep
public import proofs.«01_k».proof.Proof.Gen.KernelPrep.Skeleton
public import proofs.«01_k».proof.Proof.Gen.KernelPrep.Launch
public import proofs.«01_k».proof.Proof.Gen.KernelPrep.Points
public import proofs.«01_k».proof.Proof.Gen.KernelPrep.Frame
public import proofs.«01_k».proof.Proof.Gen.KernelPrepIdeal
public import proofs.«01_k».proof.Proof.Gen.KernelPrepIdeal.Skeleton
public import proofs.«01_k».proof.Proof.Gen.KernelPrepIdeal.Launch
public import proofs.«01_k».proof.Proof.Gen.KernelPrepIdeal.Points
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.KernelRope
public import proofs.«01_k».proof.Proof.Gen.KernelRope.Skeleton
public import proofs.«01_k».proof.Proof.Gen.KernelRope.Launch
public import proofs.«01_k».proof.Proof.Gen.KernelRope.Points
public import proofs.«01_k».proof.Proof.Gen.KernelRope.Frame
public import proofs.«01_k».proof.Proof.Gen.KernelRopeIdeal
public import proofs.«01_k».proof.Proof.Gen.KernelRopeIdeal.Skeleton
public import proofs.«01_k».proof.Proof.Gen.KernelRopeIdeal.Launch
public import proofs.«01_k».proof.Proof.Gen.KernelRopeIdeal.Points
public import proofs.«01_k».proof.Proof.Gen.KernelRopeIdeal.Frame
public import proofs.«01_k».proof.Proof.Gen.KernelRopeIdeal.Value
public import proofs.«01_k».proof.Proof.Gen.ReferenceRopeIdeal
public import proofs.«01_k».proof.Proof.Gen.ReferenceRopeIdeal.Run
public import proofs.«01_k».proof.Proof.Gen.KernelCum
public import proofs.«01_k».proof.Proof.Gen.KernelCum.Skeleton
public import proofs.«01_k».proof.Proof.Gen.KernelCum.Launch
public import proofs.«01_k».proof.Proof.Gen.KernelCum.Points
public import proofs.«01_k».proof.Proof.Gen.KernelCum.Frame
public import proofs.«01_k».proof.Proof.Gen.KernelCumIdeal
public import proofs.«01_k».proof.Proof.Gen.KernelCumIdeal.Skeleton
public import proofs.«01_k».proof.Proof.Gen.KernelCumIdeal.Launch
public import proofs.«01_k».proof.Proof.Gen.KernelCumIdeal.Points
public import proofs.«01_k».proof.Proof.Gen.KernelCumIdeal.Frame
public import proofs.«01_k».proof.Proof.Gen.KernelCumIdeal.Value
public import proofs.«01_k».proof.Proof.Gen.ReferenceCumIdeal
public import proofs.«01_k».proof.Proof.Gen.ReferenceCumIdeal.Run
public import Idealize.ShloMosaic.Lib.Quiescent
public import proofs.«01_k».proof.Proof.InProj
public import proofs.«01_k».proof.Proof.OutProj
public import proofs.«01_k».proof.Proof.Merge
public import proofs.«01_k».proof.Proof.Fox
public import proofs.«01_k».proof.Proof.Norm
public import proofs.«01_k».proof.Proof.Last
public import proofs.«01_k».proof.Proof.Conv
public import proofs.«01_k».proof.Proof.Lower
public import proofs.«01_k».proof.Proof.Cum
public import proofs.«01_k».proof.Proof.Prep
public import proofs.«01_k».proof.Proof.Rope
public import Idealize.ShloMosaic.Adequacy
public import Idealize.ShloMosaic.Init

@[expose] public section

noncomputable section

namespace Cert.Proof

open Idealize.ShloMosaic Idealize.SL.Sem Cert.Kernel

/-- The whole certificate: the frames, the idealizations with the two named constants of the attention, and the
    equality of every kernel's idealized result with its reference's. -/
theorem claim : Cert.Claim := ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelMerge.Gen.facts, Cert.KernelMergeIdeal.Gen.facts, Cert.ReferenceMergeIdeal.Gen.facts, Cert.KernelNorm.Gen.facts, Cert.KernelNormIdeal.Gen.facts, Cert.ReferenceNormIdeal.Gen.facts, Cert.KernelLast.Gen.facts, Cert.KernelLastIdeal.Gen.facts, Cert.ReferenceLastIdeal.Gen.facts, Cert.KernelConv.Gen.facts, Cert.KernelConvIdeal.Gen.facts, Cert.ReferenceConvIdeal.Gen.facts, Cert.KernelLower.Gen.facts, Cert.KernelLowerIdeal.Gen.facts, Cert.ReferenceLowerIdeal.Gen.facts, Cert.KernelCum.Gen.facts, Cert.KernelCumIdeal.Gen.facts, Cert.ReferenceCumIdeal.Gen.facts, Cert.KernelPrep.Gen.facts, Cert.KernelPrepIdeal.Gen.facts, Cert.ReferencePrepIdeal.Gen.facts, Cert.KernelRope.Gen.facts, Cert.KernelRopeIdeal.Gen.facts, Cert.ReferenceRopeIdeal.Gen.facts, Fox.preSides,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ),
    fun m ρ _ => (θ_run Cert.ReferenceIdeal.defs _ _).mono
      (fun r h => ⟨fun c => (h c).2, Idealize.ShloMosaic.sem_eq_zero_of_no_sems (by decide) r.2⟩)
      (Cert.ReferenceIdeal.Value.run (F := Ideal) m ρ),
    fun m ρ _ => Cert.KernelIn.Gen.frame m ρ,
    fun m ρ _ => Cert.KernelInIdeal.Gen.frame m ρ,
    fun m ρ _ => (θ_run Cert.ReferenceInIdeal.defs _ _).mono
      (fun r h => ⟨fun c => (h c).2, Idealize.ShloMosaic.sem_eq_zero_of_no_sems (by decide) r.2⟩)
      (Cert.ReferenceInIdeal.Value.run (F := Ideal) m ρ),
    fun m ρ _ => Cert.KernelOut.Gen.frame m ρ,
    fun m ρ _ => Cert.KernelOutIdeal.Gen.frame m ρ,
    fun m ρ _ => (θ_run Cert.ReferenceOutIdeal.defs _ _).mono
      (fun r h => ⟨fun c => (h c).2, Idealize.ShloMosaic.sem_eq_zero_of_no_sems (by decide) r.2⟩)
      (Cert.ReferenceOutIdeal.Value.run (F := Ideal) m ρ),
    fun m ρ _ => Cert.KernelMerge.Gen.frame m ρ,
    fun m ρ _ => Cert.KernelMergeIdeal.Gen.frame m ρ,
    fun m ρ _ => (θ_run Cert.ReferenceMergeIdeal.defs _ _).mono
      (fun r h => ⟨fun c => (h c).2, Idealize.ShloMosaic.sem_eq_zero_of_no_sems (by decide) r.2⟩)
      (Cert.ReferenceMergeIdeal.Value.run (F := Ideal) m ρ),
    fun m ρ _ => Cert.KernelNorm.Gen.frame m ρ,
    fun m ρ _ => Cert.KernelNormIdeal.Gen.frame m ρ,
    fun m ρ _ => (θ_run Cert.ReferenceNormIdeal.defs _ _).mono
      (fun r h => ⟨fun c => (h c).2, Idealize.ShloMosaic.sem_eq_zero_of_no_sems (by decide) r.2⟩)
      (Cert.ReferenceNormIdeal.Value.run (F := Ideal) m ρ),
    fun m ρ _ => Cert.KernelLast.Gen.frame m ρ,
    fun m ρ _ => Cert.KernelLastIdeal.Gen.frame m ρ,
    fun m ρ _ => (θ_run Cert.ReferenceLastIdeal.defs _ _).mono
      (fun r h => ⟨fun c => (h c).2, Idealize.ShloMosaic.sem_eq_zero_of_no_sems (by decide) r.2⟩)
      (Cert.ReferenceLastIdeal.Value.run (F := Ideal) m ρ),
    fun m ρ _ => Cert.KernelConv.Gen.frame m ρ,
    fun m ρ _ => Cert.KernelConvIdeal.Gen.frame m ρ,
    fun m ρ _ => (θ_run Cert.ReferenceConvIdeal.defs _ _).mono
      (fun r h => ⟨fun c => (h c).2, Idealize.ShloMosaic.sem_eq_zero_of_no_sems (by decide) r.2⟩)
      (Cert.ReferenceConvIdeal.Value.run (F := Ideal) m ρ),
    fun m ρ _ => Cert.KernelLower.Gen.frame m ρ,
    fun m ρ _ => Cert.KernelLowerIdeal.Gen.frame m ρ,
    fun m ρ _ => (θ_run Cert.ReferenceLowerIdeal.defs _ _).mono
      (fun r h => ⟨fun c => (h c).2, Idealize.ShloMosaic.sem_eq_zero_of_no_sems (by decide) r.2⟩)
      (Cert.ReferenceLowerIdeal.Value.run (F := Ideal) m ρ),
    fun m ρ _ => Cert.KernelCum.Gen.frame m ρ,
    fun m ρ _ => Cert.KernelCumIdeal.Gen.frame m ρ,
    fun m ρ _ => (θ_run Cert.ReferenceCumIdeal.defs _ _).mono
      (fun r h => ⟨fun c => (h c).2.2, Idealize.ShloMosaic.sem_eq_zero_of_no_sems (by decide) r.2⟩)
      (Cert.ReferenceCumIdeal.Value.run (F := Ideal) m ρ),
    fun m ρ _ => Cert.KernelPrep.Gen.frame m ρ,
    fun m ρ _ => Cert.KernelPrepIdeal.Gen.frame m ρ,
    fun m ρ _ => (θ_run Cert.ReferencePrepIdeal.defs _ _).mono
      (fun r h => ⟨fun c => (h c).2.2.2, Idealize.ShloMosaic.sem_eq_zero_of_no_sems (by decide) r.2⟩)
      (Cert.ReferencePrepIdeal.Value.run (F := Ideal) m ρ),
    fun m ρ _ => Cert.KernelRope.Gen.frame m ρ,
    fun m ρ _ => Cert.KernelRopeIdeal.Gen.frame m ρ,
    fun m ρ _ => (θ_run Cert.ReferenceRopeIdeal.defs _ _).mono
      (fun r h => ⟨fun c => (h c).2.2.2.2.2.2, Idealize.ShloMosaic.sem_eq_zero_of_no_sems (by decide) r.2⟩)
      (Cert.ReferenceRopeIdeal.Value.run (F := Ideal) m ρ),
    ⟨IdealRules.named_const.statement Cert.KernelIdeal.κ "log2e" .f32 0x3FB8AA3B#32 (((Real.log 2)⁻¹ : ℝ) : EReal) rfl,
      IdealRules.named_const.statement Cert.KernelIdeal.κ "scale_log2e" .f32 0x3E0293EE#32
        (((Real.sqrt 128)⁻¹ * (Real.log 2)⁻¹ : ℝ) : EReal) rfl⟩,
    haveI := Fox.preSides; Fox.algebraic,
    trivial,
    InProj.algebraic,
    trivial,
    OutProj.algebraic,
    trivial,
    Merge.algebraic,
    trivial,
    Norm.algebraic,
    trivial,
    Last.algebraic,
    trivial,
    Conv.algebraic,
    trivial,
    Lower.algebraic,
    trivial,
    Cum.algebraic,
    trivial,
    Prep.algebraic,
    trivial,
    Rope.algebraic⟩

end Cert.Proof

end
